-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOut0 (m : (ℓ : Loc Cert.KernelOut0.nD Cert.KernelOut0.τ Cert.KernelOut0.sig) → Buf (Elt Bits) ℓ) : Prop :=
  True

def Pre_KernelOut0Ideal (m : (ℓ : Loc Cert.KernelOut0Ideal.nD Cert.KernelOut0Ideal.τ Cert.KernelOut0Ideal.sig) → Buf (Elt Ideal) ℓ) : Prop :=
  True

def Pre_ReferenceOut0Ideal (m : (ℓ : Loc Cert.ReferenceOut0Ideal.nD Cert.ReferenceOut0Ideal.τ Cert.ReferenceOut0Ideal.sig) → Buf (Elt Ideal) ℓ) : Prop :=
  True

def Pre_KernelFfn [hPre_dense : Cert.Pre_dense.Facts] (m : (ℓ : Loc Cert.KernelFfn.nD Cert.KernelFfn.τ Cert.KernelFfn.sig) → Buf (Elt Bits) ℓ) : Prop :=
  ∀ c : Dev Cert.KernelFfn.nD,
    (Cert.Pre_dense.fn (F := Bits) (m ((c.tc : Thread Cert.KernelFfn.nD Cert.KernelFfn.τ).loc Cert.KernelFfn.main_arg0)) (m ((c.tc : Thread Cert.KernelFfn.nD Cert.KernelFfn.τ).loc Cert.KernelFfn.main_arg1)) (m ((c.tc : Thread Cert.KernelFfn.nD Cert.KernelFfn.τ).loc Cert.KernelFfn.main_arg2)) (m ((c.tc : Thread Cert.KernelFfn.nD Cert.KernelFfn.τ).loc Cert.KernelFfn.main_arg3)) (m ((c.tc : Thread Cert.KernelFfn.nD Cert.KernelFfn.τ).loc Cert.KernelFfn.main_arg4)) (m ((c.tc : Thread Cert.KernelFfn.nD Cert.KernelFfn.τ).loc Cert.KernelFfn.main_arg5)) (m ((c.tc : Thread Cert.KernelFfn.nD Cert.KernelFfn.τ).loc Cert.KernelFfn.main_arg6))) = (fun _ => 1#1)

def Pre_KernelFfnIdeal [hPre_dense : Cert.Pre_dense.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_dense.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_dense [hPre_dense : Cert.Pre_dense.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_dense.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6))) = (fun _ => 1#1)

def Pre_KernelFfn2 [hPre_dense : Cert.Pre_dense.Facts] (m : (ℓ : Loc Cert.KernelFfn2.nD Cert.KernelFfn2.τ Cert.KernelFfn2.sig) → Buf (Elt Bits) ℓ) : Prop :=
  ∀ c : Dev Cert.KernelFfn2.nD,
    (Cert.Pre_dense.fn (F := Bits) (m ((c.tc : Thread Cert.KernelFfn2.nD Cert.KernelFfn2.τ).loc Cert.KernelFfn2.main_arg0)) (m ((c.tc : Thread Cert.KernelFfn2.nD Cert.KernelFfn2.τ).loc Cert.KernelFfn2.main_arg1)) (m ((c.tc : Thread Cert.KernelFfn2.nD Cert.KernelFfn2.τ).loc Cert.KernelFfn2.main_arg2)) (m ((c.tc : Thread Cert.KernelFfn2.nD Cert.KernelFfn2.τ).loc Cert.KernelFfn2.main_arg3)) (m ((c.tc : Thread Cert.KernelFfn2.nD Cert.KernelFfn2.τ).loc Cert.KernelFfn2.main_arg4)) (m ((c.tc : Thread Cert.KernelFfn2.nD Cert.KernelFfn2.τ).loc Cert.KernelFfn2.main_arg5)) (m ((c.tc : Thread Cert.KernelFfn2.nD Cert.KernelFfn2.τ).loc Cert.KernelFfn2.main_arg6))) = (fun _ => 1#1)

def Pre_KernelFfn2Ideal [hPre_dense : Cert.Pre_dense.Facts] (m : (ℓ : Loc Cert.KernelFfn2Ideal.nD Cert.KernelFfn2Ideal.τ Cert.KernelFfn2Ideal.sig) → Buf (Elt Ideal) ℓ) : Prop :=
  ∀ c : Dev Cert.KernelFfn2Ideal.nD,
    (Cert.Pre_dense.fn (F := Ideal) (m ((c.tc : Thread Cert.KernelFfn2Ideal.nD Cert.KernelFfn2Ideal.τ).loc Cert.KernelFfn2Ideal.main_arg0)) (m ((c.tc : Thread Cert.KernelFfn2Ideal.nD Cert.KernelFfn2Ideal.τ).loc Cert.KernelFfn2Ideal.main_arg1)) (m ((c.tc : Thread Cert.KernelFfn2Ideal.nD Cert.KernelFfn2Ideal.τ).loc Cert.KernelFfn2Ideal.main_arg2)) (m ((c.tc : Thread Cert.KernelFfn2Ideal.nD Cert.KernelFfn2Ideal.τ).loc Cert.KernelFfn2Ideal.main_arg3)) (m ((c.tc : Thread Cert.KernelFfn2Ideal.nD Cert.KernelFfn2Ideal.τ).loc Cert.KernelFfn2Ideal.main_arg4)) (m ((c.tc : Thread Cert.KernelFfn2Ideal.nD Cert.KernelFfn2Ideal.τ).loc Cert.KernelFfn2Ideal.main_arg5)) (m ((c.tc : Thread Cert.KernelFfn2Ideal.nD Cert.KernelFfn2Ideal.τ).loc Cert.KernelFfn2Ideal.main_arg6))) = (fun _ => 1#1)

def Pre_ReferenceFfn2Ideal (m : (ℓ : Loc Cert.ReferenceFfn2Ideal.nD Cert.ReferenceFfn2Ideal.τ Cert.ReferenceFfn2Ideal.sig) → Buf (Elt Ideal) ℓ) : Prop :=
  True

def Pre_ReferenceFfn2Ideal_dense [hPre_dense : Cert.Pre_dense.Facts] (m : (ℓ : Loc Cert.ReferenceFfn2Ideal.nD Cert.ReferenceFfn2Ideal.τ Cert.ReferenceFfn2Ideal.sig) → Buf (Elt Ideal) ℓ) : Prop :=
  ∀ c : Dev Cert.ReferenceFfn2Ideal.nD,
    (Cert.Pre_dense.fn (F := Ideal) (m ((c.tc : Thread Cert.ReferenceFfn2Ideal.nD Cert.ReferenceFfn2Ideal.τ).loc Cert.ReferenceFfn2Ideal.main_arg0)) (m ((c.tc : Thread Cert.ReferenceFfn2Ideal.nD Cert.ReferenceFfn2Ideal.τ).loc Cert.ReferenceFfn2Ideal.main_arg1)) (m ((c.tc : Thread Cert.ReferenceFfn2Ideal.nD Cert.ReferenceFfn2Ideal.τ).loc Cert.ReferenceFfn2Ideal.main_arg2)) (m ((c.tc : Thread Cert.ReferenceFfn2Ideal.nD Cert.ReferenceFfn2Ideal.τ).loc Cert.ReferenceFfn2Ideal.main_arg3)) (m ((c.tc : Thread Cert.ReferenceFfn2Ideal.nD Cert.ReferenceFfn2Ideal.τ).loc Cert.ReferenceFfn2Ideal.main_arg4)) (m ((c.tc : Thread Cert.ReferenceFfn2Ideal.nD Cert.ReferenceFfn2Ideal.τ).loc Cert.ReferenceFfn2Ideal.main_arg5)) (m ((c.tc : Thread Cert.ReferenceFfn2Ideal.nD Cert.ReferenceFfn2Ideal.τ).loc Cert.ReferenceFfn2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelOut0 [hKernelOut0 : Cert.KernelOut0.Facts] : Prop :=
  ∀ (m : (ℓ : Loc Cert.KernelOut0.nD Cert.KernelOut0.τ Cert.KernelOut0.sig) → Buf (Elt Bits) ℓ) (g : Dev Cert.KernelOut0.nD → PrngReg), Pre_KernelOut0 m →
    θ_run (Cert.KernelOut0.defs (F := Bits)) (onTc (τ := Cert.KernelOut0.τ) (Cert.KernelOut0.main (F := Bits))) ⟨m, fun _ => 0, g⟩ (fun r => (∀ c : Dev Cert.KernelOut0.nD,
      r.2.mem ((c.tc : Thread Cert.KernelOut0.nD Cert.KernelOut0.τ).loc Cert.KernelOut0.main_arg0) = m ((c.tc : Thread Cert.KernelOut0.nD Cert.KernelOut0.τ).loc Cert.KernelOut0.main_arg0)
      ∧ r.2.mem ((c.tc : Thread Cert.KernelOut0.nD Cert.KernelOut0.τ).loc Cert.KernelOut0.main_arg1) = m ((c.tc : Thread Cert.KernelOut0.nD Cert.KernelOut0.τ).loc Cert.KernelOut0.main_arg1)
      ∧ r.2.mem ((c.tc : Thread Cert.KernelOut0.nD Cert.KernelOut0.τ).loc Cert.KernelOut0.main_arg2) = m ((c.tc : Thread Cert.KernelOut0.nD Cert.KernelOut0.τ).loc Cert.KernelOut0.main_arg2)
      ∧ r.2.mem ((c.tc : Thread Cert.KernelOut0.nD Cert.KernelOut0.τ).loc Cert.KernelOut0.main_arg3) = m ((c.tc : Thread Cert.KernelOut0.nD Cert.KernelOut0.τ).loc Cert.KernelOut0.main_arg3)
      ∧ r.2.mem ((c.tc : Thread Cert.KernelOut0.nD Cert.KernelOut0.τ).loc Cert.KernelOut0.main_arg4) = m ((c.tc : Thread Cert.KernelOut0.nD Cert.KernelOut0.τ).loc Cert.KernelOut0.main_arg4))
      ∧ r.2.sem = fun _ => 0)

def quiescent_KernelOut0Ideal [hKernelOut0Ideal : Cert.KernelOut0Ideal.Facts] : Prop :=
  ∀ (m : (ℓ : Loc Cert.KernelOut0Ideal.nD Cert.KernelOut0Ideal.τ Cert.KernelOut0Ideal.sig) → Buf (Elt Ideal) ℓ) (g : Dev Cert.KernelOut0Ideal.nD → PrngReg), Pre_KernelOut0Ideal m →
    θ_run (Cert.KernelOut0Ideal.defs (F := Ideal)) (onTc (τ := Cert.KernelOut0Ideal.τ) (Cert.KernelOut0Ideal.main (F := Ideal))) ⟨m, fun _ => 0, g⟩ (fun r => (∀ c : Dev Cert.KernelOut0Ideal.nD,
      r.2.mem ((c.tc : Thread Cert.KernelOut0Ideal.nD Cert.KernelOut0Ideal.τ).loc Cert.KernelOut0Ideal.main_arg0) = m ((c.tc : Thread Cert.KernelOut0Ideal.nD Cert.KernelOut0Ideal.τ).loc Cert.KernelOut0Ideal.main_arg0)
      ∧ r.2.mem ((c.tc : Thread Cert.KernelOut0Ideal.nD Cert.KernelOut0Ideal.τ).loc Cert.KernelOut0Ideal.main_arg1) = m ((c.tc : Thread Cert.KernelOut0Ideal.nD Cert.KernelOut0Ideal.τ).loc Cert.KernelOut0Ideal.main_arg1)
      ∧ r.2.mem ((c.tc : Thread Cert.KernelOut0Ideal.nD Cert.KernelOut0Ideal.τ).loc Cert.KernelOut0Ideal.main_arg2) = m ((c.tc : Thread Cert.KernelOut0Ideal.nD Cert.KernelOut0Ideal.τ).loc Cert.KernelOut0Ideal.main_arg2)
      ∧ r.2.mem ((c.tc : Thread Cert.KernelOut0Ideal.nD Cert.KernelOut0Ideal.τ).loc Cert.KernelOut0Ideal.main_arg3) = m ((c.tc : Thread Cert.KernelOut0Ideal.nD Cert.KernelOut0Ideal.τ).loc Cert.KernelOut0Ideal.main_arg3)
      ∧ r.2.mem ((c.tc : Thread Cert.KernelOut0Ideal.nD Cert.KernelOut0Ideal.τ).loc Cert.KernelOut0Ideal.main_arg4) = m ((c.tc : Thread Cert.KernelOut0Ideal.nD Cert.KernelOut0Ideal.τ).loc Cert.KernelOut0Ideal.main_arg4))
      ∧ r.2.sem = fun _ => 0)

def quiescent_ReferenceOut0Ideal [hReferenceOut0Ideal : Cert.ReferenceOut0Ideal.Facts] : Prop :=
  ∀ (m : (ℓ : Loc Cert.ReferenceOut0Ideal.nD Cert.ReferenceOut0Ideal.τ Cert.ReferenceOut0Ideal.sig) → Buf (Elt Ideal) ℓ) (g : Dev Cert.ReferenceOut0Ideal.nD → PrngReg), Pre_ReferenceOut0Ideal m →
    θ_run (Cert.ReferenceOut0Ideal.defs (F := Ideal)) (onTc (τ := Cert.ReferenceOut0Ideal.τ) (Cert.ReferenceOut0Ideal.main (F := Ideal))) ⟨m, fun _ => 0, g⟩ (fun r => (∀ c : Dev Cert.ReferenceOut0Ideal.nD,
      r.2.mem ((c.tc : Thread Cert.ReferenceOut0Ideal.nD Cert.ReferenceOut0Ideal.τ).loc Cert.ReferenceOut0Ideal.main_arg0) = m ((c.tc : Thread Cert.ReferenceOut0Ideal.nD Cert.ReferenceOut0Ideal.τ).loc Cert.ReferenceOut0Ideal.main_arg0)
      ∧ r.2.mem ((c.tc : Thread Cert.ReferenceOut0Ideal.nD Cert.ReferenceOut0Ideal.τ).loc Cert.ReferenceOut0Ideal.main_arg1) = m ((c.tc : Thread Cert.ReferenceOut0Ideal.nD Cert.ReferenceOut0Ideal.τ).loc Cert.ReferenceOut0Ideal.main_arg1)
      ∧ r.2.mem ((c.tc : Thread Cert.ReferenceOut0Ideal.nD Cert.ReferenceOut0Ideal.τ).loc Cert.ReferenceOut0Ideal.main_arg2) = m ((c.tc : Thread Cert.ReferenceOut0Ideal.nD Cert.ReferenceOut0Ideal.τ).loc Cert.ReferenceOut0Ideal.main_arg2)
      ∧ r.2.mem ((c.tc : Thread Cert.ReferenceOut0Ideal.nD Cert.ReferenceOut0Ideal.τ).loc Cert.ReferenceOut0Ideal.main_arg3) = m ((c.tc : Thread Cert.ReferenceOut0Ideal.nD Cert.ReferenceOut0Ideal.τ).loc Cert.ReferenceOut0Ideal.main_arg3)
      ∧ r.2.mem ((c.tc : Thread Cert.ReferenceOut0Ideal.nD Cert.ReferenceOut0Ideal.τ).loc Cert.ReferenceOut0Ideal.main_arg4) = m ((c.tc : Thread Cert.ReferenceOut0Ideal.nD Cert.ReferenceOut0Ideal.τ).loc Cert.ReferenceOut0Ideal.main_arg4))
      ∧ r.2.sem = fun _ => 0)

def quiescent_KernelFfn [hKernelFfn : Cert.KernelFfn.Facts] [hPre_dense : Cert.Pre_dense.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] [hPre_dense : Cert.Pre_dense.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_ReferenceFfnIdeal_pre_dense [hReferenceFfnIdeal : Cert.ReferenceFfnIdeal.Facts] [hPre_dense : Cert.Pre_dense.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_dense m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelFfn2 [hKernelFfn2 : Cert.KernelFfn2.Facts] [hPre_dense : Cert.Pre_dense.Facts] : Prop :=
  ∀ (m : (ℓ : Loc Cert.KernelFfn2.nD Cert.KernelFfn2.τ Cert.KernelFfn2.sig) → Buf (Elt Bits) ℓ) (g : Dev Cert.KernelFfn2.nD → PrngReg), Pre_KernelFfn2 m →
    θ_run (Cert.KernelFfn2.defs (F := Bits)) (onTc (τ := Cert.KernelFfn2.τ) (Cert.KernelFfn2.main (F := Bits))) ⟨m, fun _ => 0, g⟩ (fun r => (∀ c : Dev Cert.KernelFfn2.nD,
      r.2.mem ((c.tc : Thread Cert.KernelFfn2.nD Cert.KernelFfn2.τ).loc Cert.KernelFfn2.main_arg0) = m ((c.tc : Thread Cert.KernelFfn2.nD Cert.KernelFfn2.τ).loc Cert.KernelFfn2.main_arg0)
      ∧ r.2.mem ((c.tc : Thread Cert.KernelFfn2.nD Cert.KernelFfn2.τ).loc Cert.KernelFfn2.main_arg1) = m ((c.tc : Thread Cert.KernelFfn2.nD Cert.KernelFfn2.τ).loc Cert.KernelFfn2.main_arg1)
      ∧ r.2.mem ((c.tc : Thread Cert.KernelFfn2.nD Cert.KernelFfn2.τ).loc Cert.KernelFfn2.main_arg2) = m ((c.tc : Thread Cert.KernelFfn2.nD Cert.KernelFfn2.τ).loc Cert.KernelFfn2.main_arg2)
      ∧ r.2.mem ((c.tc : Thread Cert.KernelFfn2.nD Cert.KernelFfn2.τ).loc Cert.KernelFfn2.main_arg3) = m ((c.tc : Thread Cert.KernelFfn2.nD Cert.KernelFfn2.τ).loc Cert.KernelFfn2.main_arg3)
      ∧ r.2.mem ((c.tc : Thread Cert.KernelFfn2.nD Cert.KernelFfn2.τ).loc Cert.KernelFfn2.main_arg4) = m ((c.tc : Thread Cert.KernelFfn2.nD Cert.KernelFfn2.τ).loc Cert.KernelFfn2.main_arg4)
      ∧ r.2.mem ((c.tc : Thread Cert.KernelFfn2.nD Cert.KernelFfn2.τ).loc Cert.KernelFfn2.main_arg5) = m ((c.tc : Thread Cert.KernelFfn2.nD Cert.KernelFfn2.τ).loc Cert.KernelFfn2.main_arg5)
      ∧ r.2.mem ((c.tc : Thread Cert.KernelFfn2.nD Cert.KernelFfn2.τ).loc Cert.KernelFfn2.main_arg6) = m ((c.tc : Thread Cert.KernelFfn2.nD Cert.KernelFfn2.τ).loc Cert.KernelFfn2.main_arg6))
      ∧ r.2.sem = fun _ => 0)

def quiescent_KernelFfn2Ideal [hKernelFfn2Ideal : Cert.KernelFfn2Ideal.Facts] [hPre_dense : Cert.Pre_dense.Facts] : Prop :=
  ∀ (m : (ℓ : Loc Cert.KernelFfn2Ideal.nD Cert.KernelFfn2Ideal.τ Cert.KernelFfn2Ideal.sig) → Buf (Elt Ideal) ℓ) (g : Dev Cert.KernelFfn2Ideal.nD → PrngReg), Pre_KernelFfn2Ideal m →
    θ_run (Cert.KernelFfn2Ideal.defs (F := Ideal)) (onTc (τ := Cert.KernelFfn2Ideal.τ) (Cert.KernelFfn2Ideal.main (F := Ideal))) ⟨m, fun _ => 0, g⟩ (fun r => (∀ c : Dev Cert.KernelFfn2Ideal.nD,
      r.2.mem ((c.tc : Thread Cert.KernelFfn2Ideal.nD Cert.KernelFfn2Ideal.τ).loc Cert.KernelFfn2Ideal.main_arg0) = m ((c.tc : Thread Cert.KernelFfn2Ideal.nD Cert.KernelFfn2Ideal.τ).loc Cert.KernelFfn2Ideal.main_arg0)
      ∧ r.2.mem ((c.tc : Thread Cert.KernelFfn2Ideal.nD Cert.KernelFfn2Ideal.τ).loc Cert.KernelFfn2Ideal.main_arg1) = m ((c.tc : Thread Cert.KernelFfn2Ideal.nD Cert.KernelFfn2Ideal.τ).loc Cert.KernelFfn2Ideal.main_arg1)
      ∧ r.2.mem ((c.tc : Thread Cert.KernelFfn2Ideal.nD Cert.KernelFfn2Ideal.τ).loc Cert.KernelFfn2Ideal.main_arg2) = m ((c.tc : Thread Cert.KernelFfn2Ideal.nD Cert.KernelFfn2Ideal.τ).loc Cert.KernelFfn2Ideal.main_arg2)
      ∧ r.2.mem ((c.tc : Thread Cert.KernelFfn2Ideal.nD Cert.KernelFfn2Ideal.τ).loc Cert.KernelFfn2Ideal.main_arg3) = m ((c.tc : Thread Cert.KernelFfn2Ideal.nD Cert.KernelFfn2Ideal.τ).loc Cert.KernelFfn2Ideal.main_arg3)
      ∧ r.2.mem ((c.tc : Thread Cert.KernelFfn2Ideal.nD Cert.KernelFfn2Ideal.τ).loc Cert.KernelFfn2Ideal.main_arg4) = m ((c.tc : Thread Cert.KernelFfn2Ideal.nD Cert.KernelFfn2Ideal.τ).loc Cert.KernelFfn2Ideal.main_arg4)
      ∧ r.2.mem ((c.tc : Thread Cert.KernelFfn2Ideal.nD Cert.KernelFfn2Ideal.τ).loc Cert.KernelFfn2Ideal.main_arg5) = m ((c.tc : Thread Cert.KernelFfn2Ideal.nD Cert.KernelFfn2Ideal.τ).loc Cert.KernelFfn2Ideal.main_arg5)
      ∧ r.2.mem ((c.tc : Thread Cert.KernelFfn2Ideal.nD Cert.KernelFfn2Ideal.τ).loc Cert.KernelFfn2Ideal.main_arg6) = m ((c.tc : Thread Cert.KernelFfn2Ideal.nD Cert.KernelFfn2Ideal.τ).loc Cert.KernelFfn2Ideal.main_arg6))
      ∧ r.2.sem = fun _ => 0)

def quiescent_ReferenceFfn2Ideal [hReferenceFfn2Ideal : Cert.ReferenceFfn2Ideal.Facts] : Prop :=
  ∀ (m : (ℓ : Loc Cert.ReferenceFfn2Ideal.nD Cert.ReferenceFfn2Ideal.τ Cert.ReferenceFfn2Ideal.sig) → Buf (Elt Ideal) ℓ) (g : Dev Cert.ReferenceFfn2Ideal.nD → PrngReg), Pre_ReferenceFfn2Ideal m →
    θ_run (Cert.ReferenceFfn2Ideal.defs (F := Ideal)) (onTc (τ := Cert.ReferenceFfn2Ideal.τ) (Cert.ReferenceFfn2Ideal.main (F := Ideal))) ⟨m, fun _ => 0, g⟩ (fun r => (∀ c : Dev Cert.ReferenceFfn2Ideal.nD,
      r.2.mem ((c.tc : Thread Cert.ReferenceFfn2Ideal.nD Cert.ReferenceFfn2Ideal.τ).loc Cert.ReferenceFfn2Ideal.main_arg0) = m ((c.tc : Thread Cert.ReferenceFfn2Ideal.nD Cert.ReferenceFfn2Ideal.τ).loc Cert.ReferenceFfn2Ideal.main_arg0)
      ∧ r.2.mem ((c.tc : Thread Cert.ReferenceFfn2Ideal.nD Cert.ReferenceFfn2Ideal.τ).loc Cert.ReferenceFfn2Ideal.main_arg1) = m ((c.tc : Thread Cert.ReferenceFfn2Ideal.nD Cert.ReferenceFfn2Ideal.τ).loc Cert.ReferenceFfn2Ideal.main_arg1)
      ∧ r.2.mem ((c.tc : Thread Cert.ReferenceFfn2Ideal.nD Cert.ReferenceFfn2Ideal.τ).loc Cert.ReferenceFfn2Ideal.main_arg2) = m ((c.tc : Thread Cert.ReferenceFfn2Ideal.nD Cert.ReferenceFfn2Ideal.τ).loc Cert.ReferenceFfn2Ideal.main_arg2)
      ∧ r.2.mem ((c.tc : Thread Cert.ReferenceFfn2Ideal.nD Cert.ReferenceFfn2Ideal.τ).loc Cert.ReferenceFfn2Ideal.main_arg3) = m ((c.tc : Thread Cert.ReferenceFfn2Ideal.nD Cert.ReferenceFfn2Ideal.τ).loc Cert.ReferenceFfn2Ideal.main_arg3)
      ∧ r.2.mem ((c.tc : Thread Cert.ReferenceFfn2Ideal.nD Cert.ReferenceFfn2Ideal.τ).loc Cert.ReferenceFfn2Ideal.main_arg4) = m ((c.tc : Thread Cert.ReferenceFfn2Ideal.nD Cert.ReferenceFfn2Ideal.τ).loc Cert.ReferenceFfn2Ideal.main_arg4)
      ∧ r.2.mem ((c.tc : Thread Cert.ReferenceFfn2Ideal.nD Cert.ReferenceFfn2Ideal.τ).loc Cert.ReferenceFfn2Ideal.main_arg5) = m ((c.tc : Thread Cert.ReferenceFfn2Ideal.nD Cert.ReferenceFfn2Ideal.τ).loc Cert.ReferenceFfn2Ideal.main_arg5)
      ∧ r.2.mem ((c.tc : Thread Cert.ReferenceFfn2Ideal.nD Cert.ReferenceFfn2Ideal.τ).loc Cert.ReferenceFfn2Ideal.main_arg6) = m ((c.tc : Thread Cert.ReferenceFfn2Ideal.nD Cert.ReferenceFfn2Ideal.τ).loc Cert.ReferenceFfn2Ideal.main_arg6))
      ∧ r.2.sem = fun _ => 0)

def quiescent_ReferenceFfn2Ideal_pre_dense [hReferenceFfn2Ideal : Cert.ReferenceFfn2Ideal.Facts] [hPre_dense : Cert.Pre_dense.Facts] : Prop :=
  ∀ (m : (ℓ : Loc Cert.ReferenceFfn2Ideal.nD Cert.ReferenceFfn2Ideal.τ Cert.ReferenceFfn2Ideal.sig) → Buf (Elt Ideal) ℓ) (g : Dev Cert.ReferenceFfn2Ideal.nD → PrngReg), Pre_ReferenceFfn2Ideal_dense m →
    θ_run (Cert.ReferenceFfn2Ideal.defs (F := Ideal)) (onTc (τ := Cert.ReferenceFfn2Ideal.τ) (Cert.ReferenceFfn2Ideal.main (F := Ideal))) ⟨m, fun _ => 0, g⟩ (fun r => (∀ c : Dev Cert.ReferenceFfn2Ideal.nD,
      r.2.mem ((c.tc : Thread Cert.ReferenceFfn2Ideal.nD Cert.ReferenceFfn2Ideal.τ).loc Cert.ReferenceFfn2Ideal.main_arg0) = m ((c.tc : Thread Cert.ReferenceFfn2Ideal.nD Cert.ReferenceFfn2Ideal.τ).loc Cert.ReferenceFfn2Ideal.main_arg0)
      ∧ r.2.mem ((c.tc : Thread Cert.ReferenceFfn2Ideal.nD Cert.ReferenceFfn2Ideal.τ).loc Cert.ReferenceFfn2Ideal.main_arg1) = m ((c.tc : Thread Cert.ReferenceFfn2Ideal.nD Cert.ReferenceFfn2Ideal.τ).loc Cert.ReferenceFfn2Ideal.main_arg1)
      ∧ r.2.mem ((c.tc : Thread Cert.ReferenceFfn2Ideal.nD Cert.ReferenceFfn2Ideal.τ).loc Cert.ReferenceFfn2Ideal.main_arg2) = m ((c.tc : Thread Cert.ReferenceFfn2Ideal.nD Cert.ReferenceFfn2Ideal.τ).loc Cert.ReferenceFfn2Ideal.main_arg2)
      ∧ r.2.mem ((c.tc : Thread Cert.ReferenceFfn2Ideal.nD Cert.ReferenceFfn2Ideal.τ).loc Cert.ReferenceFfn2Ideal.main_arg3) = m ((c.tc : Thread Cert.ReferenceFfn2Ideal.nD Cert.ReferenceFfn2Ideal.τ).loc Cert.ReferenceFfn2Ideal.main_arg3)
      ∧ r.2.mem ((c.tc : Thread Cert.ReferenceFfn2Ideal.nD Cert.ReferenceFfn2Ideal.τ).loc Cert.ReferenceFfn2Ideal.main_arg4) = m ((c.tc : Thread Cert.ReferenceFfn2Ideal.nD Cert.ReferenceFfn2Ideal.τ).loc Cert.ReferenceFfn2Ideal.main_arg4)
      ∧ r.2.mem ((c.tc : Thread Cert.ReferenceFfn2Ideal.nD Cert.ReferenceFfn2Ideal.τ).loc Cert.ReferenceFfn2Ideal.main_arg5) = m ((c.tc : Thread Cert.ReferenceFfn2Ideal.nD Cert.ReferenceFfn2Ideal.τ).loc Cert.ReferenceFfn2Ideal.main_arg5)
      ∧ r.2.mem ((c.tc : Thread Cert.ReferenceFfn2Ideal.nD Cert.ReferenceFfn2Ideal.τ).loc Cert.ReferenceFfn2Ideal.main_arg6) = m ((c.tc : Thread Cert.ReferenceFfn2Ideal.nD Cert.ReferenceFfn2Ideal.τ).loc Cert.ReferenceFfn2Ideal.main_arg6))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelOut0_KernelOut0Ideal : Prop :=
  True

def algebraic_KernelOut0Ideal_ReferenceOut0Ideal [hKernelOut0Ideal : Cert.KernelOut0Ideal.Facts] [hReferenceOut0Ideal : Cert.ReferenceOut0Ideal.Facts] : Prop :=
  ∀ (m : (ℓ : Loc Cert.KernelOut0Ideal.nD Cert.KernelOut0Ideal.τ Cert.KernelOut0Ideal.sig) → Buf (Elt Ideal) ℓ) (g : Dev Cert.KernelOut0Ideal.nD → PrngReg)
    (m' : (ℓ : Loc Cert.ReferenceOut0Ideal.nD Cert.ReferenceOut0Ideal.τ Cert.ReferenceOut0Ideal.sig) → Buf (Elt Ideal) ℓ) (g' : Dev Cert.ReferenceOut0Ideal.nD → PrngReg), Pre_KernelOut0Ideal m →
    (∀ c : Dev Cert.KernelOut0Ideal.nD,
      m' ((c.tc : Thread Cert.ReferenceOut0Ideal.nD Cert.ReferenceOut0Ideal.τ).loc Cert.ReferenceOut0Ideal.main_arg0) = m ((c.tc : Thread Cert.KernelOut0Ideal.nD Cert.KernelOut0Ideal.τ).loc Cert.KernelOut0Ideal.main_arg0)
      ∧ m' ((c.tc : Thread Cert.ReferenceOut0Ideal.nD Cert.ReferenceOut0Ideal.τ).loc Cert.ReferenceOut0Ideal.main_arg1) = m ((c.tc : Thread Cert.KernelOut0Ideal.nD Cert.KernelOut0Ideal.τ).loc Cert.KernelOut0Ideal.main_arg1)
      ∧ m' ((c.tc : Thread Cert.ReferenceOut0Ideal.nD Cert.ReferenceOut0Ideal.τ).loc Cert.ReferenceOut0Ideal.main_arg2) = m ((c.tc : Thread Cert.KernelOut0Ideal.nD Cert.KernelOut0Ideal.τ).loc Cert.KernelOut0Ideal.main_arg2)
      ∧ m' ((c.tc : Thread Cert.ReferenceOut0Ideal.nD Cert.ReferenceOut0Ideal.τ).loc Cert.ReferenceOut0Ideal.main_arg3) = m ((c.tc : Thread Cert.KernelOut0Ideal.nD Cert.KernelOut0Ideal.τ).loc Cert.KernelOut0Ideal.main_arg3)
      ∧ m' ((c.tc : Thread Cert.ReferenceOut0Ideal.nD Cert.ReferenceOut0Ideal.τ).loc Cert.ReferenceOut0Ideal.main_arg4) = m ((c.tc : Thread Cert.KernelOut0Ideal.nD Cert.KernelOut0Ideal.τ).loc Cert.KernelOut0Ideal.main_arg4)) →
    ∃ (v0 : (c : Dev Cert.KernelOut0Ideal.nD) → Buf (Elt Ideal) ((c.tc : Thread Cert.KernelOut0Ideal.nD Cert.KernelOut0Ideal.τ).loc Cert.KernelOut0Ideal.main_v3)),
      θ_run (Cert.KernelOut0Ideal.defs (F := Ideal)) (onTc (τ := Cert.KernelOut0Ideal.τ) (Cert.KernelOut0Ideal.main (F := Ideal))) ⟨m, fun _ => 0, g⟩ (fun r => ∀ c : Dev Cert.KernelOut0Ideal.nD,
          r.2.mem ((c.tc : Thread Cert.KernelOut0Ideal.nD Cert.KernelOut0Ideal.τ).loc Cert.KernelOut0Ideal.main_v3) = v0 c
          ∧ r.2.mem ((c.tc : Thread Cert.KernelOut0Ideal.nD Cert.KernelOut0Ideal.τ).loc Cert.KernelOut0Ideal.main_arg0) = m ((c.tc : Thread Cert.KernelOut0Ideal.nD Cert.KernelOut0Ideal.τ).loc Cert.KernelOut0Ideal.main_arg0)
          ∧ r.2.mem ((c.tc : Thread Cert.KernelOut0Ideal.nD Cert.KernelOut0Ideal.τ).loc Cert.KernelOut0Ideal.main_arg1) = m ((c.tc : Thread Cert.KernelOut0Ideal.nD Cert.KernelOut0Ideal.τ).loc Cert.KernelOut0Ideal.main_arg1)
          ∧ r.2.mem ((c.tc : Thread Cert.KernelOut0Ideal.nD Cert.KernelOut0Ideal.τ).loc Cert.KernelOut0Ideal.main_arg2) = m ((c.tc : Thread Cert.KernelOut0Ideal.nD Cert.KernelOut0Ideal.τ).loc Cert.KernelOut0Ideal.main_arg2)
          ∧ r.2.mem ((c.tc : Thread Cert.KernelOut0Ideal.nD Cert.KernelOut0Ideal.τ).loc Cert.KernelOut0Ideal.main_arg3) = m ((c.tc : Thread Cert.KernelOut0Ideal.nD Cert.KernelOut0Ideal.τ).loc Cert.KernelOut0Ideal.main_arg3)
          ∧ r.2.mem ((c.tc : Thread Cert.KernelOut0Ideal.nD Cert.KernelOut0Ideal.τ).loc Cert.KernelOut0Ideal.main_arg4) = m ((c.tc : Thread Cert.KernelOut0Ideal.nD Cert.KernelOut0Ideal.τ).loc Cert.KernelOut0Ideal.main_arg4))
      ∧ θ_run (Cert.ReferenceOut0Ideal.defs (F := Ideal)) (onTc (τ := Cert.ReferenceOut0Ideal.τ) (Cert.ReferenceOut0Ideal.main (F := Ideal))) ⟨m', fun _ => 0, g'⟩ (fun r => ∀ c : Dev Cert.ReferenceOut0Ideal.nD,
          r.2.mem ((c.tc : Thread Cert.ReferenceOut0Ideal.nD Cert.ReferenceOut0Ideal.τ).loc Cert.ReferenceOut0Ideal.main_v3) = v0 c
          ∧ r.2.mem ((c.tc : Thread Cert.ReferenceOut0Ideal.nD Cert.ReferenceOut0Ideal.τ).loc Cert.ReferenceOut0Ideal.main_arg0) = m' ((c.tc : Thread Cert.ReferenceOut0Ideal.nD Cert.ReferenceOut0Ideal.τ).loc Cert.ReferenceOut0Ideal.main_arg0)
          ∧ r.2.mem ((c.tc : Thread Cert.ReferenceOut0Ideal.nD Cert.ReferenceOut0Ideal.τ).loc Cert.ReferenceOut0Ideal.main_arg1) = m' ((c.tc : Thread Cert.ReferenceOut0Ideal.nD Cert.ReferenceOut0Ideal.τ).loc Cert.ReferenceOut0Ideal.main_arg1)
          ∧ r.2.mem ((c.tc : Thread Cert.ReferenceOut0Ideal.nD Cert.ReferenceOut0Ideal.τ).loc Cert.ReferenceOut0Ideal.main_arg2) = m' ((c.tc : Thread Cert.ReferenceOut0Ideal.nD Cert.ReferenceOut0Ideal.τ).loc Cert.ReferenceOut0Ideal.main_arg2)
          ∧ r.2.mem ((c.tc : Thread Cert.ReferenceOut0Ideal.nD Cert.ReferenceOut0Ideal.τ).loc Cert.ReferenceOut0Ideal.main_arg3) = m' ((c.tc : Thread Cert.ReferenceOut0Ideal.nD Cert.ReferenceOut0Ideal.τ).loc Cert.ReferenceOut0Ideal.main_arg3)
          ∧ r.2.mem ((c.tc : Thread Cert.ReferenceOut0Ideal.nD Cert.ReferenceOut0Ideal.τ).loc Cert.ReferenceOut0Ideal.main_arg4) = m' ((c.tc : Thread Cert.ReferenceOut0Ideal.nD Cert.ReferenceOut0Ideal.τ).loc Cert.ReferenceOut0Ideal.main_arg4))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] [hPre_dense : Cert.Pre_dense.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v0)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v26) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelFfn2_KernelFfn2Ideal : Prop :=
  True

def algebraic_KernelFfn2Ideal_ReferenceFfn2Ideal [hKernelFfn2Ideal : Cert.KernelFfn2Ideal.Facts] [hReferenceFfn2Ideal : Cert.ReferenceFfn2Ideal.Facts] [hPre_dense : Cert.Pre_dense.Facts] : Prop :=
  ∀ (m : (ℓ : Loc Cert.KernelFfn2Ideal.nD Cert.KernelFfn2Ideal.τ Cert.KernelFfn2Ideal.sig) → Buf (Elt Ideal) ℓ) (g : Dev Cert.KernelFfn2Ideal.nD → PrngReg)
    (m' : (ℓ : Loc Cert.ReferenceFfn2Ideal.nD Cert.ReferenceFfn2Ideal.τ Cert.ReferenceFfn2Ideal.sig) → Buf (Elt Ideal) ℓ) (g' : Dev Cert.ReferenceFfn2Ideal.nD → PrngReg), Pre_KernelFfn2Ideal m →
    (∀ c : Dev Cert.KernelFfn2Ideal.nD,
      m' ((c.tc : Thread Cert.ReferenceFfn2Ideal.nD Cert.ReferenceFfn2Ideal.τ).loc Cert.ReferenceFfn2Ideal.main_arg0) = m ((c.tc : Thread Cert.KernelFfn2Ideal.nD Cert.KernelFfn2Ideal.τ).loc Cert.KernelFfn2Ideal.main_arg0)
      ∧ m' ((c.tc : Thread Cert.ReferenceFfn2Ideal.nD Cert.ReferenceFfn2Ideal.τ).loc Cert.ReferenceFfn2Ideal.main_arg1) = m ((c.tc : Thread Cert.KernelFfn2Ideal.nD Cert.KernelFfn2Ideal.τ).loc Cert.KernelFfn2Ideal.main_arg1)
      ∧ m' ((c.tc : Thread Cert.ReferenceFfn2Ideal.nD Cert.ReferenceFfn2Ideal.τ).loc Cert.ReferenceFfn2Ideal.main_arg2) = m ((c.tc : Thread Cert.KernelFfn2Ideal.nD Cert.KernelFfn2Ideal.τ).loc Cert.KernelFfn2Ideal.main_arg2)
      ∧ m' ((c.tc : Thread Cert.ReferenceFfn2Ideal.nD Cert.ReferenceFfn2Ideal.τ).loc Cert.ReferenceFfn2Ideal.main_arg3) = m ((c.tc : Thread Cert.KernelFfn2Ideal.nD Cert.KernelFfn2Ideal.τ).loc Cert.KernelFfn2Ideal.main_arg3)
      ∧ m' ((c.tc : Thread Cert.ReferenceFfn2Ideal.nD Cert.ReferenceFfn2Ideal.τ).loc Cert.ReferenceFfn2Ideal.main_arg4) = m ((c.tc : Thread Cert.KernelFfn2Ideal.nD Cert.KernelFfn2Ideal.τ).loc Cert.KernelFfn2Ideal.main_arg4)
      ∧ m' ((c.tc : Thread Cert.ReferenceFfn2Ideal.nD Cert.ReferenceFfn2Ideal.τ).loc Cert.ReferenceFfn2Ideal.main_arg5) = m ((c.tc : Thread Cert.KernelFfn2Ideal.nD Cert.KernelFfn2Ideal.τ).loc Cert.KernelFfn2Ideal.main_arg5)
      ∧ m' ((c.tc : Thread Cert.ReferenceFfn2Ideal.nD Cert.ReferenceFfn2Ideal.τ).loc Cert.ReferenceFfn2Ideal.main_arg6) = m ((c.tc : Thread Cert.KernelFfn2Ideal.nD Cert.KernelFfn2Ideal.τ).loc Cert.KernelFfn2Ideal.main_arg6)) →
    ∃ (v0 : (c : Dev Cert.KernelFfn2Ideal.nD) → Buf (Elt Ideal) ((c.tc : Thread Cert.KernelFfn2Ideal.nD Cert.KernelFfn2Ideal.τ).loc Cert.KernelFfn2Ideal.main_v0)),
      θ_run (Cert.KernelFfn2Ideal.defs (F := Ideal)) (onTc (τ := Cert.KernelFfn2Ideal.τ) (Cert.KernelFfn2Ideal.main (F := Ideal))) ⟨m, fun _ => 0, g⟩ (fun r => ∀ c : Dev Cert.KernelFfn2Ideal.nD,
          r.2.mem ((c.tc : Thread Cert.KernelFfn2Ideal.nD Cert.KernelFfn2Ideal.τ).loc Cert.KernelFfn2Ideal.main_v0) = v0 c
          ∧ r.2.mem ((c.tc : Thread Cert.KernelFfn2Ideal.nD Cert.KernelFfn2Ideal.τ).loc Cert.KernelFfn2Ideal.main_arg0) = m ((c.tc : Thread Cert.KernelFfn2Ideal.nD Cert.KernelFfn2Ideal.τ).loc Cert.KernelFfn2Ideal.main_arg0)
          ∧ r.2.mem ((c.tc : Thread Cert.KernelFfn2Ideal.nD Cert.KernelFfn2Ideal.τ).loc Cert.KernelFfn2Ideal.main_arg1) = m ((c.tc : Thread Cert.KernelFfn2Ideal.nD Cert.KernelFfn2Ideal.τ).loc Cert.KernelFfn2Ideal.main_arg1)
          ∧ r.2.mem ((c.tc : Thread Cert.KernelFfn2Ideal.nD Cert.KernelFfn2Ideal.τ).loc Cert.KernelFfn2Ideal.main_arg2) = m ((c.tc : Thread Cert.KernelFfn2Ideal.nD Cert.KernelFfn2Ideal.τ).loc Cert.KernelFfn2Ideal.main_arg2)
          ∧ r.2.mem ((c.tc : Thread Cert.KernelFfn2Ideal.nD Cert.KernelFfn2Ideal.τ).loc Cert.KernelFfn2Ideal.main_arg3) = m ((c.tc : Thread Cert.KernelFfn2Ideal.nD Cert.KernelFfn2Ideal.τ).loc Cert.KernelFfn2Ideal.main_arg3)
          ∧ r.2.mem ((c.tc : Thread Cert.KernelFfn2Ideal.nD Cert.KernelFfn2Ideal.τ).loc Cert.KernelFfn2Ideal.main_arg4) = m ((c.tc : Thread Cert.KernelFfn2Ideal.nD Cert.KernelFfn2Ideal.τ).loc Cert.KernelFfn2Ideal.main_arg4)
          ∧ r.2.mem ((c.tc : Thread Cert.KernelFfn2Ideal.nD Cert.KernelFfn2Ideal.τ).loc Cert.KernelFfn2Ideal.main_arg5) = m ((c.tc : Thread Cert.KernelFfn2Ideal.nD Cert.KernelFfn2Ideal.τ).loc Cert.KernelFfn2Ideal.main_arg5)
          ∧ r.2.mem ((c.tc : Thread Cert.KernelFfn2Ideal.nD Cert.KernelFfn2Ideal.τ).loc Cert.KernelFfn2Ideal.main_arg6) = m ((c.tc : Thread Cert.KernelFfn2Ideal.nD Cert.KernelFfn2Ideal.τ).loc Cert.KernelFfn2Ideal.main_arg6))
      ∧ θ_run (Cert.ReferenceFfn2Ideal.defs (F := Ideal)) (onTc (τ := Cert.ReferenceFfn2Ideal.τ) (Cert.ReferenceFfn2Ideal.main (F := Ideal))) ⟨m', fun _ => 0, g'⟩ (fun r => ∀ c : Dev Cert.ReferenceFfn2Ideal.nD,
          r.2.mem ((c.tc : Thread Cert.ReferenceFfn2Ideal.nD Cert.ReferenceFfn2Ideal.τ).loc Cert.ReferenceFfn2Ideal.main_v26) = v0 c
          ∧ r.2.mem ((c.tc : Thread Cert.ReferenceFfn2Ideal.nD Cert.ReferenceFfn2Ideal.τ).loc Cert.ReferenceFfn2Ideal.main_arg0) = m' ((c.tc : Thread Cert.ReferenceFfn2Ideal.nD Cert.ReferenceFfn2Ideal.τ).loc Cert.ReferenceFfn2Ideal.main_arg0)
          ∧ r.2.mem ((c.tc : Thread Cert.ReferenceFfn2Ideal.nD Cert.ReferenceFfn2Ideal.τ).loc Cert.ReferenceFfn2Ideal.main_arg1) = m' ((c.tc : Thread Cert.ReferenceFfn2Ideal.nD Cert.ReferenceFfn2Ideal.τ).loc Cert.ReferenceFfn2Ideal.main_arg1)
          ∧ r.2.mem ((c.tc : Thread Cert.ReferenceFfn2Ideal.nD Cert.ReferenceFfn2Ideal.τ).loc Cert.ReferenceFfn2Ideal.main_arg2) = m' ((c.tc : Thread Cert.ReferenceFfn2Ideal.nD Cert.ReferenceFfn2Ideal.τ).loc Cert.ReferenceFfn2Ideal.main_arg2)
          ∧ r.2.mem ((c.tc : Thread Cert.ReferenceFfn2Ideal.nD Cert.ReferenceFfn2Ideal.τ).loc Cert.ReferenceFfn2Ideal.main_arg3) = m' ((c.tc : Thread Cert.ReferenceFfn2Ideal.nD Cert.ReferenceFfn2Ideal.τ).loc Cert.ReferenceFfn2Ideal.main_arg3)
          ∧ r.2.mem ((c.tc : Thread Cert.ReferenceFfn2Ideal.nD Cert.ReferenceFfn2Ideal.τ).loc Cert.ReferenceFfn2Ideal.main_arg4) = m' ((c.tc : Thread Cert.ReferenceFfn2Ideal.nD Cert.ReferenceFfn2Ideal.τ).loc Cert.ReferenceFfn2Ideal.main_arg4)
          ∧ r.2.mem ((c.tc : Thread Cert.ReferenceFfn2Ideal.nD Cert.ReferenceFfn2Ideal.τ).loc Cert.ReferenceFfn2Ideal.main_arg5) = m' ((c.tc : Thread Cert.ReferenceFfn2Ideal.nD Cert.ReferenceFfn2Ideal.τ).loc Cert.ReferenceFfn2Ideal.main_arg5)
          ∧ r.2.mem ((c.tc : Thread Cert.ReferenceFfn2Ideal.nD Cert.ReferenceFfn2Ideal.τ).loc Cert.ReferenceFfn2Ideal.main_arg6) = m' ((c.tc : Thread Cert.ReferenceFfn2Ideal.nD Cert.ReferenceFfn2Ideal.τ).loc Cert.ReferenceFfn2Ideal.main_arg6))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelOut0 : Cert.KernelOut0.Facts) (hKernelOut0Ideal : Cert.KernelOut0Ideal.Facts) (hReferenceOut0Ideal : Cert.ReferenceOut0Ideal.Facts) (hKernelFfn : Cert.KernelFfn.Facts) (hKernelFfnIdeal : Cert.KernelFfnIdeal.Facts) (hReferenceFfnIdeal : Cert.ReferenceFfnIdeal.Facts) (hKernelFfn2 : Cert.KernelFfn2.Facts) (hKernelFfn2Ideal : Cert.KernelFfn2Ideal.Facts) (hReferenceFfn2Ideal : Cert.ReferenceFfn2Ideal.Facts) (hPre_finite : Cert.Pre_finite.Facts) (hPre_dense : Cert.Pre_dense.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOut0 (hKernelOut0 := hKernelOut0)
    ∧ quiescent_KernelOut0Ideal (hKernelOut0Ideal := hKernelOut0Ideal)
    ∧ quiescent_ReferenceOut0Ideal (hReferenceOut0Ideal := hReferenceOut0Ideal)
    ∧ quiescent_KernelFfn (hKernelFfn := hKernelFfn) (hPre_dense := hPre_dense)
    ∧ quiescent_KernelFfnIdeal (hKernelFfnIdeal := hKernelFfnIdeal) (hPre_dense := hPre_dense)
    ∧ quiescent_ReferenceFfnIdeal (hReferenceFfnIdeal := hReferenceFfnIdeal)
    ∧ quiescent_ReferenceFfnIdeal_pre_dense (hReferenceFfnIdeal := hReferenceFfnIdeal) (hPre_dense := hPre_dense)
    ∧ quiescent_KernelFfn2 (hKernelFfn2 := hKernelFfn2) (hPre_dense := hPre_dense)
    ∧ quiescent_KernelFfn2Ideal (hKernelFfn2Ideal := hKernelFfn2Ideal) (hPre_dense := hPre_dense)
    ∧ quiescent_ReferenceFfn2Ideal (hReferenceFfn2Ideal := hReferenceFfn2Ideal)
    ∧ quiescent_ReferenceFfn2Ideal_pre_dense (hReferenceFfn2Ideal := hReferenceFfn2Ideal) (hPre_dense := hPre_dense)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelOut0_KernelOut0Ideal
    ∧ algebraic_KernelOut0Ideal_ReferenceOut0Ideal (hKernelOut0Ideal := hKernelOut0Ideal) (hReferenceOut0Ideal := hReferenceOut0Ideal)
    ∧ preserves_KernelFfn_KernelFfnIdeal
    ∧ algebraic_KernelFfnIdeal_ReferenceFfnIdeal (hKernelFfnIdeal := hKernelFfnIdeal) (hReferenceFfnIdeal := hReferenceFfnIdeal) (hPre_dense := hPre_dense)
    ∧ preserves_KernelFfn2_KernelFfn2Ideal
    ∧ algebraic_KernelFfn2Ideal_ReferenceFfn2Ideal (hKernelFfn2Ideal := hKernelFfn2Ideal) (hReferenceFfn2Ideal := hReferenceFfn2Ideal) (hPre_dense := hPre_dense)
-- ==== Pre_dense.lean ====
abbrev S40 : Shape := ⟨1, ![40]⟩
abbrev S1 : Shape := ⟨1, ![1]⟩
abbrev S33280x2048 : Shape := ⟨2, ![33280, 2048]⟩
abbrev S1x2048 : Shape := ⟨2, ![1, 2048]⟩
abbrev S2x1x2048x5632 : Shape := ⟨4, ![2, 1, 2048, 5632]⟩
abbrev S2x1x5632x2048 : Shape := ⟨4, ![2, 1, 5632, 2048]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S40 32) (main_arg1 : IVec S1 32) (main_arg2 : FVec F S33280x2048 .f32) (main_arg3 : FVec F S1x2048 .f32) (main_arg4 : FVec F S2x1x2048x5632 .bf16) (main_arg5 : FVec F S2x1x2048x5632 .bf16) (main_arg6 : FVec F S2x1x5632x2048 .bf16) : IVec S_ 1 :=
  let main_c : IVec S_ 32 := constantI S_ 32 0#32
  let main_v0 : IVec S40 32 := broadcastInDim S40 ![] bcast_S_S40 main_c
  let main_v1 : IVec S40 1 := cmpi .eq main_arg0 main_v0
  let main_c_0 : IVec S_ 1 := constantI S_ 1 1#1
  let main_v2 : IVec S_ 1 := (fun x v => Host.reduce IntOp.andi x v reducesTo_S40_S_d0 h_S_) main_v1 main_c_0
  let main_c_1 : IVec S_ 32 := constantI S_ 32 40#32
  let main_v3 : IVec S1 32 := broadcastInDim S1 ![] bcast_S_S1 main_c_1
  let main_v4 : IVec S1 1 := cmpi .eq main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_finite.lean ====
abbrev S8x4096x8x4x64 : Shape := ⟨5, ![8, 4096, 8, 4, 64]⟩
abbrev S8x4096x8x64 : Shape := ⟨4, ![8, 4096, 8, 64]⟩
abbrev S32x320 : Shape := ⟨2, ![32, 320]⟩
abbrev S_ : Shape := ⟨0, ![]⟩

class Facts : Prop where
  bcast_S_S8x4096x8x4x64 : S_.BroadcastsInDim S8x4096x8x4x64 (![] : Fin 0 → Fin S8x4096x8x4x64.rank)
  reducesTo_S8x4096x8x4x64_S_d0_1_2_3_4 : S8x4096x8x4x64.ReducesTo [0, 1, 2, 3, 4] S_
  h_S_ : 0 < S_.numel
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  bcast_S_S32x320 : S_.BroadcastsInDim S32x320 (![] : Fin 0 → Fin S32x320.rank)
  reducesTo_S32x320_S_d0_1 : S32x320.ReducesTo [0, 1] S_

variable [Facts]

def fn {F : FTy → Type} [FloatOps F] (main_arg0 : FVec F S8x4096x8x4x64 .f32) (main_arg1 : FVec F S8x4096x8x64 .f32) (main_arg2 : FVec F S8x4096x8x64 .f32) (main_arg3 : FVec F S32x320 .f32) : IVec S_ 1 :=
  let main_v0 : FVec F S8x4096x8x4x64 .f32 := Host.absf main_arg0
  let main_cst : FVec F S_ .f32 := constant S_ .f32 0x7F800000#32
  let main_v1 : FVec F S8x4096x8x4x64 .f32 := broadcastInDim S8x4096x8x4x64 ![] bcast_S_S8x4096x8x4x64 main_cst
  let main_v2 : IVec S8x4096x8x4x64 1 := cmpf .olt main_v0 main_v1
  let main_c : IVec S_ 1 := constantI S_ 1 1#1
  let main_v3 : IVec S_ 1 := (fun x v => Host.reduce IntOp.andi x v reducesTo_S8x4096x8x4x64_S_d0_1_2_3_4 h_S_) main_v2 main_c
  let main_v4 : FVec F S8x4096x8x64 .f32 := Host.absf main_arg1
  let main_cst_0 : FVec F S_ .f32 := constant S_ .f32 0x7F800000#32
  let main_v5 : FVec F S8x4096x8x64 .f32 := broadcastInDim S8x4096x8x64 ![] bcast_S_S8x4096x8x64 main_cst_0
  let main_v6 : IVec S8x4096x8x64 1 := cmpf .olt main_v4 main_v5
  let main_c_1 : IVec S_ 1 := constantI S_ 1 1#1
  let main_v7 : IVec S_ 1 := (fun x v => Host.reduce IntOp.andi x v reducesTo_S8x4096x8x64_S_d0_1_2_3 h_S_) main_v6 main_c_1
  let main_v8 : IVec S_ 1 := andi main_v3 main_v7
  let main_v9 : FVec F S32x320 .f32 := Host.absf main_arg3
  let main_cst_2 : FVec F S_ .f32 := constant S_ .f32 0x7F800000#32
  let main_v10 : FVec F S32x320 .f32 := broadcastInDim S32x320 ![] bcast_S_S32x320 main_cst_2
  let main_v11 : IVec S32x320 1 := cmpf .olt main_v9 main_v10
  let main_c_3 : IVec S_ 1 := constantI S_ 1 1#1
  let main_v12 : IVec S_ 1 := (fun x v => Host.reduce IntOp.andi x v reducesTo_S32x320_S_d0_1 h_S_) main_v11 main_c_3
  let main_v13 : IVec S_ 1 := andi main_v8 main_v12
  main_v13
-- ==== Kernel.lean ====
abbrev S8x4096x8x4x64 : Shape := ⟨5, ![8, 4096, 8, 4, 64]⟩
abbrev S8x4096x8x64 : Shape := ⟨4, ![8, 4096, 8, 64]⟩
abbrev S32x320 : Shape := ⟨2, ![32, 320]⟩
abbrev S32768x2048 : Shape := ⟨2, ![32768, 2048]⟩
abbrev S_ : Shape := ⟨0, ![]⟩
abbrev S8x4096x8x128 : Shape := ⟨4, ![8, 4096, 8, 128]⟩
abbrev S32768x1024 : Shape := ⟨2, ![32768, 1024]⟩
abbrev S640 : Shape := ⟨1, ![640]⟩
abbrev S640x1 : Shape := ⟨2, ![640, 1]⟩
abbrev S32x640 : Shape := ⟨2, ![32, 640]⟩
abbrev S1x32x1x640 : Shape := ⟨4, ![1, 32, 1, 640]⟩
abbrev S1x32x64x640 : Shape := ⟨4, ![1, 32, 64, 640]⟩
abbrev S32x40960 : Shape := ⟨2, ![32, 40960]⟩
abbrev S32x40896 : Shape := ⟨2, ![32, 40896]⟩
abbrev S32x64x639 : Shape := ⟨3, ![32, 64, 639]⟩
abbrev S32x64x576 : Shape := ⟨3, ![32, 64, 576]⟩
abbrev S8x2x2x64x576 : Shape := ⟨5, ![8, 2, 2, 64, 576]⟩
abbrev S8x2x576x2x64 : Shape := ⟨5, ![8, 2, 576, 2, 64]⟩
abbrev S16x576x128 : Shape := ⟨3, ![16, 576, 128]⟩
abbrev S16x1088x128 : Shape := ⟨3, ![16, 1088, 128]⟩
abbrev S4096x256 : Shape := ⟨2, ![4096, 256]⟩
abbrev S4096x128 : Shape := ⟨2, ![4096, 128]⟩
abbrev S2x1088x128 : Shape := ⟨3, ![2, 1088, 128]⟩
abbrev S4x2x576x128 : Shape := ⟨4, ![4, 2, 576, 128]⟩
abbrev S4x128x128 : Shape := ⟨3, ![4, 128, 128]⟩
abbrev S576x128 : Shape := ⟨2, ![576, 128]⟩
abbrev S64x128 : Shape := ⟨2, ![64, 128]⟩
abbrev S128x128 : Shape := ⟨2, ![128, 128]⟩
abbrev S1x1x576x128 : Shape := ⟨4, ![1, 1, 576, 128]⟩
abbrev S1x576x128 : Shape := ⟨3, ![1, 576, 128]⟩
abbrev S128 : Shape := ⟨1, ![128]⟩
abbrev S1x128 : Shape := ⟨2, ![1, 128]⟩
abbrev S1x128x128 : Shape := ⟨3, ![1, 128, 128]⟩

abbrev nBuf : Space → Nat
  | .hbm => 64
  | .vmem => 20
  | .smem => 0
  | _ => 0

abbrev bufTy : (tb : Table) → Fin (tcTables nBuf tb) → BufTy
  | .hbm, ⟨0, _⟩ => ⟨S8x4096x8x4x64, .f32⟩
  | .hbm, ⟨1, _⟩ => ⟨S8x4096x8x64, .f32⟩
  | .hbm, ⟨2, _⟩ => ⟨S8x4096x8x64, .f32⟩
  | .hbm, ⟨3, _⟩ => ⟨S32x320, .f32⟩
  | .hbm, ⟨4, _⟩ => ⟨S8x4096x8x4x64, .bf16⟩
  | .hbm, ⟨5, _⟩ => ⟨S32768x2048, .bf16⟩
  | .hbm, ⟨6, _⟩ => ⟨S_, .i32⟩
  | .hbm, ⟨7, _⟩ => ⟨S_, .f32⟩
  | .hbm, ⟨8, _⟩ => ⟨S8x4096x8x128, .f32⟩
  | .hbm, ⟨9, _⟩ => ⟨S_, .i32⟩
  | .hbm, ⟨10, _⟩ => ⟨S_, .f32⟩
  | .hbm, ⟨11, _⟩ => ⟨S8x4096x8x128, .f32⟩
  | .hbm, ⟨12, _⟩ => ⟨S32768x1024, .f32⟩
  | .hbm, ⟨13, _⟩ => ⟨S32768x1024, .bf16⟩
  | .hbm, ⟨14, _⟩ => ⟨S32768x1024, .f32⟩
  | .hbm, ⟨15, _⟩ => ⟨S32768x1024, .bf16⟩
  | .hbm, ⟨16, _⟩ => ⟨S_, .i32⟩
  | .hbm, ⟨17, _⟩ => ⟨S_, .f32⟩
  | .hbm, ⟨18, _⟩ => ⟨S8x4096x8x128, .f32⟩
  | .hbm, ⟨19, _⟩ => ⟨S_, .i32⟩
  | .hbm, ⟨20, _⟩ => ⟨S_, .f32⟩
  | .hbm, ⟨21, _⟩ => ⟨S8x4096x8x128, .f32⟩
  | .hbm, ⟨22, _⟩ => ⟨S32768x1024, .f32⟩
  | .hbm, ⟨23, _⟩ => ⟨S32768x1024, .bf16⟩
  | .hbm, ⟨24, _⟩ => ⟨S32768x1024, .f32⟩
  | .hbm, ⟨25, _⟩ => ⟨S32768x1024, .bf16⟩
  | .hbm, ⟨26, _⟩ => ⟨S640, .i32⟩
  | .hbm, ⟨27, _⟩ => ⟨S_, .i32⟩
  | .hbm, ⟨28, _⟩ => ⟨S640, .i32⟩
  | .hbm, ⟨29, _⟩ => ⟨S640, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S640, .i32⟩
  | .hbm, ⟨34, _⟩ => ⟨S640, .i32⟩
  | .hbm, ⟨35, _⟩ => ⟨S_, .i32⟩
  | .hbm, ⟨36, _⟩ => ⟨S640, .i32⟩
  | .hbm, ⟨37, _⟩ => ⟨S640, .i32⟩
  | .hbm, ⟨38, _⟩ => ⟨S_, .i32⟩
  | .hbm, ⟨39, _⟩ => ⟨S640, .i32⟩
  | .hbm, ⟨40, _⟩ => ⟨S640, .i32⟩
  | .hbm, ⟨41, _⟩ => ⟨S_, .i32⟩
  | .hbm, ⟨42, _⟩ => ⟨S640, .i32⟩
  | .hbm, ⟨43, _⟩ => ⟨S640, .i1⟩
  | .hbm, ⟨44, _⟩ => ⟨S_, .i32⟩
  | .hbm, ⟨45, _⟩ => ⟨S640, .i32⟩
  | .hbm, ⟨46, _⟩ => ⟨S640, .i32⟩
  | .hbm, ⟨47, _⟩ => ⟨S640, .i32⟩
  | .hbm, ⟨48, _⟩ => ⟨S640x1, .i32⟩
  | .hbm, ⟨49, _⟩ => ⟨S32x640, .f32⟩
  | .hbm, ⟨50, _⟩ => ⟨S1x32x1x640, .f32⟩
  | .hbm, ⟨51, _⟩ => ⟨S1x32x64x640, .f32⟩
  | .hbm, ⟨52, _⟩ => ⟨S32x40960, .f32⟩
  | .hbm, ⟨53, _⟩ => ⟨S32x40896, .f32⟩
  | .hbm, ⟨54, _⟩ => ⟨S32x64x639, .f32⟩
  | .hbm, ⟨55, _⟩ => ⟨S32x64x576, .f32⟩
  | .hbm, ⟨56, _⟩ => ⟨S8x2x2x64x576, .f32⟩
  | .hbm, ⟨57, _⟩ => ⟨S8x2x2x64x576, .f32⟩
  | .hbm, ⟨58, _⟩ => ⟨S8x2x576x2x64, .f32⟩
  | .hbm, ⟨59, _⟩ => ⟨S16x576x128, .f32⟩
  | .hbm, ⟨60, _⟩ => ⟨S_, .i32⟩
  | .hbm, ⟨61, _⟩ => ⟨S_, .f32⟩
  | .hbm, ⟨62, _⟩ => ⟨S16x1088x128, .f32⟩
  | .hbm, ⟨63, _⟩ => ⟨S32768x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S2x1088x128, .f32⟩
  | .local _ .vmem, ⟨11, _⟩ => ⟨S2x1088x128, .f32⟩
  | .local _ .vmem, ⟨12, _⟩ => ⟨S4096x256, .bf16⟩
  | .local _ .vmem, ⟨13, _⟩ => ⟨S4096x256, .bf16⟩
  | .local _ .vmem, ⟨14, _⟩ => ⟨S4x2x576x128, .f32⟩
  | .local _ .vmem, ⟨15, _⟩ => ⟨S4x2x576x128, .f32⟩
  | .local _ .vmem, ⟨16, _⟩ => ⟨S4x2x576x128, .bf16⟩
  | .local _ .vmem, ⟨17, _⟩ => ⟨S4x2x576x128, .bf16⟩
  | .local _ .vmem, ⟨18, _⟩ => ⟨S4x128x128, .f32⟩
  | .local _ .vmem, ⟨19, _⟩ => ⟨S4x128x128, .f32⟩
  | _, _ => ⟨S8x4096x8x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_c_5 : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_call5_v0 : Ref sig .tc := ⟨.hbm, 61, rfl⟩
abbrev main_v37 : Ref sig .tc := ⟨.hbm, 62, rfl⟩
abbrev main_v38 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
def k0_mult2 : BitVec 32 :=
  let c_m8_i32 : BitVec 32 := 4294967288#32
  let c0_i32_0 : BitVec 32 := 0#32
  let v2 : BitVec 32 := Scalar.maxsi c_m8_i32 c0_i32_0
  let c64_i32 : BitVec 32 := 64#32
  let v3 : BitVec 32 := Scalar.muli v2 c64_i32
  v3
def k0_off1 (c_m8_i32 : BitVec 32) : Fin 2 → Nat :=
  let c0_i32_0 : BitVec 32 := 0#32
  let v2 : BitVec 32 := Scalar.maxsi c_m8_i32 c0_i32_0
  let c64_i32 : BitVec 32 := 64#32
  let v3 : BitVec 32 := Scalar.muli v2 c64_i32
  let v4 : BitVec 32 := v3
  let v16 : Index := Scalar.indexCast v4
  let c0_1 : Index := 0#32
  ![v16.toNat, 0]
def k0_off1_at (r : Fin 24) : BitVec 32 :=
  if r.val < 12 then
    if r.val < 6 then
      if r.val < 3 then
        if r.val < 1 then
          4294967288#32
        else
          if r.val < 2 then
            4294967289#32
          else
            4294967290#32
      else
        if r.val < 4 then
          4294967291#32
        else
          if r.val < 5 then
            4294967292#32
          else
            4294967293#32
    else
      if r.val < 9 then
        if r.val < 7 then
          4294967294#32
        else
          if r.val < 8 then
            4294967295#32
          else
            0#32
      else
        if r.val < 10 then
          1#32
        else
          if r.val < 11 then
            2#32
          else
            3#32
  else
    if r.val < 18 then
      if r.val < 15 then
        if r.val < 13 then
          4#32
        else
          if r.val < 14 then
            5#32
          else
            6#32
      else
        if r.val < 16 then
          7#32
        else
          if r.val < 17 then
            48#32
          else
            49#32
    else
      if r.val < 21 then
        if r.val < 19 then
          50#32
        else
          if r.val < 20 then
            51#32
          else
            52#32
      else
        if r.val < 22 then
          53#32
        else
          if r.val < 23 then
            54#32
          else
            55#32
def k0_mult3 : BitVec 32 :=
  let c64_i32_12 : BitVec 32 := 64#32
  c64_i32_12
def k0_mult4 : BitVec 32 :=
  let c_m7_i32 : BitVec 32 := 4294967289#32
  let c0_i32_13 : BitVec 32 := 0#32
  let v31 : BitVec 32 := Scalar.maxsi c_m7_i32 c0_i32_13
  let c64_i32_14 : BitVec 32 := 64#32
  let v32 : BitVec 32 := Scalar.muli v31 c64_i32_14
  v32
def k0_mult5 : BitVec 32 :=
  let c128_i32 : BitVec 32 := 128#32
  c128_i32
def k0_mult6 : BitVec 32 :=
  let c_m6_i32 : BitVec 32 := 4294967290#32
  let c0_i32_30 : BitVec 32 := 0#32
  let v60 : BitVec 32 := Scalar.maxsi c_m6_i32 c0_i32_30
  let c64_i32_31 : BitVec 32 := 64#32
  let v61 : BitVec 32 := Scalar.muli v60 c64_i32_31
  v61
def k0_mult7 : BitVec 32 :=
  let c192_i32 : BitVec 32 := 192#32
  c192_i32
def k0_mult8 : BitVec 32 :=
  let c_m5_i32 : BitVec 32 := 4294967291#32
  let c0_i32_46 : BitVec 32 := 0#32
  let v89 : BitVec 32 := Scalar.maxsi c_m5_i32 c0_i32_46
  let c64_i32_47 : BitVec 32 := 64#32
  let v90 : BitVec 32 := Scalar.muli v89 c64_i32_47
  v90
def k0_mult9 : BitVec 32 :=
  let c256_i32 : BitVec 32 := 256#32
  c256_i32
def k0_mult10 : BitVec 32 :=
  let c_m4_i32 : BitVec 32 := 4294967292#32
  let c0_i32_62 : BitVec 32 := 0#32
  let v118 : BitVec 32 := Scalar.maxsi c_m4_i32 c0_i32_62
  let c64_i32_63 : BitVec 32 := 64#32
  let v119 : BitVec 32 := Scalar.muli v118 c64_i32_63
  v119
def k0_mult11 : BitVec 32 :=
  let c320_i32 : BitVec 32 := 320#32
  c320_i32
def k0_mult12 : BitVec 32 :=
  let c_m3_i32 : BitVec 32 := 4294967293#32
  let c0_i32_79 : BitVec 32 := 0#32
  let v147 : BitVec 32 := Scalar.maxsi c_m3_i32 c0_i32_79
  let c64_i32_80 : BitVec 32 := 64#32
  let v148 : BitVec 32 := Scalar.muli v147 c64_i32_80
  v148
def k0_mult13 : BitVec 32 :=
  let c384_i32 : BitVec 32 := 384#32
  c384_i32
def k0_mult14 : BitVec 32 :=
  let c_m2_i32 : BitVec 32 := 4294967294#32
  let c0_i32_96 : BitVec 32 := 0#32
  let v176 : BitVec 32 := Scalar.maxsi c_m2_i32 c0_i32_96
  let c64_i32_97 : BitVec 32 := 64#32
  let v177 : BitVec 32 := Scalar.muli v176 c64_i32_97
  v177
def k0_mult15 : BitVec 32 :=
  let c448_i32 : BitVec 32 := 448#32
  c448_i32
def k0_mult16 : BitVec 32 :=
  let c_m1_i32 : BitVec 32 := 4294967295#32
  let c0_i32_113 : BitVec 32 := 0#32
  let v205 : BitVec 32 := Scalar.maxsi c_m1_i32 c0_i32_113
  let c64_i32_114 : BitVec 32 := 64#32
  let v206 : BitVec 32 := Scalar.muli v205 c64_i32_114
  v206
def k0_mult17 : BitVec 32 :=
  let c8_i32 : BitVec 32 := 8#32
  let c0_i32_130 : BitVec 32 := 0#32
  let v233 : BitVec 32 := Scalar.maxsi c8_i32 c0_i32_130
  let c64_i32_131 : BitVec 32 := 64#32
  let v234 : BitVec 32 := Scalar.muli v233 c64_i32_131
  v234
def k0_off2 (c8_i32 : BitVec 32) : Fin 3 → Nat :=
  let c0_136 : Index := 0#32
  let c0_i32_130 : BitVec 32 := 0#32
  let v233 : BitVec 32 := Scalar.maxsi c8_i32 c0_i32_130
  let c64_i32_131 : BitVec 32 := 64#32
  let v234 : BitVec 32 := Scalar.muli v233 c64_i32_131
  let v235 : BitVec 32 := v234
  let v238 : Index := Scalar.indexCast v235
  let c0_137 : Index := 0#32
  ![0, v238.toNat, 0]
def k0_off2_at (r : Fin 12) : BitVec 32 :=
  if r.val < 6 then
    if r.val < 3 then
      if r.val < 1 then
        8#32
      else
        if r.val < 2 then
          7#32
        else
          6#32
    else
      if r.val < 4 then
        5#32
      else
        if r.val < 5 then
          4#32
        else
          3#32
  else
    if r.val < 9 then
      if r.val < 7 then
        2#32
      else
        if r.val < 8 then
          1#32
        else
          0#32
    else
      if r.val < 10 then
        4294967295#32
      else
        if r.val < 11 then
          4294967294#32
        else
          4294967293#32
def k0_off3 (c8_i32 : BitVec 32) : Fin 3 → Nat :=
  let c1_151 : Index := 1#32
  let c0_i32_130 : BitVec 32 := 0#32
  let v233 : BitVec 32 := Scalar.maxsi c8_i32 c0_i32_130
  let c64_i32_131 : BitVec 32 := 64#32
  let v234 : BitVec 32 := Scalar.muli v233 c64_i32_131
  let v235 : BitVec 32 := v234
  let v266 : Index := Scalar.indexCast v235
  let c0_152 : Index := 0#32
  ![1, v266.toNat, 0]
def k0_off3_at (r : Fin 12) : BitVec 32 :=
  if r.val < 6 then
    if r.val < 3 then
      if r.val < 1 then
        8#32
      else
        if r.val < 2 then
          7#32
        else
          6#32
    else
      if r.val < 4 then
        5#32
      else
        if r.val < 5 then
          4#32
        else
          3#32
  else
    if r.val < 9 then
      if r.val < 7 then
        2#32
      else
        if r.val < 8 then
          1#32
        else
          0#32
    else
      if r.val < 10 then
        4294967295#32
      else
        if r.val < 11 then
          4294967294#32
        else
          4294967293#32
def k0_mult18 : BitVec 32 :=
  let c7_i32 : BitVec 32 := 7#32
  let c0_i32_167 : BitVec 32 := 0#32
  let v299 : BitVec 32 := Scalar.maxsi c7_i32 c0_i32_167
  let c64_i32_168 : BitVec 32 := 64#32
  let v300 : BitVec 32 := Scalar.muli v299 c64_i32_168
  v300
def k0_mult19 : BitVec 32 :=
  let c6_i32 : BitVec 32 := 6#32
  let c0_i32_205 : BitVec 32 := 0#32
  let v365 : BitVec 32 := Scalar.maxsi c6_i32 c0_i32_205
  let c64_i32_206 : BitVec 32 := 64#32
  let v366 : BitVec 32 := Scalar.muli v365 c64_i32_206
  v366
def k0_mult20 : BitVec 32 :=
  let c5_i32 : BitVec 32 := 5#32
  let c0_i32_243 : BitVec 32 := 0#32
  let v431 : BitVec 32 := Scalar.maxsi c5_i32 c0_i32_243
  let c64_i32_244 : BitVec 32 := 64#32
  let v432 : BitVec 32 := Scalar.muli v431 c64_i32_244
  v432
def k0_mult21 : BitVec 32 :=
  let c512_i32 : BitVec 32 := 512#32
  c512_i32
def k0_mult22 : BitVec 32 :=
  let c0_i32_281 : BitVec 32 := 0#32
  let c0_i32_282 : BitVec 32 := 0#32
  let v498 : BitVec 32 := Scalar.maxsi c0_i32_281 c0_i32_282
  let c64_i32_283 : BitVec 32 := 64#32
  let v499 : BitVec 32 := Scalar.muli v498 c64_i32_283
  v499
def k0_mult23 : BitVec 32 :=
  let c576_i32_299 : BitVec 32 := 576#32
  c576_i32_299
def k0_mult24 : BitVec 32 :=
  let c1_i32 : BitVec 32 := 1#32
  let c0_i32_300 : BitVec 32 := 0#32
  let v527 : BitVec 32 := Scalar.maxsi c1_i32 c0_i32_300
  let c64_i32_301 : BitVec 32 := 64#32
  let v528 : BitVec 32 := Scalar.muli v527 c64_i32_301
  v528
def k0_mult25 : BitVec 32 :=
  let c640_i32 : BitVec 32 := 640#32
  c640_i32
def k0_mult26 : BitVec 32 :=
  let c2_i32 : BitVec 32 := 2#32
  let c0_i32_317 : BitVec 32 := 0#32
  let v556 : BitVec 32 := Scalar.maxsi c2_i32 c0_i32_317
  let c64_i32_318 : BitVec 32 := 64#32
  let v557 : BitVec 32 := Scalar.muli v556 c64_i32_318
  v557
def k0_mult27 : BitVec 32 :=
  let c704_i32 : BitVec 32 := 704#32
  c704_i32
def k0_mult28 : BitVec 32 :=
  let c3_i32 : BitVec 32 := 3#32
  let c0_i32_334 : BitVec 32 := 0#32
  let v585 : BitVec 32 := Scalar.maxsi c3_i32 c0_i32_334
  let c64_i32_335 : BitVec 32 := 64#32
  let v586 : BitVec 32 := Scalar.muli v585 c64_i32_335
  v586
def k0_mult29 : BitVec 32 :=
  let c4_i32 : BitVec 32 := 4#32
  let c0_i32_351 : BitVec 32 := 0#32
  let v613 : BitVec 32 := Scalar.maxsi c4_i32 c0_i32_351
  let c64_i32_352 : BitVec 32 := 64#32
  let v614 : BitVec 32 := Scalar.muli v613 c64_i32_352
  v614
def k0_mult30 : BitVec 32 :=
  let c3_i32_389 : BitVec 32 := 3#32
  let c0_i32_390 : BitVec 32 := 0#32
  let v679 : BitVec 32 := Scalar.maxsi c3_i32_389 c0_i32_390
  let c64_i32_391 : BitVec 32 := 64#32
  let v680 : BitVec 32 := Scalar.muli v679 c64_i32_391
  v680
def k0_mult31 : BitVec 32 :=
  let c2_i32_428 : BitVec 32 := 2#32
  let c0_i32_429 : BitVec 32 := 0#32
  let v745 : BitVec 32 := Scalar.maxsi c2_i32_428 c0_i32_429
  let c64_i32_430 : BitVec 32 := 64#32
  let v746 : BitVec 32 := Scalar.muli v745 c64_i32_430
  v746
def k0_mult32 : BitVec 32 :=
  let c1_i32_467 : BitVec 32 := 1#32
  let c0_i32_468 : BitVec 32 := 0#32
  let v811 : BitVec 32 := Scalar.maxsi c1_i32_467 c0_i32_468
  let c64_i32_469 : BitVec 32 := 64#32
  let v812 : BitVec 32 := Scalar.muli v811 c64_i32_469
  v812
def k0_mult33 : BitVec 32 :=
  let c0_i32_506 : BitVec 32 := 0#32
  c0_i32_506
def k0_mult34 : BitVec 32 :=
  let c_m8_i32_507 : BitVec 32 := 4294967288#32
  let c0_i32_508 : BitVec 32 := 0#32
  let v878 : BitVec 32 := Scalar.maxsi c_m8_i32_507 c0_i32_508
  let c64_i32_509 : BitVec 32 := 64#32
  let v879 : BitVec 32 := Scalar.muli v878 c64_i32_509
  v879
def k0_mult35 : BitVec 32 :=
  let c64_i32_527 : BitVec 32 := 64#32
  c64_i32_527
def k0_mult36 : BitVec 32 :=
  let c_m7_i32_528 : BitVec 32 := 4294967289#32
  let c0_i32_529 : BitVec 32 := 0#32
  let v907 : BitVec 32 := Scalar.maxsi c_m7_i32_528 c0_i32_529
  let c64_i32_530 : BitVec 32 := 64#32
  let v908 : BitVec 32 := Scalar.muli v907 c64_i32_530
  v908
def k0_mult37 : BitVec 32 :=
  let c128_i32_548 : BitVec 32 := 128#32
  c128_i32_548
def k0_mult38 : BitVec 32 :=
  let c_m6_i32_549 : BitVec 32 := 4294967290#32
  let c0_i32_550 : BitVec 32 := 0#32
  let v936 : BitVec 32 := Scalar.maxsi c_m6_i32_549 c0_i32_550
  let c64_i32_551 : BitVec 32 := 64#32
  let v937 : BitVec 32 := Scalar.muli v936 c64_i32_551
  v937
def k0_mult39 : BitVec 32 :=
  let c192_i32_569 : BitVec 32 := 192#32
  c192_i32_569
def k0_mult40 : BitVec 32 :=
  let c_m5_i32_570 : BitVec 32 := 4294967291#32
  let c0_i32_571 : BitVec 32 := 0#32
  let v965 : BitVec 32 := Scalar.maxsi c_m5_i32_570 c0_i32_571
  let c64_i32_572 : BitVec 32 := 64#32
  let v966 : BitVec 32 := Scalar.muli v965 c64_i32_572
  v966
def k0_mult41 : BitVec 32 :=
  let c768_i32 : BitVec 32 := 768#32
  c768_i32
def k0_mult42 : BitVec 32 :=
  let c4_i32_590 : BitVec 32 := 4#32
  let c0_i32_591 : BitVec 32 := 0#32
  let v994 : BitVec 32 := Scalar.maxsi c4_i32_590 c0_i32_591
  let c64_i32_592 : BitVec 32 := 64#32
  let v995 : BitVec 32 := Scalar.muli v994 c64_i32_592
  v995
def k0_mult43 : BitVec 32 :=
  let c832_i32 : BitVec 32 := 832#32
  c832_i32
def k0_mult44 : BitVec 32 :=
  let c5_i32_608 : BitVec 32 := 5#32
  let c0_i32_609 : BitVec 32 := 0#32
  let v1023 : BitVec 32 := Scalar.maxsi c5_i32_608 c0_i32_609
  let c64_i32_610 : BitVec 32 := 64#32
  let v1024 : BitVec 32 := Scalar.muli v1023 c64_i32_610
  v1024
def k0_mult45 : BitVec 32 :=
  let c896_i32 : BitVec 32 := 896#32
  c896_i32
def k0_mult46 : BitVec 32 :=
  let c6_i32_626 : BitVec 32 := 6#32
  let c0_i32_627 : BitVec 32 := 0#32
  let v1052 : BitVec 32 := Scalar.maxsi c6_i32_626 c0_i32_627
  let c64_i32_628 : BitVec 32 := 64#32
  let v1053 : BitVec 32 := Scalar.muli v1052 c64_i32_628
  v1053
def k0_mult47 : BitVec 32 :=
  let c960_i32 : BitVec 32 := 960#32
  c960_i32
def k0_mult48 : BitVec 32 :=
  let c7_i32_644 : BitVec 32 := 7#32
  let c0_i32_645 : BitVec 32 := 0#32
  let v1081 : BitVec 32 := Scalar.maxsi c7_i32_644 c0_i32_645
  let c64_i32_646 : BitVec 32 := 64#32
  let v1082 : BitVec 32 := Scalar.muli v1081 c64_i32_646
  v1082
def k0_mult49 : BitVec 32 :=
  let c0_i32_662 : BitVec 32 := 0#32
  let c0_i32_663 : BitVec 32 := 0#32
  let v1109 : BitVec 32 := Scalar.maxsi c0_i32_662 c0_i32_663
  let c64_i32_664 : BitVec 32 := 64#32
  let v1110 : BitVec 32 := Scalar.muli v1109 c64_i32_664
  v1110
def k0_mult50 : BitVec 32 :=
  let c_m1_i32_701 : BitVec 32 := 4294967295#32
  let c0_i32_702 : BitVec 32 := 0#32
  let v1175 : BitVec 32 := Scalar.maxsi c_m1_i32_701 c0_i32_702
  let c64_i32_703 : BitVec 32 := 64#32
  let v1176 : BitVec 32 := Scalar.muli v1175 c64_i32_703
  v1176
def k0_mult51 : BitVec 32 :=
  let c_m2_i32_740 : BitVec 32 := 4294967294#32
  let c0_i32_741 : BitVec 32 := 0#32
  let v1241 : BitVec 32 := Scalar.maxsi c_m2_i32_740 c0_i32_741
  let c64_i32_742 : BitVec 32 := 64#32
  let v1242 : BitVec 32 := Scalar.muli v1241 c64_i32_742
  v1242
def k0_mult52 : BitVec 32 :=
  let c_m3_i32_779 : BitVec 32 := 4294967293#32
  let c0_i32_780 : BitVec 32 := 0#32
  let v1307 : BitVec 32 := Scalar.maxsi c_m3_i32_779 c0_i32_780
  let c64_i32_781 : BitVec 32 := 64#32
  let v1308 : BitVec 32 := Scalar.muli v1307 c64_i32_781
  v1308
def k0_mult53 : BitVec 32 :=
  let c256_i32_818 : BitVec 32 := 256#32
  c256_i32_818
def k0_mult54 : BitVec 32 :=
  let c_m4_i32_819 : BitVec 32 := 4294967292#32
  let c0_i32_820 : BitVec 32 := 0#32
  let v1374 : BitVec 32 := Scalar.maxsi c_m4_i32_819 c0_i32_820
  let c64_i32_821 : BitVec 32 := 64#32
  let v1375 : BitVec 32 := Scalar.muli v1374 c64_i32_821
  v1375
def k0_mult55 : BitVec 32 :=
  let c320_i32_839 : BitVec 32 := 320#32
  c320_i32_839
def k0_mult56 : BitVec 32 :=
  let c_m3_i32_840 : BitVec 32 := 4294967293#32
  let c0_i32_841 : BitVec 32 := 0#32
  let v1403 : BitVec 32 := Scalar.maxsi c_m3_i32_840 c0_i32_841
  let c64_i32_842 : BitVec 32 := 64#32
  let v1404 : BitVec 32 := Scalar.muli v1403 c64_i32_842
  v1404
def k0_mult57 : BitVec 32 :=
  let c384_i32_860 : BitVec 32 := 384#32
  c384_i32_860
def k0_mult58 : BitVec 32 :=
  let c_m2_i32_861 : BitVec 32 := 4294967294#32
  let c0_i32_862 : BitVec 32 := 0#32
  let v1432 : BitVec 32 := Scalar.maxsi c_m2_i32_861 c0_i32_862
  let c64_i32_863 : BitVec 32 := 64#32
  let v1433 : BitVec 32 := Scalar.muli v1432 c64_i32_863
  v1433
def k0_mult59 : BitVec 32 :=
  let c448_i32_881 : BitVec 32 := 448#32
  c448_i32_881
def k0_mult60 : BitVec 32 :=
  let c_m1_i32_882 : BitVec 32 := 4294967295#32
  let c0_i32_883 : BitVec 32 := 0#32
  let v1461 : BitVec 32 := Scalar.maxsi c_m1_i32_882 c0_i32_883
  let c64_i32_884 : BitVec 32 := 64#32
  let v1462 : BitVec 32 := Scalar.muli v1461 c64_i32_884
  v1462
@[reducible] def k0_t1_loop : Scf.Loop 32 :=
  let c0_i32_902 : BitVec 32 := 0#32
  let c6_i32_903 : BitVec 32 := 6#32
  let v1489 : BitVec 32 := Scalar.addi c0_i32_902 c6_i32_903
  let c1_i32_904 : BitVec 32 := 1#32
  ⟨c0_i32_902, v1489, c1_i32_904⟩
def k0_mult61 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1196 : BitVec 32 := 4#32
  let v1928 : BitVec 32 := Scalar.muli v1927 c4_i32_1196
  let c0_i32_1197 : BitVec 32 := 0#32
  let v1929 : BitVec 32 := Scalar.addi v1928 c0_i32_1197
  let c64_i32_1198 : BitVec 32 := 64#32
  let v1930 : BitVec 32 := Scalar.muli v1929 c64_i32_1198
  v1930
def k0_mult62 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1196 : BitVec 32 := 4#32
  let v1928 : BitVec 32 := Scalar.muli v1927 c4_i32_1196
  let c0_i32_1197 : BitVec 32 := 0#32
  let v1929 : BitVec 32 := Scalar.addi v1928 c0_i32_1197
  let c8_i32_1199 : BitVec 32 := 8#32
  let v1932 : BitVec 32 := Scalar.subi v1929 c8_i32_1199
  let c0_i32_1200 : BitVec 32 := 0#32
  let v1933 : BitVec 32 := Scalar.maxsi v1932 c0_i32_1200
  let c64_i32_1201 : BitVec 32 := 64#32
  let v1934 : BitVec 32 := Scalar.muli v1933 c64_i32_1201
  v1934
def k0_off4 (k0_t1 : Fin k0_t1_loop.trips) (c0_i32_1197 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1196 : BitVec 32 := 4#32
  let v1928 : BitVec 32 := Scalar.muli v1927 c4_i32_1196
  let v1929 : BitVec 32 := Scalar.addi v1928 c0_i32_1197
  let c64_i32_1198 : BitVec 32 := 64#32
  let v1930 : BitVec 32 := Scalar.muli v1929 c64_i32_1198
  let v1931 : BitVec 32 := v1930
  let v1936 : Index := Scalar.indexCast v1931
  let c0_1202 : Index := 0#32
  ![v1936.toNat, 0]
def k0_off5 (k0_t1 : Fin k0_t1_loop.trips) (c0_i32_1197 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1196 : BitVec 32 := 4#32
  let v1928 : BitVec 32 := Scalar.muli v1927 c4_i32_1196
  let v1929 : BitVec 32 := Scalar.addi v1928 c0_i32_1197
  let c64_i32_1198 : BitVec 32 := 64#32
  let v1930 : BitVec 32 := Scalar.muli v1929 c64_i32_1198
  let v1931 : BitVec 32 := v1930
  let v1939 : Index := Scalar.indexCast v1931
  let c128_1203 : Index := 128#32
  ![v1939.toNat, 128]
def k0_off6 (k0_t1 : Fin k0_t1_loop.trips) (c0_i32_1197 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1196 : BitVec 32 := 4#32
  let v1928 : BitVec 32 := Scalar.muli v1927 c4_i32_1196
  let v1929 : BitVec 32 := Scalar.addi v1928 c0_i32_1197
  let c8_i32_1199 : BitVec 32 := 8#32
  let v1932 : BitVec 32 := Scalar.subi v1929 c8_i32_1199
  let c0_i32_1200 : BitVec 32 := 0#32
  let v1933 : BitVec 32 := Scalar.maxsi v1932 c0_i32_1200
  let c64_i32_1201 : BitVec 32 := 64#32
  let v1934 : BitVec 32 := Scalar.muli v1933 c64_i32_1201
  let v1935 : BitVec 32 := v1934
  let v1947 : Index := Scalar.indexCast v1935
  let c0_1205 : Index := 0#32
  ![v1947.toNat, 0]
def k0_mult63 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1217 : BitVec 32 := 4#32
  let v1961 : BitVec 32 := Scalar.muli v1927 c4_i32_1217
  let c1_i32_1218 : BitVec 32 := 1#32
  let v1962 : BitVec 32 := Scalar.addi v1961 c1_i32_1218
  let c64_i32_1219 : BitVec 32 := 64#32
  let v1963 : BitVec 32 := Scalar.muli v1962 c64_i32_1219
  v1963
def k0_mult64 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1217 : BitVec 32 := 4#32
  let v1961 : BitVec 32 := Scalar.muli v1927 c4_i32_1217
  let c1_i32_1218 : BitVec 32 := 1#32
  let v1962 : BitVec 32 := Scalar.addi v1961 c1_i32_1218
  let c8_i32_1220 : BitVec 32 := 8#32
  let v1965 : BitVec 32 := Scalar.subi v1962 c8_i32_1220
  let c0_i32_1221 : BitVec 32 := 0#32
  let v1966 : BitVec 32 := Scalar.maxsi v1965 c0_i32_1221
  let c64_i32_1222 : BitVec 32 := 64#32
  let v1967 : BitVec 32 := Scalar.muli v1966 c64_i32_1222
  v1967
def k0_mult65 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1238 : BitVec 32 := 4#32
  let v1994 : BitVec 32 := Scalar.muli v1927 c4_i32_1238
  let c2_i32_1239 : BitVec 32 := 2#32
  let v1995 : BitVec 32 := Scalar.addi v1994 c2_i32_1239
  let c64_i32_1240 : BitVec 32 := 64#32
  let v1996 : BitVec 32 := Scalar.muli v1995 c64_i32_1240
  v1996
def k0_mult66 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1238 : BitVec 32 := 4#32
  let v1994 : BitVec 32 := Scalar.muli v1927 c4_i32_1238
  let c2_i32_1239 : BitVec 32 := 2#32
  let v1995 : BitVec 32 := Scalar.addi v1994 c2_i32_1239
  let c8_i32_1241 : BitVec 32 := 8#32
  let v1998 : BitVec 32 := Scalar.subi v1995 c8_i32_1241
  let c0_i32_1242 : BitVec 32 := 0#32
  let v1999 : BitVec 32 := Scalar.maxsi v1998 c0_i32_1242
  let c64_i32_1243 : BitVec 32 := 64#32
  let v2000 : BitVec 32 := Scalar.muli v1999 c64_i32_1243
  v2000
def k0_mult67 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1259 : BitVec 32 := 4#32
  let v2027 : BitVec 32 := Scalar.muli v1927 c4_i32_1259
  let c3_i32_1260 : BitVec 32 := 3#32
  let v2028 : BitVec 32 := Scalar.addi v2027 c3_i32_1260
  let c64_i32_1261 : BitVec 32 := 64#32
  let v2029 : BitVec 32 := Scalar.muli v2028 c64_i32_1261
  v2029
def k0_mult68 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c4_i32_1259 : BitVec 32 := 4#32
  let v2027 : BitVec 32 := Scalar.muli v1927 c4_i32_1259
  let c3_i32_1260 : BitVec 32 := 3#32
  let v2028 : BitVec 32 := Scalar.addi v2027 c3_i32_1260
  let c8_i32_1262 : BitVec 32 := 8#32
  let v2031 : BitVec 32 := Scalar.subi v2028 c8_i32_1262
  let c0_i32_1263 : BitVec 32 := 0#32
  let v2032 : BitVec 32 := Scalar.maxsi v2031 c0_i32_1263
  let c64_i32_1264 : BitVec 32 := 64#32
  let v2033 : BitVec 32 := Scalar.muli v2032 c64_i32_1264
  v2033
def k0_mult69 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1417 : BitVec 32 := 4#32
  let v2265 : BitVec 32 := Scalar.muli v2264 c4_i32_1417
  let c0_i32_1418 : BitVec 32 := 0#32
  let v2266 : BitVec 32 := Scalar.addi v2265 c0_i32_1418
  let c64_i32_1419 : BitVec 32 := 64#32
  let v2267 : BitVec 32 := Scalar.muli v2266 c64_i32_1419
  v2267
def k0_mult70 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1417 : BitVec 32 := 4#32
  let v2265 : BitVec 32 := Scalar.muli v2264 c4_i32_1417
  let c0_i32_1418 : BitVec 32 := 0#32
  let v2266 : BitVec 32 := Scalar.addi v2265 c0_i32_1418
  let c8_i32_1420 : BitVec 32 := 8#32
  let v2269 : BitVec 32 := Scalar.subi v2266 c8_i32_1420
  let c0_i32_1421 : BitVec 32 := 0#32
  let v2270 : BitVec 32 := Scalar.maxsi v2269 c0_i32_1421
  let c64_i32_1422 : BitVec 32 := 64#32
  let v2271 : BitVec 32 := Scalar.muli v2270 c64_i32_1422
  v2271
def k0_off7 (k0_t1 : Fin k0_t1_loop.trips) (c0_i32_1418 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1417 : BitVec 32 := 4#32
  let v2265 : BitVec 32 := Scalar.muli v2264 c4_i32_1417
  let v2266 : BitVec 32 := Scalar.addi v2265 c0_i32_1418
  let c8_i32_1420 : BitVec 32 := 8#32
  let v2269 : BitVec 32 := Scalar.subi v2266 c8_i32_1420
  let c0_i32_1421 : BitVec 32 := 0#32
  let v2270 : BitVec 32 := Scalar.maxsi v2269 c0_i32_1421
  let c64_i32_1422 : BitVec 32 := 64#32
  let v2271 : BitVec 32 := Scalar.muli v2270 c64_i32_1422
  let v2272 : BitVec 32 := v2271
  let v2275 : Index := Scalar.indexCast v2272
  let c0_1427 : Index := 0#32
  ![v2275.toNat, 0]
def k0_off8 (k0_t1 : Fin k0_t1_loop.trips) (c0_i32_1418 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1417 : BitVec 32 := 4#32
  let v2265 : BitVec 32 := Scalar.muli v2264 c4_i32_1417
  let v2266 : BitVec 32 := Scalar.addi v2265 c0_i32_1418
  let c64_i32_1419 : BitVec 32 := 64#32
  let v2267 : BitVec 32 := Scalar.muli v2266 c64_i32_1419
  let v2268 : BitVec 32 := v2267
  let v2292 : Index := Scalar.indexCast v2268
  let c0_1438 : Index := 0#32
  ![v2292.toNat, 0]
def k0_off9 (k0_t1 : Fin k0_t1_loop.trips) (c0_i32_1418 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1417 : BitVec 32 := 4#32
  let v2265 : BitVec 32 := Scalar.muli v2264 c4_i32_1417
  let v2266 : BitVec 32 := Scalar.addi v2265 c0_i32_1418
  let c64_i32_1419 : BitVec 32 := 64#32
  let v2267 : BitVec 32 := Scalar.muli v2266 c64_i32_1419
  let v2268 : BitVec 32 := v2267
  let v2296 : Index := Scalar.indexCast v2268
  let c128_1439 : Index := 128#32
  ![v2296.toNat, 128]
def k0_mult71 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1440 : BitVec 32 := 4#32
  let v2298 : BitVec 32 := Scalar.muli v2264 c4_i32_1440
  let c1_i32_1441 : BitVec 32 := 1#32
  let v2299 : BitVec 32 := Scalar.addi v2298 c1_i32_1441
  let c64_i32_1442 : BitVec 32 := 64#32
  let v2300 : BitVec 32 := Scalar.muli v2299 c64_i32_1442
  v2300
def k0_mult72 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1440 : BitVec 32 := 4#32
  let v2298 : BitVec 32 := Scalar.muli v2264 c4_i32_1440
  let c1_i32_1441 : BitVec 32 := 1#32
  let v2299 : BitVec 32 := Scalar.addi v2298 c1_i32_1441
  let c8_i32_1443 : BitVec 32 := 8#32
  let v2302 : BitVec 32 := Scalar.subi v2299 c8_i32_1443
  let c0_i32_1444 : BitVec 32 := 0#32
  let v2303 : BitVec 32 := Scalar.maxsi v2302 c0_i32_1444
  let c64_i32_1445 : BitVec 32 := 64#32
  let v2304 : BitVec 32 := Scalar.muli v2303 c64_i32_1445
  v2304
def k0_mult73 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1463 : BitVec 32 := 4#32
  let v2331 : BitVec 32 := Scalar.muli v2264 c4_i32_1463
  let c2_i32_1464 : BitVec 32 := 2#32
  let v2332 : BitVec 32 := Scalar.addi v2331 c2_i32_1464
  let c64_i32_1465 : BitVec 32 := 64#32
  let v2333 : BitVec 32 := Scalar.muli v2332 c64_i32_1465
  v2333
def k0_mult74 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1463 : BitVec 32 := 4#32
  let v2331 : BitVec 32 := Scalar.muli v2264 c4_i32_1463
  let c2_i32_1464 : BitVec 32 := 2#32
  let v2332 : BitVec 32 := Scalar.addi v2331 c2_i32_1464
  let c8_i32_1466 : BitVec 32 := 8#32
  let v2335 : BitVec 32 := Scalar.subi v2332 c8_i32_1466
  let c0_i32_1467 : BitVec 32 := 0#32
  let v2336 : BitVec 32 := Scalar.maxsi v2335 c0_i32_1467
  let c64_i32_1468 : BitVec 32 := 64#32
  let v2337 : BitVec 32 := Scalar.muli v2336 c64_i32_1468
  v2337
def k0_mult75 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1486 : BitVec 32 := 4#32
  let v2364 : BitVec 32 := Scalar.muli v2264 c4_i32_1486
  let c3_i32_1487 : BitVec 32 := 3#32
  let v2365 : BitVec 32 := Scalar.addi v2364 c3_i32_1487
  let c64_i32_1488 : BitVec 32 := 64#32
  let v2366 : BitVec 32 := Scalar.muli v2365 c64_i32_1488
  v2366
def k0_mult76 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c2_i32_1416 : BitVec 32 := 2#32
  let v2264 : BitVec 32 := Scalar.subi v1927 c2_i32_1416
  let c4_i32_1486 : BitVec 32 := 4#32
  let v2364 : BitVec 32 := Scalar.muli v2264 c4_i32_1486
  let c3_i32_1487 : BitVec 32 := 3#32
  let v2365 : BitVec 32 := Scalar.addi v2364 c3_i32_1487
  let c8_i32_1489 : BitVec 32 := 8#32
  let v2368 : BitVec 32 := Scalar.subi v2365 c8_i32_1489
  let c0_i32_1490 : BitVec 32 := 0#32
  let v2369 : BitVec 32 := Scalar.maxsi v2368 c0_i32_1490
  let c64_i32_1491 : BitVec 32 := 64#32
  let v2370 : BitVec 32 := Scalar.muli v2369 c64_i32_1491
  v2370
def k0_mult77 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1510 : BitVec 32 := 4#32
  let v2398 : BitVec 32 := Scalar.muli v2397 c4_i32_1510
  let c0_i32_1511 : BitVec 32 := 0#32
  let v2399 : BitVec 32 := Scalar.addi v2398 c0_i32_1511
  let c64_i32_1512 : BitVec 32 := 64#32
  let v2400 : BitVec 32 := Scalar.muli v2399 c64_i32_1512
  v2400
def k0_mult78 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1510 : BitVec 32 := 4#32
  let v2398 : BitVec 32 := Scalar.muli v2397 c4_i32_1510
  let c0_i32_1511 : BitVec 32 := 0#32
  let v2399 : BitVec 32 := Scalar.addi v2398 c0_i32_1511
  let c8_i32_1513 : BitVec 32 := 8#32
  let v2402 : BitVec 32 := Scalar.subi v2399 c8_i32_1513
  let c0_i32_1514 : BitVec 32 := 0#32
  let v2403 : BitVec 32 := Scalar.maxsi v2402 c0_i32_1514
  let c64_i32_1515 : BitVec 32 := 64#32
  let v2404 : BitVec 32 := Scalar.muli v2403 c64_i32_1515
  v2404
def k0_off10 (k0_t1 : Fin k0_t1_loop.trips) (c0_i32_1511 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1510 : BitVec 32 := 4#32
  let v2398 : BitVec 32 := Scalar.muli v2397 c4_i32_1510
  let v2399 : BitVec 32 := Scalar.addi v2398 c0_i32_1511
  let c64_i32_1512 : BitVec 32 := 64#32
  let v2400 : BitVec 32 := Scalar.muli v2399 c64_i32_1512
  let v2401 : BitVec 32 := v2400
  let v2406 : Index := Scalar.indexCast v2401
  let c0_1516 : Index := 0#32
  ![v2406.toNat, 0]
def k0_off11 (k0_t1 : Fin k0_t1_loop.trips) (c0_i32_1511 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1510 : BitVec 32 := 4#32
  let v2398 : BitVec 32 := Scalar.muli v2397 c4_i32_1510
  let v2399 : BitVec 32 := Scalar.addi v2398 c0_i32_1511
  let c64_i32_1512 : BitVec 32 := 64#32
  let v2400 : BitVec 32 := Scalar.muli v2399 c64_i32_1512
  let v2401 : BitVec 32 := v2400
  let v2409 : Index := Scalar.indexCast v2401
  let c128_1517 : Index := 128#32
  ![v2409.toNat, 128]
def k0_off12 (k0_t1 : Fin k0_t1_loop.trips) (c0_i32_1511 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1510 : BitVec 32 := 4#32
  let v2398 : BitVec 32 := Scalar.muli v2397 c4_i32_1510
  let v2399 : BitVec 32 := Scalar.addi v2398 c0_i32_1511
  let c8_i32_1513 : BitVec 32 := 8#32
  let v2402 : BitVec 32 := Scalar.subi v2399 c8_i32_1513
  let c0_i32_1514 : BitVec 32 := 0#32
  let v2403 : BitVec 32 := Scalar.maxsi v2402 c0_i32_1514
  let c64_i32_1515 : BitVec 32 := 64#32
  let v2404 : BitVec 32 := Scalar.muli v2403 c64_i32_1515
  let v2405 : BitVec 32 := v2404
  let v2417 : Index := Scalar.indexCast v2405
  let c0_1519 : Index := 0#32
  ![v2417.toNat, 0]
def k0_mult79 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1531 : BitVec 32 := 4#32
  let v2431 : BitVec 32 := Scalar.muli v2397 c4_i32_1531
  let c1_i32_1532 : BitVec 32 := 1#32
  let v2432 : BitVec 32 := Scalar.addi v2431 c1_i32_1532
  let c64_i32_1533 : BitVec 32 := 64#32
  let v2433 : BitVec 32 := Scalar.muli v2432 c64_i32_1533
  v2433
def k0_mult80 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1531 : BitVec 32 := 4#32
  let v2431 : BitVec 32 := Scalar.muli v2397 c4_i32_1531
  let c1_i32_1532 : BitVec 32 := 1#32
  let v2432 : BitVec 32 := Scalar.addi v2431 c1_i32_1532
  let c8_i32_1534 : BitVec 32 := 8#32
  let v2435 : BitVec 32 := Scalar.subi v2432 c8_i32_1534
  let c0_i32_1535 : BitVec 32 := 0#32
  let v2436 : BitVec 32 := Scalar.maxsi v2435 c0_i32_1535
  let c64_i32_1536 : BitVec 32 := 64#32
  let v2437 : BitVec 32 := Scalar.muli v2436 c64_i32_1536
  v2437
def k0_mult81 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1552 : BitVec 32 := 4#32
  let v2464 : BitVec 32 := Scalar.muli v2397 c4_i32_1552
  let c2_i32_1553 : BitVec 32 := 2#32
  let v2465 : BitVec 32 := Scalar.addi v2464 c2_i32_1553
  let c64_i32_1554 : BitVec 32 := 64#32
  let v2466 : BitVec 32 := Scalar.muli v2465 c64_i32_1554
  v2466
def k0_mult82 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1552 : BitVec 32 := 4#32
  let v2464 : BitVec 32 := Scalar.muli v2397 c4_i32_1552
  let c2_i32_1553 : BitVec 32 := 2#32
  let v2465 : BitVec 32 := Scalar.addi v2464 c2_i32_1553
  let c8_i32_1555 : BitVec 32 := 8#32
  let v2468 : BitVec 32 := Scalar.subi v2465 c8_i32_1555
  let c0_i32_1556 : BitVec 32 := 0#32
  let v2469 : BitVec 32 := Scalar.maxsi v2468 c0_i32_1556
  let c64_i32_1557 : BitVec 32 := 64#32
  let v2470 : BitVec 32 := Scalar.muli v2469 c64_i32_1557
  v2470
def k0_mult83 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1573 : BitVec 32 := 4#32
  let v2497 : BitVec 32 := Scalar.muli v2397 c4_i32_1573
  let c3_i32_1574 : BitVec 32 := 3#32
  let v2498 : BitVec 32 := Scalar.addi v2497 c3_i32_1574
  let c64_i32_1575 : BitVec 32 := 64#32
  let v2499 : BitVec 32 := Scalar.muli v2498 c64_i32_1575
  v2499
def k0_mult84 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c4_i32_1573 : BitVec 32 := 4#32
  let v2497 : BitVec 32 := Scalar.muli v2397 c4_i32_1573
  let c3_i32_1574 : BitVec 32 := 3#32
  let v2498 : BitVec 32 := Scalar.addi v2497 c3_i32_1574
  let c8_i32_1576 : BitVec 32 := 8#32
  let v2501 : BitVec 32 := Scalar.subi v2498 c8_i32_1576
  let c0_i32_1577 : BitVec 32 := 0#32
  let v2502 : BitVec 32 := Scalar.maxsi v2501 c0_i32_1577
  let c64_i32_1578 : BitVec 32 := 64#32
  let v2503 : BitVec 32 := Scalar.muli v2502 c64_i32_1578
  v2503
def k0_mult85 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1731 : BitVec 32 := 4#32
  let v2735 : BitVec 32 := Scalar.muli v2734 c4_i32_1731
  let c0_i32_1732 : BitVec 32 := 0#32
  let v2736 : BitVec 32 := Scalar.addi v2735 c0_i32_1732
  let c64_i32_1733 : BitVec 32 := 64#32
  let v2737 : BitVec 32 := Scalar.muli v2736 c64_i32_1733
  v2737
def k0_mult86 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1731 : BitVec 32 := 4#32
  let v2735 : BitVec 32 := Scalar.muli v2734 c4_i32_1731
  let c0_i32_1732 : BitVec 32 := 0#32
  let v2736 : BitVec 32 := Scalar.addi v2735 c0_i32_1732
  let c8_i32_1734 : BitVec 32 := 8#32
  let v2739 : BitVec 32 := Scalar.subi v2736 c8_i32_1734
  let c0_i32_1735 : BitVec 32 := 0#32
  let v2740 : BitVec 32 := Scalar.maxsi v2739 c0_i32_1735
  let c64_i32_1736 : BitVec 32 := 64#32
  let v2741 : BitVec 32 := Scalar.muli v2740 c64_i32_1736
  v2741
def k0_off13 (k0_t1 : Fin k0_t1_loop.trips) (c0_i32_1732 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1731 : BitVec 32 := 4#32
  let v2735 : BitVec 32 := Scalar.muli v2734 c4_i32_1731
  let v2736 : BitVec 32 := Scalar.addi v2735 c0_i32_1732
  let c8_i32_1734 : BitVec 32 := 8#32
  let v2739 : BitVec 32 := Scalar.subi v2736 c8_i32_1734
  let c0_i32_1735 : BitVec 32 := 0#32
  let v2740 : BitVec 32 := Scalar.maxsi v2739 c0_i32_1735
  let c64_i32_1736 : BitVec 32 := 64#32
  let v2741 : BitVec 32 := Scalar.muli v2740 c64_i32_1736
  let v2742 : BitVec 32 := v2741
  let v2745 : Index := Scalar.indexCast v2742
  let c0_1741 : Index := 0#32
  ![v2745.toNat, 0]
def k0_off14 (k0_t1 : Fin k0_t1_loop.trips) (c0_i32_1732 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1731 : BitVec 32 := 4#32
  let v2735 : BitVec 32 := Scalar.muli v2734 c4_i32_1731
  let v2736 : BitVec 32 := Scalar.addi v2735 c0_i32_1732
  let c64_i32_1733 : BitVec 32 := 64#32
  let v2737 : BitVec 32 := Scalar.muli v2736 c64_i32_1733
  let v2738 : BitVec 32 := v2737
  let v2762 : Index := Scalar.indexCast v2738
  let c0_1752 : Index := 0#32
  ![v2762.toNat, 0]
def k0_off15 (k0_t1 : Fin k0_t1_loop.trips) (c0_i32_1732 : BitVec 32) : Fin 2 → Nat :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1731 : BitVec 32 := 4#32
  let v2735 : BitVec 32 := Scalar.muli v2734 c4_i32_1731
  let v2736 : BitVec 32 := Scalar.addi v2735 c0_i32_1732
  let c64_i32_1733 : BitVec 32 := 64#32
  let v2737 : BitVec 32 := Scalar.muli v2736 c64_i32_1733
  let v2738 : BitVec 32 := v2737
  let v2766 : Index := Scalar.indexCast v2738
  let c128_1753 : Index := 128#32
  ![v2766.toNat, 128]
def k0_mult87 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1754 : BitVec 32 := 4#32
  let v2768 : BitVec 32 := Scalar.muli v2734 c4_i32_1754
  let c1_i32_1755 : BitVec 32 := 1#32
  let v2769 : BitVec 32 := Scalar.addi v2768 c1_i32_1755
  let c64_i32_1756 : BitVec 32 := 64#32
  let v2770 : BitVec 32 := Scalar.muli v2769 c64_i32_1756
  v2770
def k0_mult88 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1754 : BitVec 32 := 4#32
  let v2768 : BitVec 32 := Scalar.muli v2734 c4_i32_1754
  let c1_i32_1755 : BitVec 32 := 1#32
  let v2769 : BitVec 32 := Scalar.addi v2768 c1_i32_1755
  let c8_i32_1757 : BitVec 32 := 8#32
  let v2772 : BitVec 32 := Scalar.subi v2769 c8_i32_1757
  let c0_i32_1758 : BitVec 32 := 0#32
  let v2773 : BitVec 32 := Scalar.maxsi v2772 c0_i32_1758
  let c64_i32_1759 : BitVec 32 := 64#32
  let v2774 : BitVec 32 := Scalar.muli v2773 c64_i32_1759
  v2774
def k0_mult89 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1777 : BitVec 32 := 4#32
  let v2801 : BitVec 32 := Scalar.muli v2734 c4_i32_1777
  let c2_i32_1778 : BitVec 32 := 2#32
  let v2802 : BitVec 32 := Scalar.addi v2801 c2_i32_1778
  let c64_i32_1779 : BitVec 32 := 64#32
  let v2803 : BitVec 32 := Scalar.muli v2802 c64_i32_1779
  v2803
def k0_mult90 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1777 : BitVec 32 := 4#32
  let v2801 : BitVec 32 := Scalar.muli v2734 c4_i32_1777
  let c2_i32_1778 : BitVec 32 := 2#32
  let v2802 : BitVec 32 := Scalar.addi v2801 c2_i32_1778
  let c8_i32_1780 : BitVec 32 := 8#32
  let v2805 : BitVec 32 := Scalar.subi v2802 c8_i32_1780
  let c0_i32_1781 : BitVec 32 := 0#32
  let v2806 : BitVec 32 := Scalar.maxsi v2805 c0_i32_1781
  let c64_i32_1782 : BitVec 32 := 64#32
  let v2807 : BitVec 32 := Scalar.muli v2806 c64_i32_1782
  v2807
def k0_mult91 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1800 : BitVec 32 := 4#32
  let v2834 : BitVec 32 := Scalar.muli v2734 c4_i32_1800
  let c3_i32_1801 : BitVec 32 := 3#32
  let v2835 : BitVec 32 := Scalar.addi v2834 c3_i32_1801
  let c64_i32_1802 : BitVec 32 := 64#32
  let v2836 : BitVec 32 := Scalar.muli v2835 c64_i32_1802
  v2836
def k0_mult92 (k0_t1 : Fin k0_t1_loop.trips) : BitVec 32 :=
  let c4_i32_1195 : BitVec 32 := 4#32
  let c2_i32_1194 : BitVec 32 := 2#32
  let c0_i32_902 : BitVec 32 := 0#32
  let c1_i32_904 : BitVec 32 := 1#32
  let arg15 : BitVec 32 := Scf.iv c0_i32_902 c1_i32_904 k0_t1
  let v1926 : BitVec 32 := Scalar.muli c2_i32_1194 arg15
  let v1927 : BitVec 32 := Scalar.addi c4_i32_1195 v1926
  let c1_i32_1509 : BitVec 32 := 1#32
  let v2397 : BitVec 32 := Scalar.addi v1927 c1_i32_1509
  let c2_i32_1730 : BitVec 32 := 2#32
  let v2734 : BitVec 32 := Scalar.subi v2397 c2_i32_1730
  let c4_i32_1800 : BitVec 32 := 4#32
  let v2834 : BitVec 32 := Scalar.muli v2734 c4_i32_1800
  let c3_i32_1801 : BitVec 32 := 3#32
  let v2835 : BitVec 32 := Scalar.addi v2834 c3_i32_1801
  let c8_i32_1803 : BitVec 32 := 8#32
  let v2838 : BitVec 32 := Scalar.subi v2835 c8_i32_1803
  let c0_i32_1804 : BitVec 32 := 0#32
  let v2839 : BitVec 32 := Scalar.maxsi v2838 c0_i32_1804
  let c64_i32_1805 : BitVec 32 := 64#32
  let v2840 : BitVec 32 := Scalar.muli v2839 c64_i32_1805
  v2840
def k0_mult93 : BitVec 32 :=
  let c3584_i32 : BitVec 32 := 3584#32
  c3584_i32
def k0_mult94 : BitVec 32 :=
  let c48_i32 : BitVec 32 := 48#32
  let c0_i32_1042 : BitVec 32 := 0#32
  let v1695 : BitVec 32 := Scalar.maxsi c48_i32 c0_i32_1042
  let c64_i32_1043 : BitVec 32 := 64#32
  let v1696 : BitVec 32 := Scalar.muli v1695 c64_i32_1043
  v1696
def k0_mult95 : BitVec 32 :=
  let c3648_i32 : BitVec 32 := 3648#32
  c3648_i32
def k0_mult96 : BitVec 32 :=
  let c49_i32 : BitVec 32 := 49#32
  let c0_i32_1061 : BitVec 32 := 0#32
  let v1724 : BitVec 32 := Scalar.maxsi c49_i32 c0_i32_1061
  let c64_i32_1062 : BitVec 32 := 64#32
  let v1725 : BitVec 32 := Scalar.muli v1724 c64_i32_1062
  v1725
def k0_mult97 : BitVec 32 :=
  let c3712_i32 : BitVec 32 := 3712#32
  c3712_i32
def k0_mult98 : BitVec 32 :=
  let c50_i32 : BitVec 32 := 50#32
  let c0_i32_1080 : BitVec 32 := 0#32
  let v1753 : BitVec 32 := Scalar.maxsi c50_i32 c0_i32_1080
  let c64_i32_1081 : BitVec 32 := 64#32
  let v1754 : BitVec 32 := Scalar.muli v1753 c64_i32_1081
  v1754
def k0_mult99 : BitVec 32 :=
  let c3776_i32 : BitVec 32 := 3776#32
  c3776_i32
def k0_mult100 : BitVec 32 :=
  let c51_i32 : BitVec 32 := 51#32
  let c0_i32_1099 : BitVec 32 := 0#32
  let v1782 : BitVec 32 := Scalar.maxsi c51_i32 c0_i32_1099
  let c64_i32_1100 : BitVec 32 := 64#32
  let v1783 : BitVec 32 := Scalar.muli v1782 c64_i32_1100
  v1783
def k0_mult101 : BitVec 32 :=
  let c3840_i32 : BitVec 32 := 3840#32
  c3840_i32
def k0_mult102 : BitVec 32 :=
  let c52_i32 : BitVec 32 := 52#32
  let c0_i32_1118 : BitVec 32 := 0#32
  let v1811 : BitVec 32 := Scalar.maxsi c52_i32 c0_i32_1118
  let c64_i32_1119 : BitVec 32 := 64#32
  let v1812 : BitVec 32 := Scalar.muli v1811 c64_i32_1119
  v1812
def k0_mult103 : BitVec 32 :=
  let c3904_i32 : BitVec 32 := 3904#32
  c3904_i32
def k0_mult104 : BitVec 32 :=
  let c53_i32 : BitVec 32 := 53#32
  let c0_i32_1137 : BitVec 32 := 0#32
  let v1840 : BitVec 32 := Scalar.maxsi c53_i32 c0_i32_1137
  let c64_i32_1138 : BitVec 32 := 64#32
  let v1841 : BitVec 32 := Scalar.muli v1840 c64_i32_1138
  v1841
def k0_mult105 : BitVec 32 :=
  let c3968_i32 : BitVec 32 := 3968#32
  c3968_i32
def k0_mult106 : BitVec 32 :=
  let c54_i32 : BitVec 32 := 54#32
  let c0_i32_1156 : BitVec 32 := 0#32
  let v1869 : BitVec 32 := Scalar.maxsi c54_i32 c0_i32_1156
  let c64_i32_1157 : BitVec 32 := 64#32
  let v1870 : BitVec 32 := Scalar.muli v1869 c64_i32_1157
  v1870
def k0_mult107 : BitVec 32 :=
  let c4032_i32 : BitVec 32 := 4032#32
  c4032_i32
def k0_mult108 : BitVec 32 :=
  let c55_i32 : BitVec 32 := 55#32
  let c0_i32_1175 : BitVec 32 := 0#32
  let v1898 : BitVec 32 := Scalar.maxsi c55_i32 c0_i32_1175
  let c64_i32_1176 : BitVec 32 := 64#32
  let v1899 : BitVec 32 := Scalar.muli v1898 c64_i32_1176
  v1899
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceIdeal.lean ====
abbrev S8x4096x8x4x64 : Shape := ⟨5, ![8, 4096, 8, 4, 64]⟩
abbrev S8x4096x8x64 : Shape := ⟨4, ![8, 4096, 8, 64]⟩
abbrev S32x320 : Shape := ⟨2, ![32, 320]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S32x4096x4096 : Shape := ⟨3, ![32, 4096, 4096]⟩
abbrev S8x4x4096x4096 : Shape := ⟨4, ![8, 4, 4096, 4096]⟩
abbrev S8x8x4096x4096x4 : Shape := ⟨5, ![8, 8, 4096, 4096, 4]⟩
abbrev S8x8x4x4096x4096 : Shape := ⟨5, ![8, 8, 4, 4096, 4096]⟩
abbrev S1x8x4x4096x4096 : Shape := ⟨5, ![1, 8, 4, 4096, 4096]⟩
abbrev S8x8x4x4096 : Shape := ⟨4, ![8, 8, 4, 4096]⟩
abbrev S8x8x4x4096x1 : Shape := ⟨5, ![8, 8, 4, 4096, 1]⟩
abbrev S8x8x64x4x4096 : Shape := ⟨5, ![8, 8, 64, 4, 4096]⟩
abbrev S32768x2048 : Shape := ⟨2, ![32768, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x8x4x64, .f32⟩
  | .hbm, ⟨1, _⟩ => ⟨S8x4096x8x64, .f32⟩
  | .hbm, ⟨2, _⟩ => ⟨S8x4096x8x64, .f32⟩
  | .hbm, ⟨3, _⟩ => ⟨S32x320, .f32⟩
  | .hbm, ⟨4, _⟩ => ⟨S4096, .i32⟩
  | .hbm, ⟨5, _⟩ => ⟨S4096x1, .i32⟩
  | .hbm, ⟨6, _⟩ => ⟨S4096, .i32⟩
  | .hbm, ⟨7, _⟩ => ⟨S1x4096, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096x1, .i32⟩
  | .hbm, ⟨30, _⟩ => ⟨S32x4096x4096, .f32⟩
  | .hbm, ⟨31, _⟩ => ⟨S8x4x4096x4096, .f32⟩
  | .hbm, ⟨32, _⟩ => ⟨S_, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S1x4096, .i32⟩
  | .hbm, ⟨37, _⟩ => ⟨S1x4096, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .i32⟩
  | .hbm, ⟨42, _⟩ => ⟨S1x4096, .i32⟩
  | .hbm, ⟨43, _⟩ => ⟨S1x4096, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S4096x4096, .i1⟩
  | .hbm, ⟨48, _⟩ => ⟨S8x8x4096x4096x4, .f32⟩
  | .hbm, ⟨49, _⟩ => ⟨S8x8x4x4096x4096, .f32⟩
  | .hbm, ⟨50, _⟩ => ⟨S_, .f32⟩
  | .hbm, ⟨51, _⟩ => ⟨S8x8x4x4096x4096, .f32⟩
  | .hbm, ⟨52, _⟩ => ⟨S8x8x4x4096x4096, .f32⟩
  | .hbm, ⟨53, _⟩ => ⟨S1x8x4x4096x4096, .f32⟩
  | .hbm, ⟨54, _⟩ => ⟨S8x8x4x4096x4096, .f32⟩
  | .hbm, ⟨55, _⟩ => ⟨S8x8x4x4096x4096, .f32⟩
  | .hbm, ⟨56, _⟩ => ⟨S_, .f32⟩
  | .hbm, ⟨57, _⟩ => ⟨S_, .f32⟩
  | .hbm, ⟨58, _⟩ => ⟨S8x8x4x4096x4096, .i1⟩
  | .hbm, ⟨59, _⟩ => ⟨S8x8x4x4096x4096, .f32⟩
  | .hbm, ⟨60, _⟩ => ⟨S8x8x4x4096x4096, .f32⟩
  | .hbm, ⟨61, _⟩ => ⟨S_, .f32⟩
  | .hbm, ⟨62, _⟩ => ⟨S8x8x4x4096, .f32⟩
  | .hbm, ⟨63, _⟩ => ⟨S_, .f32⟩
  | .hbm, ⟨64, _⟩ => ⟨S8x8x4x4096, .f32⟩
  | .hbm, ⟨65, _⟩ => ⟨S8x8x4x4096, .f32⟩
  | .hbm, ⟨66, _⟩ => ⟨S8x8x4x4096x1, .f32⟩
  | .hbm, ⟨67, _⟩ => ⟨S8x8x4x4096x4096, .f32⟩
  | .hbm, ⟨68, _⟩ => ⟨S8x8x4x4096x4096, .f32⟩
  | .hbm, ⟨69, _⟩ => ⟨S8x8x4x4096x4096, .f32⟩
  | .hbm, ⟨70, _⟩ => ⟨S_, .f32⟩
  | .hbm, ⟨71, _⟩ => ⟨S8x8x4x4096, .f32⟩
  | .hbm, ⟨72, _⟩ => ⟨S8x8x4x4096x1, .f32⟩
  | .hbm, ⟨73, _⟩ => ⟨S8x8x4x4096x4096, .f32⟩
  | .hbm, ⟨74, _⟩ => ⟨S8x8x4x4096x4096, .f32⟩
  | .hbm, ⟨75, _⟩ => ⟨S8x8x64x4x4096, .f32⟩
  | .hbm, ⟨76, _⟩ => ⟨S8x4096x8x4x64, .f32⟩
  | .hbm, ⟨77, _⟩ => ⟨S32768x2048, .f32⟩
  | .hbm, ⟨78, _⟩ => ⟨S32768x2048, .bf16⟩
  | _, _ => ⟨S8x4096x8x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== KernelOut.lean ====
abbrev S32768x2048 : Shape := ⟨2, ![32768, 2048]⟩
abbrev S512x2048 : Shape := ⟨2, ![512, 2048]⟩
abbrev S2048x2048 : Shape := ⟨2, ![2048, 2048]⟩
abbrev S33280x2048 : Shape := ⟨2, ![33280, 2048]⟩

abbrev nBuf : Space → Nat
  | .hbm => 8
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S512x2048, .f32⟩
  | .hbm, ⟨2, _⟩ => ⟨S2048x2048, .f32⟩
  | .hbm, ⟨3, _⟩ => ⟨S33280x2048, .f32⟩
  | .hbm, ⟨4, _⟩ => ⟨S32768x2048, .bf16⟩
  | .hbm, ⟨5, _⟩ => ⟨S512x2048, .bf16⟩
  | .hbm, ⟨6, _⟩ => ⟨S2048x2048, .bf16⟩
  | .hbm, ⟨7, _⟩ => ⟨S33280x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOutIdeal.lean ====
abbrev S32768x2048 : Shape := ⟨2, ![32768, 2048]⟩
abbrev S512x2048 : Shape := ⟨2, ![512, 2048]⟩
abbrev S2048x2048 : Shape := ⟨2, ![2048, 2048]⟩
abbrev S33280x2048 : Shape := ⟨2, ![33280, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S512x2048, .f32⟩
  | .hbm, ⟨2, _⟩ => ⟨S2048x2048, .f32⟩
  | .hbm, ⟨3, _⟩ => ⟨S33280x2048, .f32⟩
  | .hbm, ⟨4, _⟩ => ⟨S33280x2048, .f32⟩
  | .hbm, ⟨5, _⟩ => ⟨S33280x2048, .f32⟩
  | .hbm, ⟨6, _⟩ => ⟨S33280x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelOut0.lean ====
abbrev S32768x2048 : Shape := ⟨2, ![32768, 2048]⟩
abbrev S512x2048 : Shape := ⟨2, ![512, 2048]⟩
abbrev S2048x2048 : Shape := ⟨2, ![2048, 2048]⟩
abbrev S33280x2048 : Shape := ⟨2, ![33280, 2048]⟩

abbrev nBuf : Space → Nat
  | .hbm => 9
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S512x2048, .f32⟩
  | .hbm, ⟨2, _⟩ => ⟨S2048x2048, .f32⟩
  | .hbm, ⟨3, _⟩ => ⟨S32768x2048, .f32⟩
  | .hbm, ⟨4, _⟩ => ⟨S512x2048, .f32⟩
  | .hbm, ⟨5, _⟩ => ⟨S32768x2048, .bf16⟩
  | .hbm, ⟨6, _⟩ => ⟨S512x2048, .bf16⟩
  | .hbm, ⟨7, _⟩ => ⟨S2048x2048, .bf16⟩
  | .hbm, ⟨8, _⟩ => ⟨S33280x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOut0Ideal.lean ====
abbrev S32768x2048 : Shape := ⟨2, ![32768, 2048]⟩
abbrev S512x2048 : Shape := ⟨2, ![512, 2048]⟩
abbrev S2048x2048 : Shape := ⟨2, ![2048, 2048]⟩
abbrev S33280x2048 : Shape := ⟨2, ![33280, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S512x2048, .f32⟩
  | .hbm, ⟨2, _⟩ => ⟨S2048x2048, .f32⟩
  | .hbm, ⟨3, _⟩ => ⟨S32768x2048, .f32⟩
  | .hbm, ⟨4, _⟩ => ⟨S512x2048, .f32⟩
  | .hbm, ⟨5, _⟩ => ⟨S33280x2048, .f32⟩
  | .hbm, ⟨6, _⟩ => ⟨S33280x2048, .f32⟩
  | .hbm, ⟨7, _⟩ => ⟨S33280x2048, .f32⟩
  | .hbm, ⟨8, _⟩ => ⟨S33280x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== KernelFfn.lean ====
abbrev S40 : Shape := ⟨1, ![40]⟩
abbrev S1 : Shape := ⟨1, ![1]⟩
abbrev S33280x2048 : Shape := ⟨2, ![33280, 2048]⟩
abbrev S1x2048 : Shape := ⟨2, ![1, 2048]⟩
abbrev S2x1x2048x5632 : Shape := ⟨4, ![2, 1, 2048, 5632]⟩
abbrev S2x1x5632x2048 : Shape := ⟨4, ![2, 1, 5632, 2048]⟩
abbrev S832x2048 : Shape := ⟨2, ![832, 2048]⟩
abbrev S1x1x2048x512 : Shape := ⟨4, ![1, 1, 2048, 512]⟩
abbrev S1x1x512x2048 : Shape := ⟨4, ![1, 1, 512, 2048]⟩
abbrev S832x512 : Shape := ⟨2, ![832, 512]⟩
abbrev S832 : Shape := ⟨1, ![832]⟩
abbrev S832x1 : Shape := ⟨2, ![832, 1]⟩
abbrev S2048x512 : Shape := ⟨2, ![2048, 512]⟩
abbrev S512x2048 : Shape := ⟨2, ![512, 2048]⟩

abbrev nBuf : Space → Nat
  | .hbm => 6
  | .vmem => 15
  | .smem => 2
  | _ => 0

abbrev bufTy : (tb : Table) → Fin (tcTables nBuf tb) → BufTy
  | .hbm, ⟨0, _⟩ => ⟨S33280x2048, .f32⟩
  | .hbm, ⟨1, _⟩ => ⟨S1x2048, .f32⟩
  | .hbm, ⟨2, _⟩ => ⟨S2x1x2048x5632, .bf16⟩
  | .hbm, ⟨3, _⟩ => ⟨S2x1x2048x5632, .bf16⟩
  | .hbm, ⟨4, _⟩ => ⟨S2x1x5632x2048, .bf16⟩
  | .hbm, ⟨5, _⟩ => ⟨S33280x2048, .f32⟩
  | .local _ .vmem, ⟨0, _⟩ => ⟨S832x2048, .f32⟩
  | .local _ .vmem, ⟨1, _⟩ => ⟨S832x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S832x2048, .f32⟩
  | .local _ .vmem, ⟨10, _⟩ => ⟨S832x2048, .f32⟩
  | .local _ .vmem, ⟨11, _⟩ => ⟨S832x2048, .bf16⟩
  | .local _ .vmem, ⟨12, _⟩ => ⟨S832x2048, .f32⟩
  | .local _ .vmem, ⟨13, _⟩ => ⟨S832x512, .bf16⟩
  | .local _ .vmem, ⟨14, _⟩ => ⟨S832x512, .bf16⟩
  | .local _ .smem, ⟨0, _⟩ => ⟨S40, .i32⟩
  | .local _ .smem, ⟨1, _⟩ => ⟨S1, .i32⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![40, 12], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c11_i32_22 : BitVec 32 := 11#32
  let v47 : BitVec 1 := Scalar.cmpi .eq arg1 c11_i32_22
  let v48 : BitVec 32 := Scalar.extui v47
  let c0_i32_23 : BitVec 32 := 0#32
  let v49 : BitVec 1 := Scalar.cmpi .ne v48 c0_i32_23
  v49

def k0_cond6 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c11_i32 : BitVec 32 := 11#32
  let v6 : BitVec 1 := Scalar.cmpi .eq arg1 c11_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.minsi arg1 c10_i32
  let c10_i32_0 : BitVec 32 := 10#32
  let v5 : BitVec 32 := Scalar.select v3 v4 c10_i32_0
  let c0_i32 : BitVec 32 := 0#32
  let c0_i32_1 : BitVec 32 := 0#32
  let c0_i32_2 : BitVec 32 := 0#32
  ![c0_i32.toNat, v1.toNat, c0_i32_1.toNat, v5.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.minsi arg1 c10_i32
  let c10_i32_0 : BitVec 32 := 10#32
  let v5 : BitVec 32 := Scalar.select v3 v4 c10_i32_0
  let c0_i32 : BitVec 32 := 0#32
  let c0_i32_1 : BitVec 32 := 0#32
  let c0_i32_2 : BitVec 32 := 0#32
  ![c0_i32.toNat, v1.toNat, c0_i32_1.toNat, v5.toNat]

def cc0_transform_4 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.subi arg1 c1_i32
  let c0_i32 : BitVec 32 := 0#32
  let v5 : BitVec 32 := Scalar.maxsi v4 c0_i32
  let c10_i32 : BitVec 32 := 10#32
  let v6 : BitVec 32 := Scalar.select v3 v5 c10_i32
  let c0_i32_0 : BitVec 32 := 0#32
  let c0_i32_1 : BitVec 32 := 0#32
  let c0_i32_2 : BitVec 32 := 0#32
  ![c0_i32_0.toNat, v1.toNat, v6.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S832x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S40 : Shape := ⟨1, ![40]⟩
abbrev S1 : Shape := ⟨1, ![1]⟩
abbrev S33280x2048 : Shape := ⟨2, ![33280, 2048]⟩
abbrev S1x2048 : Shape := ⟨2, ![1, 2048]⟩
abbrev S2x1x2048x5632 : Shape := ⟨4, ![2, 1, 2048, 5632]⟩
abbrev S2x1x5632x2048 : Shape := ⟨4, ![2, 1, 5632, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S_ : Shape := ⟨0, ![]⟩
abbrev S33280 : Shape := ⟨1, ![33280]⟩
abbrev S33280x1 : Shape := ⟨2, ![33280, 1]⟩
abbrev S33280x5632 : Shape := ⟨2, ![33280, 5632]⟩

abbrev nBuf : Space → Nat
  | .hbm => 45
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S33280x2048, .f32⟩
  | .hbm, ⟨3, _⟩ => ⟨S1x2048, .f32⟩
  | .hbm, ⟨4, _⟩ => ⟨S2x1x2048x5632, .bf16⟩
  | .hbm, ⟨5, _⟩ => ⟨S2x1x2048x5632, .bf16⟩
  | .hbm, ⟨6, _⟩ => ⟨S2x1x5632x2048, .bf16⟩
  | .hbm, ⟨7, _⟩ => ⟨S1x1x2048x5632, .bf16⟩
  | .hbm, ⟨8, _⟩ => ⟨S2048x5632, .bf16⟩
  | .hbm, ⟨9, _⟩ => ⟨S2048x5632, .f32⟩
  | .hbm, ⟨10, _⟩ => ⟨S1x1x2048x5632, .bf16⟩
  | .hbm, ⟨11, _⟩ => ⟨S2048x5632, .bf16⟩
  | .hbm, ⟨12, _⟩ => ⟨S2048x5632, .f32⟩
  | .hbm, ⟨13, _⟩ => ⟨S1x1x5632x2048, .bf16⟩
  | .hbm, ⟨14, _⟩ => ⟨S5632x2048, .bf16⟩
  | .hbm, ⟨15, _⟩ => ⟨S5632x2048, .f32⟩
  | .hbm, ⟨16, _⟩ => ⟨S33280x2048, .f32⟩
  | .hbm, ⟨17, _⟩ => ⟨S_, .f32⟩
  | .hbm, ⟨18, _⟩ => ⟨S33280, .f32⟩
  | .hbm, ⟨19, _⟩ => ⟨S33280x1, .f32⟩
  | .hbm, ⟨20, _⟩ => ⟨S_, .f32⟩
  | .hbm, ⟨21, _⟩ => ⟨S33280x1, .f32⟩
  | .hbm, ⟨22, _⟩ => ⟨S33280x1, .f32⟩
  | .hbm, ⟨23, _⟩ => ⟨S_, .f32⟩
  | .hbm, ⟨24, _⟩ => ⟨S33280x1, .f32⟩
  | .hbm, ⟨25, _⟩ => ⟨S33280x1, .f32⟩
  | .hbm, ⟨26, _⟩ => ⟨S33280x1, .f32⟩
  | .hbm, ⟨27, _⟩ => ⟨S33280x2048, .f32⟩
  | .hbm, ⟨28, _⟩ => ⟨S33280x2048, .f32⟩
  | .hbm, ⟨29, _⟩ => ⟨S33280x2048, .f32⟩
  | .hbm, ⟨30, _⟩ => ⟨S33280x2048, .f32⟩
  | .hbm, ⟨31, _⟩ => ⟨S33280x5632, .f32⟩
  | .hbm, ⟨32, _⟩ => ⟨S33280x5632, .f32⟩
  | .hbm, ⟨33, _⟩ => ⟨S33280x5632, .f32⟩
  | .hbm, ⟨34, _⟩ => ⟨S_, .f32⟩
  | .hbm, ⟨35, _⟩ => ⟨S33280x5632, .f32⟩
  | .hbm, ⟨36, _⟩ => ⟨S33280x5632, .f32⟩
  | .hbm, ⟨37, _⟩ => ⟨S_, .f32⟩
  | .hbm, ⟨38, _⟩ => ⟨S33280x5632, .f32⟩
  | .hbm, ⟨39, _⟩ => ⟨S33280x5632, .f32⟩
  | .hbm, ⟨40, _⟩ => ⟨S33280x5632, .f32⟩
  | .hbm, ⟨41, _⟩ => ⟨S33280x5632, .f32⟩
  | .hbm, ⟨42, _⟩ => ⟨S33280x5632, .f32⟩
  | .hbm, ⟨43, _⟩ => ⟨S33280x2048, .f32⟩
  | .hbm, ⟨44, _⟩ => ⟨S33280x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== KernelFfn2.lean ====
abbrev S40 : Shape := ⟨1, ![40]⟩
abbrev S1 : Shape := ⟨1, ![1]⟩
abbrev S33280x2048 : Shape := ⟨2, ![33280, 2048]⟩
abbrev S1x2048 : Shape := ⟨2, ![1, 2048]⟩
abbrev S2x1x2048x5632 : Shape := ⟨4, ![2, 1, 2048, 5632]⟩
abbrev S2x1x5632x2048 : Shape := ⟨4, ![2, 1, 5632, 2048]⟩
abbrev S832x2048 : Shape := ⟨2, ![832, 2048]⟩
abbrev S1x1x2048x512 : Shape := ⟨4, ![1, 1, 2048, 512]⟩
abbrev S1x1x512x2048 : Shape := ⟨4, ![1, 1, 512, 2048]⟩
abbrev S832x512 : Shape := ⟨2, ![832, 512]⟩
abbrev S832 : Shape := ⟨1, ![832]⟩
abbrev S832x1 : Shape := ⟨2, ![832, 1]⟩
abbrev S2048x512 : Shape := ⟨2, ![2048, 512]⟩
abbrev S512x2048 : Shape := ⟨2, ![512, 2048]⟩

abbrev nBuf : Space → Nat
  | .hbm => 6
  | .vmem => 15
  | .smem => 2
  | _ => 0

abbrev bufTy : (tb : Table) → Fin (tcTables nBuf tb) → BufTy
  | .hbm, ⟨0, _⟩ => ⟨S33280x2048, .f32⟩
  | .hbm, ⟨1, _⟩ => ⟨S1x2048, .f32⟩
  | .hbm, ⟨2, _⟩ => ⟨S2x1x2048x5632, .bf16⟩
  | .hbm, ⟨3, _⟩ => ⟨S2x1x2048x5632, .bf16⟩
  | .hbm, ⟨4, _⟩ => ⟨S2x1x5632x2048, .bf16⟩
  | .hbm, ⟨5, _⟩ => ⟨S33280x2048, .f32⟩
  | .local _ .vmem, ⟨0, _⟩ => ⟨S832x2048, .f32⟩
  | .local _ .vmem, ⟨1, _⟩ => ⟨S832x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S832x2048, .f32⟩
  | .local _ .vmem, ⟨10, _⟩ => ⟨S832x2048, .f32⟩
  | .local _ .vmem, ⟨11, _⟩ => ⟨S832x2048, .bf16⟩
  | .local _ .vmem, ⟨12, _⟩ => ⟨S832x2048, .f32⟩
  | .local _ .vmem, ⟨13, _⟩ => ⟨S832x512, .bf16⟩
  | .local _ .vmem, ⟨14, _⟩ => ⟨S832x512, .bf16⟩
  | .local _ .smem, ⟨0, _⟩ => ⟨S40, .i32⟩
  | .local _ .smem, ⟨1, _⟩ => ⟨S1, .i32⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![40, 12], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c11_i32_22 : BitVec 32 := 11#32
  let v47 : BitVec 1 := Scalar.cmpi .eq arg1 c11_i32_22
  let v48 : BitVec 32 := Scalar.extui v47
  let c0_i32_23 : BitVec 32 := 0#32
  let v49 : BitVec 1 := Scalar.cmpi .ne v48 c0_i32_23
  v49

def k0_cond6 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c11_i32 : BitVec 32 := 11#32
  let v6 : BitVec 1 := Scalar.cmpi .eq arg1 c11_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.minsi arg1 c10_i32
  let c10_i32_0 : BitVec 32 := 10#32
  let v5 : BitVec 32 := Scalar.select v3 v4 c10_i32_0
  let c1_i32 : BitVec 32 := 1#32
  let c0_i32 : BitVec 32 := 0#32
  let c0_i32_1 : BitVec 32 := 0#32
  ![c1_i32.toNat, v1.toNat, c0_i32.toNat, v5.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.minsi arg1 c10_i32
  let c10_i32_0 : BitVec 32 := 10#32
  let v5 : BitVec 32 := Scalar.select v3 v4 c10_i32_0
  let c1_i32 : BitVec 32 := 1#32
  let c0_i32 : BitVec 32 := 0#32
  let c0_i32_1 : BitVec 32 := 0#32
  ![c1_i32.toNat, v1.toNat, c0_i32.toNat, v5.toNat]

def cc0_transform_4 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.subi arg1 c1_i32
  let c0_i32 : BitVec 32 := 0#32
  let v5 : BitVec 32 := Scalar.maxsi v4 c0_i32
  let c10_i32 : BitVec 32 := 10#32
  let v6 : BitVec 32 := Scalar.select v3 v5 c10_i32
  let c1_i32_0 : BitVec 32 := 1#32
  let c0_i32_1 : BitVec 32 := 0#32
  let c0_i32_2 : BitVec 32 := 0#32
  ![c1_i32_0.toNat, v1.toNat, v6.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S832x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfn2Ideal.lean ====
abbrev S40 : Shape := ⟨1, ![40]⟩
abbrev S1 : Shape := ⟨1, ![1]⟩
abbrev S33280x2048 : Shape := ⟨2, ![33280, 2048]⟩
abbrev S1x2048 : Shape := ⟨2, ![1, 2048]⟩
abbrev S2x1x2048x5632 : Shape := ⟨4, ![2, 1, 2048, 5632]⟩
abbrev S2x1x5632x2048 : Shape := ⟨4, ![2, 1, 5632, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S_ : Shape := ⟨0, ![]⟩
abbrev S33280 : Shape := ⟨1, ![33280]⟩
abbrev S33280x1 : Shape := ⟨2, ![33280, 1]⟩
abbrev S33280x5632 : Shape := ⟨2, ![33280, 5632]⟩

abbrev nBuf : Space → Nat
  | .hbm => 45
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S33280x2048, .f32⟩
  | .hbm, ⟨3, _⟩ => ⟨S1x2048, .f32⟩
  | .hbm, ⟨4, _⟩ => ⟨S2x1x2048x5632, .bf16⟩
  | .hbm, ⟨5, _⟩ => ⟨S2x1x2048x5632, .bf16⟩
  | .hbm, ⟨6, _⟩ => ⟨S2x1x5632x2048, .bf16⟩
  | .hbm, ⟨7, _⟩ => ⟨S1x1x2048x5632, .bf16⟩
  | .hbm, ⟨8, _⟩ => ⟨S2048x5632, .bf16⟩
  | .hbm, ⟨9, _⟩ => ⟨S2048x5632, .f32⟩
  | .hbm, ⟨10, _⟩ => ⟨S1x1x2048x5632, .bf16⟩
  | .hbm, ⟨11, _⟩ => ⟨S2048x5632, .bf16⟩
  | .hbm, ⟨12, _⟩ => ⟨S2048x5632, .f32⟩
  | .hbm, ⟨13, _⟩ => ⟨S1x1x5632x2048, .bf16⟩
  | .hbm, ⟨14, _⟩ => ⟨S5632x2048, .bf16⟩
  | .hbm, ⟨15, _⟩ => ⟨S5632x2048, .f32⟩
  | .hbm, ⟨16, _⟩ => ⟨S33280x2048, .f32⟩
  | .hbm, ⟨17, _⟩ => ⟨S_, .f32⟩
  | .hbm, ⟨18, _⟩ => ⟨S33280, .f32⟩
  | .hbm, ⟨19, _⟩ => ⟨S33280x1, .f32⟩
  | .hbm, ⟨20, _⟩ => ⟨S_, .f32⟩
  | .hbm, ⟨21, _⟩ => ⟨S33280x1, .f32⟩
  | .hbm, ⟨22, _⟩ => ⟨S33280x1, .f32⟩
  | .hbm, ⟨23, _⟩ => ⟨S_, .f32⟩
  | .hbm, ⟨24, _⟩ => ⟨S33280x1, .f32⟩
  | .hbm, ⟨25, _⟩ => ⟨S33280x1, .f32⟩
  | .hbm, ⟨26, _⟩ => ⟨S33280x1, .f32⟩
  | .hbm, ⟨27, _⟩ => ⟨S33280x2048, .f32⟩
  | .hbm, ⟨28, _⟩ => ⟨S33280x2048, .f32⟩
  | .hbm, ⟨29, _⟩ => ⟨S33280x2048, .f32⟩
  | .hbm, ⟨30, _⟩ => ⟨S33280x2048, .f32⟩
  | .hbm, ⟨31, _⟩ => ⟨S33280x5632, .f32⟩
  | .hbm, ⟨32, _⟩ => ⟨S33280x5632, .f32⟩
  | .hbm, ⟨33, _⟩ => ⟨S33280x5632, .f32⟩
  | .hbm, ⟨34, _⟩ => ⟨S_, .f32⟩
  | .hbm, ⟨35, _⟩ => ⟨S33280x5632, .f32⟩
  | .hbm, ⟨36, _⟩ => ⟨S33280x5632, .f32⟩
  | .hbm, ⟨37, _⟩ => ⟨S_, .f32⟩
  | .hbm, ⟨38, _⟩ => ⟨S33280x5632, .f32⟩
  | .hbm, ⟨39, _⟩ => ⟨S33280x5632, .f32⟩
  | .hbm, ⟨40, _⟩ => ⟨S33280x5632, .f32⟩
  | .hbm, ⟨41, _⟩ => ⟨S33280x5632, .f32⟩
  | .hbm, ⟨42, _⟩ => ⟨S33280x5632, .f32⟩
  | .hbm, ⟨43, _⟩ => ⟨S33280x2048, .f32⟩
  | .hbm, ⟨44, _⟩ => ⟨S33280x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.Reads.lean ====
module

public import Idealize.ShloMosaic.Lib.Writes
public import Idealize.ShloMosaic.Lib.WritesUnit
public import Idealize.ShloMosaic.Lib.Exec
public import Idealize.ShloMosaic.Lib.Pipeline.FrameBody

/-! Reading rectangles of a buffer after a list of rectangle writes. -/

@[expose] public section

namespace Cert.Hand

open Idealize.ShloMosaic Idealize.ShloMosaic.View

variable {sig : RefSig} {κ : Kind} {sp : Space} {s : Shape} {e : EltTy} {Val : EltTy → Type}

/-- A rectangle read just after it was written gives what was written. -/
theorem ld_hit (v : View sig κ sp s e) (f : v.ty.Contents Val) (r : Rect s) (w : r.shape.Idx → Val e)
    (L : List (View.Piece Val s e)) : ld (v.read Val (v.writes Val f (⟨r, w⟩ :: L))) r = w :=
  funext fun x => v.read_writes_cons_emb f r w L x

/-- A write to a disjoint rectangle does not change what is read. -/
theorem ld_miss (v : View sig κ sp s e) (f : v.ty.Contents Val) (r r' : Rect s) (w : r'.shape.Idx → Val e)
    (L : List (View.Piece Val s e)) (h : ∀ x, r.emb x ∉ r'.set) :
    ld (v.read Val (v.writes Val f (⟨r', w⟩ :: L))) r = ld (v.read Val (v.writes Val f L)) r :=
  funext fun x => v.read_writes_cons_miss f ⟨r', w⟩ L (r.emb x) (h x)

/-- Unit-stride rectangles apart along one axis share no index. -/
theorem apart {off size off' size' : Fin s.rank → ℕ} {inb inb'} (a : Fin s.rank)
    (h : off a + size a ≤ off' a ∨ off' a + size' a ≤ off a) (x) :
    (Rect.unit (s := s) off size inb).emb x ∉ (Rect.unit (s := s) off' size' inb').set := by
  intro hx
  have h1 := (Rect.mem_set_unit.1 hx) a
  have h2 : ((Rect.unit (s := s) off size inb).emb x a : ℕ) = off a + 1 * x a := rfl
  have h3 : (x a : ℕ) < size a := (x a).isLt
  omega

/-- A rectangle is read the same at equal offsets. -/
theorem ld_at {off off' size : Fin s.rank → ℕ} {inb inb'} (X : s.Idx → Val e) (h : off = off') :
    ld X (Rect.unit (s := s) off size inb) = ld X (Rect.unit (s := s) off' size inb') := by
  subst h; rfl

end Cert.Hand
-- ==== Proof.IdealCanon.lean ====
module

public import proofs.«01_k».proof.Proof.Reads
public import proofs.«01_k».proof.Proof.Gen.KernelIdeal.Frame
public import proofs.«01_k».proof.Proof.Gen.KernelIdeal.Loops

/-! What the attention kernel keeps in its buffers, chunk by chunk: the scores, the exponentials, the reciprocals of their
sums and the two output tiles of a chunk of 64 queries, as functions of the operands' blocks. -/

@[expose] public section

set_option maxRecDepth 16384

noncomputable section

namespace Cert.KernelIdeal.Hand

open Cert.KernelIdeal Cert.KernelIdeal.Gen Cert.Hand
open Idealize.ShloMosaic Idealize.ShloMosaic.View

variable {F : FTy → Type} [FloatOps F] [Named F]

/-- The blocks a grid point reads: queries, the half padded keys and values, and the bias rows. -/
structure In (F : FTy → Type) [FloatOps F] [Named F] where
  /-- the queries of the four heads of one key-value head -/
  q : Vec F S4096x256 .bf16
  /-- the keys, lanes 64–127 zero -/
  kl : Vec F S4096x128 .bf16
  /-- the keys, lanes 0–63 zero -/
  kh : Vec F S4096x128 .bf16
  /-- the values, lanes 64–127 zero -/
  vl : Vec F S4096x128 .bf16
  /-- the values, lanes 0–63 zero -/
  vh : Vec F S4096x128 .bf16
  /-- the bias by half, key of the band and query pair -/
  b : Vec F S2x1088x128 .f32

/-- The rectangle of slot `u`, half `h` in a scores or exponentials buffer. -/
abbrev slot (u : Fin 4) (h : Fin 2) : Rect S4x2x576x128 :=
  Rect.unit (s := S4x2x576x128) ![u.val, h.val, 0, 0] S1x1x576x128.size
    (by intro a; fin_cases a <;> simp <;> omega)

/-- The rectangle of slot `u` in a reciprocals buffer. -/
abbrev slotN (u : Fin 4) : Rect S4x128x128 :=
  Rect.unit (s := S4x128x128) ![u.val, 0, 0] S1x128x128.size (by intro a; fin_cases a <;> simp <;> omega)

/-- The rectangle of chunk `n`, lanes of pair `p`, in the queries or the output. -/
abbrev rows (n : ℕ) (p : Fin 2) : Rect S4096x256 :=
  Rect.unit (s := S4096x256) ![64 * (n % 64), 128 * p.val] S64x128.size
    (by intro a; fin_cases a <;> simp <;> omega)

/-- The rectangle of the band of keys that chunk `n` sees. -/
abbrev band (n : ℕ) : Rect S4096x128 :=
  Rect.unit (s := S4096x128) ![64 * (n % 64 - 8), 0] S576x128.size
    (by intro a; fin_cases a <;> simp <;> omega)

/-- The rectangle of the bias rows of chunk `n` for half `h`. -/
abbrev biasR (h : Fin 2) (n : ℕ) : Rect S2x1088x128 :=
  Rect.unit (s := S2x1088x128) ![h.val, 64 * (8 - n), 0] S1x576x128.size
    (by intro a; fin_cases a <;> simp <;> omega)

/-- The index of a band row, as the kernel counts it. -/
def io : IVec S576x128 32 := iota .tc S576x128 32 [0] iota_S576x128_d0_w32

/-- Where an index of the output lies in its tile. -/
def loc (x : S4096x256.Idx) : S64x128.Idx := fun a => match a with
  | ⟨0, _⟩ => (⟨(x 0).val % 64, Nat.mod_lt _ (by decide)⟩ : Fin 64)
  | ⟨1, _⟩ => (⟨(x 1).val % 128, Nat.mod_lt _ (by decide)⟩ : Fin 128)

namespace In

variable (X : In F)

/-- The keys of half `h`. -/
def k (h : Fin 2) : Vec F S4096x128 .bf16 := if h = 0 then X.kl else X.kh

/-- The scores of chunk `n` for half `h`. -/
def scr (h : Fin 2) (n : ℕ) : FVec F S1x1x576x128 .f32 :=
  k0_pay5 (ld X.q (rows n 0)) (ld X.q (rows n 1)) (ld (X.k h) (band n))

/-- The bias rows of chunk `n` for half `h`. -/
def bias (h : Fin 2) (n : ℕ) : Vec F S1x576x128 .f32 := ld X.b (biasR h n)

/-- The exponentials of chunk `n` for half `h`: masked for the first twelve chunks. -/
def pw (h : Fin 2) (n : ℕ) : FVec F S1x1x576x128 .bf16 :=
  if n < 12 then k0_pay148 io (BitVec.ofNat 32 (64 * (8 - n))) (k0_pay145 (X.scr h n)) (k0_pay146 (X.bias h n))
  else k0_pay40 (X.scr h n) (X.bias h n)

/-- The reciprocals of the sums of the exponentials of chunk `n`. -/
def nw (n : ℕ) : FVec F S1x128x128 .f32 :=
  if n < 12 then
    k0_pay154 io
      (k0_pay149 io (BitVec.ofNat 32 (64 * (8 - n))) (k0_pay145 (X.scr 0 n)) (k0_pay146 (X.bias 0 n)))
      (k0_pay150 io (BitVec.ofNat 32 (64 * (8 - n))) (X.scr 1 n) (X.bias 1 n))
      (k0_pay151 io (BitVec.ofNat 32 (64 * (8 - n))) (X.scr 1 n) (X.bias 1 n))
  else k0_pay30 io (k0_pay27 (X.scr 0 n) (X.bias 0 n)) (X.scr 1 n) (X.bias 1 n)

/-- The output tile of chunk `n`, lanes of pair `p`. -/
def tile (n : ℕ) (p : Fin 2) : FVec F S64x128 .bf16 :=
  if p = 0 then k0_pay2 (X.pw 0 n) (ld X.vl (band n)) (X.pw 1 n) (ld X.vh (band n)) (X.nw n)
  else k0_pay3 (X.pw 0 n) (ld X.vl (band n)) (X.pw 1 n) (ld X.vh (band n)) (X.nw n)

/-- The output block: tile by tile. -/
def out : Vec F S4096x256 .bf16 := fun x =>
  X.tile ((x 0).val / 64) ⟨(x 1).val / 128, by have : (x 1).val < 256 := (x 1).isLt; omega⟩
    (loc x)

end In

section Reads

variable {sig' : RefSig} {κ' : Kind} {sp : Space}

/-- Eight writes to the eight slots of a scores or exponentials buffer: each slot then reads what was written there. -/
theorem slots8 {e : EltTy} (v : View sig' κ' sp S4x2x576x128 e) (p : Fin 4 → Fin 2 → (S1x1x576x128.Idx → Elt F e))
    {f : v.ty.Contents (Elt F)} {L : List (View.Piece (Elt F) S4x2x576x128 e)} {i00 i01 i10 i11 i20 i21 i30 i31}
    {w00 w01 w10 w11 w20 w21 w30 w31}
    (h00 : w00 = p 0 0) (h01 : w01 = p 0 1) (h10 : w10 = p 1 0) (h11 : w11 = p 1 1)
    (h20 : w20 = p 2 0) (h21 : w21 = p 2 1) (h30 : w30 = p 3 0) (h31 : w31 = p 3 1) :
    ∀ u h, ld (v.read (Elt F) (v.writes (Elt F) f
      (⟨Rect.unit (s := S4x2x576x128) ![3, 1, 0, 0] S1x1x576x128.size i31, w31⟩ ::
       ⟨Rect.unit (s := S4x2x576x128) ![3, 0, 0, 0] S1x1x576x128.size i30, w30⟩ ::
       ⟨Rect.unit (s := S4x2x576x128) ![2, 1, 0, 0] S1x1x576x128.size i21, w21⟩ ::
       ⟨Rect.unit (s := S4x2x576x128) ![2, 0, 0, 0] S1x1x576x128.size i20, w20⟩ ::
       ⟨Rect.unit (s := S4x2x576x128) ![1, 1, 0, 0] S1x1x576x128.size i11, w11⟩ ::
       ⟨Rect.unit (s := S4x2x576x128) ![1, 0, 0, 0] S1x1x576x128.size i10, w10⟩ ::
       ⟨Rect.unit (s := S4x2x576x128) ![0, 1, 0, 0] S1x1x576x128.size i01, w01⟩ ::
       ⟨Rect.unit (s := S4x2x576x128) ![0, 0, 0, 0] S1x1x576x128.size i00, w00⟩ :: L))) (slot u h) = p u h := by
  subst h00 h01 h10 h11 h20 h21 h30 h31
  intro u h
  fin_cases u <;> fin_cases h <;>
    (repeat refine (ld_miss v _ _ _ _ _ (by first | exact apart 0 (by decide) | exact apart 1 (by decide))).trans ?_) <;>
    exact ld_hit v _ _ _ _

/-- Four writes to the four slots of a reciprocals buffer: each slot then reads what was written there. -/
theorem slots4 {e : EltTy} (v : View sig' κ' sp S4x128x128 e) (p : Fin 4 → (S1x128x128.Idx → Elt F e))
    {f : v.ty.Contents (Elt F)} {L : List (View.Piece (Elt F) S4x128x128 e)} {i0 i1 i2 i3} {w0 w1 w2 w3}
    (h0 : w0 = p 0) (h1 : w1 = p 1) (h2 : w2 = p 2) (h3 : w3 = p 3) :
    ∀ u, ld (v.read (Elt F) (v.writes (Elt F) f
      (⟨Rect.unit (s := S4x128x128) ![3, 0, 0] S1x128x128.size i3, w3⟩ ::
       ⟨Rect.unit (s := S4x128x128) ![2, 0, 0] S1x128x128.size i2, w2⟩ ::
       ⟨Rect.unit (s := S4x128x128) ![1, 0, 0] S1x128x128.size i1, w1⟩ ::
       ⟨Rect.unit (s := S4x128x128) ![0, 0, 0] S1x128x128.size i0, w0⟩ :: L))) (slotN u) = p u := by
  subst h0 h1 h2 h3
  intro u
  fin_cases u <;>
    (repeat refine (ld_miss v _ _ _ _ _ (by first | exact apart 0 (by decide) | fail)).trans ?_) <;>
    exact ld_hit v _ _ _ _

/-- The first `n` chunks of the output hold their tiles. -/
def Done (X : In F) (n : ℕ) (R : Vec F S4096x256 .bf16) : Prop := ∀ m < n, ∀ p, ld R (rows m p) = X.tile m p

/-- Nothing is asked of no chunks. -/
theorem Done.zero (X : In F) (R : Vec F S4096x256 .bf16) : Done X 0 R := fun m h => absurd h (Nat.not_lt_zero m)

/-- Writing the two tiles of the next chunk extends what is done by that chunk. -/
theorem Done.step {X : In F} {v : View sig' κ' sp S4096x256 .bf16} {f : v.ty.Contents (Elt F)} {n : ℕ}
    {L : List (View.Piece (Elt F) S4096x256 .bf16)} (hn : n < 64)
    (h : Done X n (v.read (Elt F) (v.writes (Elt F) f L))) {o0 o1 : Fin 2 → ℕ} {i0 i1}
    (h0 : o0 = ![64 * (n % 64), 128 * (0 : Fin 2).val]) (h1 : o1 = ![64 * (n % 64), 128 * (1 : Fin 2).val])
    {w0 w1 : S64x128.Idx → Elt F .bf16} (e0 : w0 = X.tile n 0) (e1 : w1 = X.tile n 1) :
    Done X (n + 1) (v.read (Elt F) (v.writes (Elt F) f
      (⟨Rect.unit (s := S4096x256) o1 S64x128.size i1, w1⟩ ::
       ⟨Rect.unit (s := S4096x256) o0 S64x128.size i0, w0⟩ :: L))) := by
  subst h0 h1 e0 e1
  intro m hm p
  rcases Nat.lt_succ_iff_lt_or_eq.1 hm with hlt | rfl
  · refine (ld_miss v _ _ _ _ _ (apart 0 (.inl ?_))).trans ((ld_miss v _ _ _ _ _ (apart 0 (.inl ?_))).trans (h m hlt p)) <;>
    · show 64 * (m % 64) + 64 ≤ 64 * (n % 64)
      omega
  · fin_cases p
    · refine (ld_miss v _ _ _ _ _ (apart 1 (.inl ?_))).trans (ld_hit v _ _ _ _)
      show 0 + 128 ≤ 128
      omega
    · exact ld_hit v _ _ _ _

/-- Writing the eight tiles of a group of four chunks extends what is done by the group. -/
theorem Done.four {X : In F} {v : View sig' κ' sp S4096x256 .bf16} {f : v.ty.Contents (Elt F)} {n : ℕ}
    {L : List (View.Piece (Elt F) S4096x256 .bf16)} {o00 o01 o10 o11 o20 o21 o30 o31 : Fin 2 → ℕ}
    {i00 i01 i10 i11 i20 i21 i30 i31} {w00 w01 w10 w11 w20 w21 w30 w31 : S64x128.Idx → Elt F .bf16} (hn : n + 4 ≤ 64)
    (h : Done X n (v.read (Elt F) (v.writes (Elt F) f L)))
    (h00 : o00 = ![64 * ((n + 0) % 64), 128 * (0 : Fin 2).val]) (h01 : o01 = ![64 * ((n + 0) % 64), 128 * (1 : Fin 2).val])
    (h10 : o10 = ![64 * ((n + 1) % 64), 128 * (0 : Fin 2).val]) (h11 : o11 = ![64 * ((n + 1) % 64), 128 * (1 : Fin 2).val])
    (h20 : o20 = ![64 * ((n + 2) % 64), 128 * (0 : Fin 2).val]) (h21 : o21 = ![64 * ((n + 2) % 64), 128 * (1 : Fin 2).val])
    (h30 : o30 = ![64 * ((n + 3) % 64), 128 * (0 : Fin 2).val]) (h31 : o31 = ![64 * ((n + 3) % 64), 128 * (1 : Fin 2).val])
    (e00 : w00 = X.tile (n + 0) 0) (e01 : w01 = X.tile (n + 0) 1) (e10 : w10 = X.tile (n + 1) 0) (e11 : w11 = X.tile (n + 1) 1)
    (e20 : w20 = X.tile (n + 2) 0) (e21 : w21 = X.tile (n + 2) 1) (e30 : w30 = X.tile (n + 3) 0) (e31 : w31 = X.tile (n + 3) 1) :
    Done X (n + 4) (v.read (Elt F) (v.writes (Elt F) f
      (⟨Rect.unit (s := S4096x256) o31 S64x128.size i31, w31⟩ :: ⟨Rect.unit (s := S4096x256) o30 S64x128.size i30, w30⟩ ::
       ⟨Rect.unit (s := S4096x256) o21 S64x128.size i21, w21⟩ :: ⟨Rect.unit (s := S4096x256) o20 S64x128.size i20, w20⟩ ::
       ⟨Rect.unit (s := S4096x256) o11 S64x128.size i11, w11⟩ :: ⟨Rect.unit (s := S4096x256) o10 S64x128.size i10, w10⟩ ::
       ⟨Rect.unit (s := S4096x256) o01 S64x128.size i01, w01⟩ :: ⟨Rect.unit (s := S4096x256) o00 S64x128.size i00, w00⟩ :: L))) :=
  .step (by omega) (.step (by omega) (.step (by omega) (.step (by omega) h h00 h01 e00 e01) h10 h11 e10 e11) h20 h21 e20 e21)
    h30 h31 e30 e31

/-- A full output is the output block. -/
theorem Done.eq {X : In F} {R : Vec F S4096x256 .bf16} (h : Done X 64 R) : R = X.out := by
  funext x
  have hx0 : (x 0).val < 4096 := (x 0).isLt
  have hx1 : (x 1).val < 256 := (x 1).isLt
  have e := congrFun (h ((x 0).val / 64) (by omega) ⟨(x 1).val / 128, by omega⟩)
    (loc x)
  refine Eq.trans ?_ e
  show R x = R _
  congr 1
  funext a
  apply Fin.ext
  fin_cases a
  · show (x 0).val = 64 * ((x 0).val / 64 % 64) + 1 * ((x 0).val % 64)
    omega
  · show (x 1).val = 128 * ((x 1).val / 128) + 1 * ((x 1).val % 128)
    omega

end Reads

end Cert.KernelIdeal.Hand
-- ==== Proof.IdealTrip.lean ====
module

public import proofs.«01_k».proof.Proof.IdealCanon
public import proofs.«01_k».proof.Proof.Gen.KernelIdeal.Points

/-! One trip of the kernel's loop: what holds of the buffers before a trip holds after it, two groups of four chunks on. -/

@[expose] public section

set_option maxRecDepth 16384
set_option maxHeartbeats 4000000

noncomputable section

namespace Cert.KernelIdeal.Hand

open Cert.KernelIdeal Cert.KernelIdeal.Gen Cert.Hand
open Idealize.ShloMosaic Idealize.ShloMosaic.View Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The program has no variants. -/
abbrev 𝒱₀ : Variants := Variants.none

local notation "𝕄" => MT nD τ sig Unit (Elt F) ℕ (UR sig nD τ) ℕ

/-- The contents of a buffer of the core. -/
abbrev Bf (c : Dev nD) {sp : Space} {S : Shape} {e : EltTy} (M : Memref sig .tc sp S e) : Type :=
  Buf (Elt F) (M.view.loc (c : Thread nD τ))

/-- The core holds the buffer at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-! ## The offsets of a trip -/

theorem off4_eq : ∀ (k : Fin k0_t1_loop.trips) (u : Fin 4),
    k0_off4 k (BitVec.ofNat 32 u.val) = ![64 * ((4 * (4 + 2 * k.val) + u.val) % 64), 128 * (0 : Fin 2).val] := by decide +kernel
theorem off5_eq : ∀ (k : Fin k0_t1_loop.trips) (u : Fin 4),
    k0_off5 k (BitVec.ofNat 32 u.val) = ![64 * ((4 * (4 + 2 * k.val) + u.val) % 64), 128 * (1 : Fin 2).val] := by decide +kernel
theorem off6_eq : ∀ (k : Fin k0_t1_loop.trips) (u : Fin 4),
    k0_off6 k (BitVec.ofNat 32 u.val) = ![64 * ((4 * (4 + 2 * k.val) + u.val) % 64 - 8), 0] := by decide +kernel
theorem off7_eq : ∀ (k : Fin k0_t1_loop.trips) (u : Fin 4),
    k0_off7 k (BitVec.ofNat 32 u.val) = ![64 * ((4 * (2 + 2 * k.val) + u.val) % 64 - 8), 0] := by decide +kernel
theorem off8_eq : ∀ (k : Fin k0_t1_loop.trips) (u : Fin 4),
    k0_off8 k (BitVec.ofNat 32 u.val) = ![64 * ((4 * (2 + 2 * k.val) + u.val) % 64), 128 * (0 : Fin 2).val] := by decide +kernel
theorem off9_eq : ∀ (k : Fin k0_t1_loop.trips) (u : Fin 4),
    k0_off9 k (BitVec.ofNat 32 u.val) = ![64 * ((4 * (2 + 2 * k.val) + u.val) % 64), 128 * (1 : Fin 2).val] := by decide +kernel
theorem off10_eq : ∀ (k : Fin k0_t1_loop.trips) (u : Fin 4),
    k0_off10 k (BitVec.ofNat 32 u.val) = ![64 * ((4 * (5 + 2 * k.val) + u.val) % 64), 128 * (0 : Fin 2).val] := by decide +kernel
theorem off11_eq : ∀ (k : Fin k0_t1_loop.trips) (u : Fin 4),
    k0_off11 k (BitVec.ofNat 32 u.val) = ![64 * ((4 * (5 + 2 * k.val) + u.val) % 64), 128 * (1 : Fin 2).val] := by decide +kernel
theorem off12_eq : ∀ (k : Fin k0_t1_loop.trips) (u : Fin 4),
    k0_off12 k (BitVec.ofNat 32 u.val) = ![64 * ((4 * (5 + 2 * k.val) + u.val) % 64 - 8), 0] := by decide +kernel
theorem off13_eq : ∀ (k : Fin k0_t1_loop.trips) (u : Fin 4),
    k0_off13 k (BitVec.ofNat 32 u.val) = ![64 * ((4 * (3 + 2 * k.val) + u.val) % 64 - 8), 0] := by decide +kernel
theorem off14_eq : ∀ (k : Fin k0_t1_loop.trips) (u : Fin 4),
    k0_off14 k (BitVec.ofNat 32 u.val) = ![64 * ((4 * (3 + 2 * k.val) + u.val) % 64), 128 * (0 : Fin 2).val] := by decide +kernel
theorem off15_eq : ∀ (k : Fin k0_t1_loop.trips) (u : Fin 4),
    k0_off15 k (BitVec.ofNat 32 u.val) = ![64 * ((4 * (3 + 2 * k.val) + u.val) % 64), 128 * (1 : Fin 2).val] := by decide +kernel
theorem trips_lt : ∀ k : Fin k0_t1_loop.trips, k.val < 6 := by decide +kernel

/-! ## The state between trips -/

/-- Before trip `k`: the output's chunks of the groups before `2 + 2k` are done, group `2 + 2k` has its exponentials and
the reciprocals of their sums, group `3 + 2k` its scores. -/
structure St (X : In F) (k : ℕ) (O : Vec F S4096x256 .bf16) (s1 : Vec F S4x2x576x128 .f32) (p0 : Vec F S4x2x576x128 .bf16)
    (n0 : Vec F S4x128x128 .f32) : Prop where
  done : Done X (4 * (2 + 2 * k)) O
  s : ∀ u h, ld s1 (slot u h) = X.scr h (4 * (3 + 2 * k) + u.val)
  p : ∀ u h, ld p0 (slot u h) = X.pw h (4 * (2 + 2 * k) + u.val)
  n : ∀ u, ld n0 (slotN u) = X.nw (4 * (2 + 2 * k) + u.val)

namespace In

variable (X : In F)

theorem scr_of {h : Fin 2} {n : ℕ} {o0 o1 : Fin 2 → ℕ} {o2 : Fin 2 → ℕ} {i0 i1 i2} {K : Vec F S4096x128 .bf16}
    (h0 : o0 = ![64 * (n % 64), 128 * (0 : Fin 2).val]) (h1 : o1 = ![64 * (n % 64), 128 * (1 : Fin 2).val])
    (h2 : o2 = ![64 * (n % 64 - 8), 0]) (hK : X.k h = K) :
    k0_pay5 (ld X.q (Rect.unit (s := S4096x256) o0 S64x128.size i0)) (ld X.q (Rect.unit (s := S4096x256) o1 S64x128.size i1))
      (ld K (Rect.unit (s := S4096x128) o2 S576x128.size i2)) = X.scr h n := by
  subst h0 h1 h2 hK; rfl

theorem bias_of (h : Fin 2) {n : ℕ} (hn : 12 ≤ n) : X.bias h n = ld X.b (Rect.unit (s := S2x1088x128) ![h.val, 0, 0]
    S1x576x128.size (by intro a; fin_cases a <;> simp <;> omega)) :=
  ld_at X.b (by rw [Nat.sub_eq_zero_of_le (by omega : 8 ≤ n)])

theorem pw_of (h : Fin 2) {n : ℕ} (hn : 12 ≤ n) {s} (hs : s = X.scr h n) :
    k0_pay40 s (ld X.b (Rect.unit (s := S2x1088x128) ![h.val, 0, 0] S1x576x128.size
      (by intro a; fin_cases a <;> simp <;> omega))) = X.pw h n := by
  rw [In.pw, if_neg (by omega), hs, X.bias_of h hn]

theorem nw_of {n : ℕ} (hn : 12 ≤ n) {s0 s1} (hs0 : s0 = X.scr 0 n) (hs1 : s1 = X.scr 1 n) :
    k0_pay30 io (k0_pay27 s0 (ld X.b (Rect.unit (s := S2x1088x128) ![(0 : Fin 2).val, 0, 0] S1x576x128.size
      (by intro a; fin_cases a <;> simp)))) s1 (ld X.b (Rect.unit (s := S2x1088x128) ![(1 : Fin 2).val, 0, 0] S1x576x128.size
      (by intro a; fin_cases a <;> simp))) = X.nw n := by
  rw [In.nw, if_neg (by omega), hs0, hs1, X.bias_of 0 hn, X.bias_of 1 hn]

theorem tile0_of {n : ℕ} {o : Fin 2 → ℕ} (ho : o = ![64 * (n % 64 - 8), 0]) (i0 i1) {p0 p1 nn} (hp0 : p0 = X.pw 0 n)
    (hp1 : p1 = X.pw 1 n) (hn : nn = X.nw n) :
    k0_pay2 p0 (ld X.vl (Rect.unit (s := S4096x128) o S576x128.size i0)) p1
      (ld X.vh (Rect.unit (s := S4096x128) o S576x128.size i1)) nn = X.tile n 0 := by
  subst ho hp0 hp1 hn; rfl

theorem tile1_of {n : ℕ} {o : Fin 2 → ℕ} (ho : o = ![64 * (n % 64 - 8), 0]) (i0 i1) {p0 p1 nn} (hp0 : p0 = X.pw 0 n)
    (hp1 : p1 = X.pw 1 n) (hn : nn = X.nw n) :
    k0_pay3 p0 (ld X.vl (Rect.unit (s := S4096x128) o S576x128.size i0)) p1
      (ld X.vh (Rect.unit (s := S4096x128) o S576x128.size i1)) nn = X.tile n 1 := by
  subst ho hp0 hp1 hn; rfl

end In

section Trip

variable (c : Dev nD) (i : grid0.Coords)
  (arg2 : Memref sig .tc .vmem S4096x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S2x1088x128 .f32) (harg7 : arg7.IsWhole)
  (arg8 : Memref sig .tc .vmem S4096x256 .bf16) (harg8 : arg8.IsWhole)
  (arg9 : Memref sig .tc .vmem S4x2x576x128 .f32) (harg9 : arg9.IsWhole)
  (arg10 : Memref sig .tc .vmem S4x2x576x128 .f32) (harg10 : arg10.IsWhole)
  (arg11 : Memref sig .tc .vmem S4x2x576x128 .bf16) (harg11 : arg11.IsWhole)
  (arg12 : Memref sig .tc .vmem S4x2x576x128 .bf16) (harg12 : arg12.IsWhole)
  (arg13 : Memref sig .tc .vmem S4x128x128 .f32) (harg13 : arg13.IsWhole)
  (arg14 : Memref sig .tc .vmem S4x128x128 .f32) (harg14 : arg14.IsWhole)

/-- The blocks, read off the buffers that hold them. -/
abbrev inOf (f2 : Bf (F := F) c arg2) (f3 : Bf (F := F) c arg3) (f4 : Bf (F := F) c arg4) (f5 : Bf (F := F) c arg5)
    (f6 : Bf (F := F) c arg6) (f7 : Bf (F := F) c arg7) : In F :=
  ⟨arg2.view.read (Elt F) f2, arg3.view.read (Elt F) f3, arg4.view.read (Elt F) f4, arg5.view.read (Elt F) f5,
    arg6.view.read (Elt F) f6, arg7.view.read (Elt F) f7⟩

/-- What the core holds before trip `k`. -/
def inv (f2 : Bf (F := F) c arg2) (f3 : Bf (F := F) c arg3) (f4 : Bf (F := F) c arg4) (f5 : Bf (F := F) c arg5)
    (f6 : Bf (F := F) c arg6) (f7 : Bf (F := F) c arg7) (k : ℕ) (_ : Unit) : sProp 𝕄 :=
  iprop(pt c arg2 f2 ∗ pt c arg3 f3 ∗ pt c arg4 f4 ∗ pt c arg5 f5 ∗ pt c arg6 f6 ∗ pt c arg7 f7 ∗
    (∃ f9, pt c arg9 f9) ∗ (∃ f12, pt c arg12 f12) ∗ (∃ f14, pt c arg14 f14) ∗
    ∃ f8 f10 f11 f13, pt c arg8 f8 ∗ pt c arg10 f10 ∗ pt c arg11 f11 ∗ pt c arg13 f13 ∗
      ⌜St (inOf c arg2 arg3 arg4 arg5 arg6 arg7 f2 f3 f4 f5 f6 f7) k (arg8.view.read (Elt F) f8) (arg10.view.read (Elt F) f10)
        (arg11.view.read (Elt F) f11) (arg13.view.read (Elt F) f13)⌝)

/-- One trip keeps it. -/
theorem trip (f2 : Bf (F := F) c arg2) (f3 : Bf (F := F) c arg3) (f4 : Bf (F := F) c arg4) (f5 : Bf (F := F) c arg5)
    (f6 : Bf (F := F) c arg6) (f7 : Bf (F := F) c arg7) (v : FVec F S64x128 .bf16) (k : Fin k0_t1_loop.trips) :
    inv c arg2 arg3 arg4 arg5 arg6 arg7 arg8 arg9 arg10 arg11 arg12 arg13 arg14 f2 f3 f4 f5 f6 f7 k.val ()
    ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 arg14 harg14 io v k ())
        (fun _ => inv c arg2 arg3 arg4 arg5 arg6 arg7 arg8 arg9 arg10 arg11 arg12 arg13 arg14 f2 f3 f4 f5 f6 f7 (k.val + 1) ()) := by
  unfold inv k0_t1_body
  iintro ⟨H2, H3, H4, H5, H6, H7, ⟨%f9, H9⟩, ⟨%f12, H12⟩, ⟨%f14, H14⟩, %f8, %f10, %f11, %f13, H8, H10, H11, H13, %st⟩
  sl_exec_parts
  sl_step
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H12]; · iexists _; iexact H12
  isplitl [H14]; · iexists _; iexact H14
  iexists _, _, _, _
  isplitl [H8]; · iexact H8
  isplitl [H10]; · iexact H10
  isplitl [H11]; · iexact H11
  isplitl [H13]; · iexact H13
  ipureintro
  have hk := trips_lt k
  let X : In F := inOf c arg2 arg3 arg4 arg5 arg6 arg7 f2 f3 f4 f5 f6 f7
  have hs9 : ∀ u h, ld (arg9.view.read (Elt F) (arg9.view.writes (Elt F) arg9.view.junk (trip.sl.H9_8 c arg2 arg3 arg4 f2 f3 f4 k)))
      (slot u h) = X.scr h (4 * (4 + 2 * k.val) + u.val) :=
    slots8 arg9.view (fun u h => X.scr h (4 * (4 + 2 * k.val) + u.val))
      (by exact In.scr_of X (off4_eq k 0) (off5_eq k 0) (off6_eq k 0) rfl)
      (by exact In.scr_of X (off4_eq k 0) (off5_eq k 0) (off6_eq k 0) rfl)
      (by exact In.scr_of X (off4_eq k 1) (off5_eq k 1) (off6_eq k 1) rfl)
      (by exact In.scr_of X (off4_eq k 1) (off5_eq k 1) (off6_eq k 1) rfl)
      (by exact In.scr_of X (off4_eq k 2) (off5_eq k 2) (off6_eq k 2) rfl)
      (by exact In.scr_of X (off4_eq k 2) (off5_eq k 2) (off6_eq k 2) rfl)
      (by exact In.scr_of X (off4_eq k 3) (off5_eq k 3) (off6_eq k 3) rfl)
      (by exact In.scr_of X (off4_eq k 3) (off5_eq k 3) (off6_eq k 3) rfl)
  have hs10 : ∀ u h, ld (arg10.view.read (Elt F) (arg10.view.writes (Elt F) f10 (trip.sl.H10_8 c arg2 arg3 arg4 f2 f3 f4 k)))
      (slot u h) = X.scr h (4 * (5 + 2 * k.val) + u.val) :=
    slots8 arg10.view (fun u h => X.scr h (4 * (5 + 2 * k.val) + u.val))
      (by exact In.scr_of X (off10_eq k 0) (off11_eq k 0) (off12_eq k 0) rfl)
      (by exact In.scr_of X (off10_eq k 0) (off11_eq k 0) (off12_eq k 0) rfl)
      (by exact In.scr_of X (off10_eq k 1) (off11_eq k 1) (off12_eq k 1) rfl)
      (by exact In.scr_of X (off10_eq k 1) (off11_eq k 1) (off12_eq k 1) rfl)
      (by exact In.scr_of X (off10_eq k 2) (off11_eq k 2) (off12_eq k 2) rfl)
      (by exact In.scr_of X (off10_eq k 2) (off11_eq k 2) (off12_eq k 2) rfl)
      (by exact In.scr_of X (off10_eq k 3) (off11_eq k 3) (off12_eq k 3) rfl)
      (by exact In.scr_of X (off10_eq k 3) (off11_eq k 3) (off12_eq k 3) rfl)
  have hp12 : ∀ u h, ld (arg12.view.read (Elt F) (arg12.view.writes (Elt F) arg12.view.junk (trip.sl.H12_8 c arg7 arg10 f7 f10)))
      (slot u h) = X.pw h (4 * (3 + 2 * k.val) + u.val) :=
    slots8 arg12.view (fun u h => X.pw h (4 * (3 + 2 * k.val) + u.val))
      (by have e := In.pw_of X 0 (by omega) (st.s 0 0); exact e)
      (by have e := In.pw_of X 1 (by omega) (st.s 0 1); exact e)
      (by have e := In.pw_of X 0 (by omega) (st.s 1 0); exact e)
      (by have e := In.pw_of X 1 (by omega) (st.s 1 1); exact e)
      (by have e := In.pw_of X 0 (by omega) (st.s 2 0); exact e)
      (by have e := In.pw_of X 1 (by omega) (st.s 2 1); exact e)
      (by have e := In.pw_of X 0 (by omega) (st.s 3 0); exact e)
      (by have e := In.pw_of X 1 (by omega) (st.s 3 1); exact e)
  have hn14 : ∀ u, ld (arg14.view.read (Elt F) (arg14.view.writes (Elt F) arg14.view.junk (trip.sl.H14_4 c arg7 arg10 f7 f10)))
      (slotN u) = X.nw (4 * (3 + 2 * k.val) + u.val) :=
    slots4 arg14.view (fun u => X.nw (4 * (3 + 2 * k.val) + u.val))
      (by have e := In.nw_of X (by omega) (st.s 0 0) (st.s 0 1) ; exact e)
      (by have e := In.nw_of X (by omega) (st.s 1 0) (st.s 1 1) ; exact e)
      (by have e := In.nw_of X (by omega) (st.s 2 0) (st.s 2 1) ; exact e)
      (by have e := In.nw_of X (by omega) (st.s 3 0) (st.s 3 1) ; exact e)
  have hp11 : ∀ u h, ld (arg11.view.read (Elt F) (arg11.view.writes (Elt F) f11 (trip.sl.H11_8 c arg2 arg3 arg4 arg7 arg9 f2 f3 f4 f7 k)))
      (slot u h) = X.pw h (4 * (4 + 2 * k.val) + u.val) :=
    slots8 arg11.view (fun u h => X.pw h (4 * (4 + 2 * k.val) + u.val))
      (by have e := In.pw_of X 0 (by omega) (hs9 0 0); exact e)
      (by have e := In.pw_of X 1 (by omega) (hs9 0 1); exact e)
      (by have e := In.pw_of X 0 (by omega) (hs9 1 0); exact e)
      (by have e := In.pw_of X 1 (by omega) (hs9 1 1); exact e)
      (by have e := In.pw_of X 0 (by omega) (hs9 2 0); exact e)
      (by have e := In.pw_of X 1 (by omega) (hs9 2 1); exact e)
      (by have e := In.pw_of X 0 (by omega) (hs9 3 0); exact e)
      (by have e := In.pw_of X 1 (by omega) (hs9 3 1); exact e)
  have hn13 : ∀ u, ld (arg13.view.read (Elt F) (arg13.view.writes (Elt F) f13 (trip.sl.H13_4 c arg2 arg3 arg4 arg7 arg9 f2 f3 f4 f7 k)))
      (slotN u) = X.nw (4 * (4 + 2 * k.val) + u.val) :=
    slots4 arg13.view (fun u => X.nw (4 * (4 + 2 * k.val) + u.val))
      (by have e := In.nw_of X (by omega) (hs9 0 0) (hs9 0 1) ; exact e)
      (by have e := In.nw_of X (by omega) (hs9 1 0) (hs9 1 1) ; exact e)
      (by have e := In.nw_of X (by omega) (hs9 2 0) (hs9 2 1) ; exact e)
      (by have e := In.nw_of X (by omega) (hs9 3 0) (hs9 3 1) ; exact e)
  have e23 : 4 * (3 + 2 * k.val) = 4 * (2 + 2 * k.val) + 4 := by omega
  have e34 : 4 * (2 + 2 * (k.val + 1)) = 4 * (3 + 2 * k.val) + 4 := by omega
  have d4 : Done X (4 * (3 + 2 * k.val)) (arg8.view.read (Elt F) (arg8.view.writes (Elt F) f8
      (trip.sl.H8_8 c arg5 arg6 arg11 arg13 f5 f6 k f11 f13))) := by
    rw [e23]
    exact Done.four (by omega) st.done
      (off8_eq k 0) (off9_eq k 0) (off8_eq k 1) (off9_eq k 1) (off8_eq k 2) (off9_eq k 2) (off8_eq k 3) (off9_eq k 3)
      (by have e := X.tile0_of (off7_eq k 0) (k0_off7_inb k 0) (k0_off7_inb k 0) (st.p 0 0) (st.p 0 1) (st.n 0); exact e)
      (by have e := X.tile1_of (off7_eq k 0) (k0_off7_inb k 0) (k0_off7_inb k 0) (st.p 0 0) (st.p 0 1) (st.n 0); exact e)
      (by have e := X.tile0_of (off7_eq k 1) (k0_off7_inb k 1) (k0_off7_inb k 1) (st.p 1 0) (st.p 1 1) (st.n 1); exact e)
      (by have e := X.tile1_of (off7_eq k 1) (k0_off7_inb k 1) (k0_off7_inb k 1) (st.p 1 0) (st.p 1 1) (st.n 1); exact e)
      (by have e := X.tile0_of (off7_eq k 2) (k0_off7_inb k 2) (k0_off7_inb k 2) (st.p 2 0) (st.p 2 1) (st.n 2); exact e)
      (by have e := X.tile1_of (off7_eq k 2) (k0_off7_inb k 2) (k0_off7_inb k 2) (st.p 2 0) (st.p 2 1) (st.n 2); exact e)
      (by have e := X.tile0_of (off7_eq k 3) (k0_off7_inb k 3) (k0_off7_inb k 3) (st.p 3 0) (st.p 3 1) (st.n 3); exact e)
      (by have e := X.tile1_of (off7_eq k 3) (k0_off7_inb k 3) (k0_off7_inb k 3) (st.p 3 0) (st.p 3 1) (st.n 3); exact e)
  have e4 : 2 + 2 * (k.val + 1) = 4 + 2 * k.val := by omega
  have e5 : 3 + 2 * (k.val + 1) = 5 + 2 * k.val := by omega
  refine ⟨?_, by rw [e5]; exact hs10, by rw [e4]; exact hp11, by rw [e4]; exact hn13⟩
  rw [e34]
  exact Done.four (by omega) d4
      (off14_eq k 0) (off15_eq k 0) (off14_eq k 1) (off15_eq k 1) (off14_eq k 2) (off15_eq k 2) (off14_eq k 3) (off15_eq k 3)
      (by have e := X.tile0_of (off13_eq k 0) (k0_off13_inb k 0) (k0_off13_inb k 0) (hp12 0 0) (hp12 0 1) (hn14 0); exact e)
      (by have e := X.tile1_of (off13_eq k 0) (k0_off13_inb k 0) (k0_off13_inb k 0) (hp12 0 0) (hp12 0 1) (hn14 0); exact e)
      (by have e := X.tile0_of (off13_eq k 1) (k0_off13_inb k 1) (k0_off13_inb k 1) (hp12 1 0) (hp12 1 1) (hn14 1); exact e)
      (by have e := X.tile1_of (off13_eq k 1) (k0_off13_inb k 1) (k0_off13_inb k 1) (hp12 1 0) (hp12 1 1) (hn14 1); exact e)
      (by have e := X.tile0_of (off13_eq k 2) (k0_off13_inb k 2) (k0_off13_inb k 2) (hp12 2 0) (hp12 2 1) (hn14 2); exact e)
      (by have e := X.tile1_of (off13_eq k 2) (k0_off13_inb k 2) (k0_off13_inb k 2) (hp12 2 0) (hp12 2 1) (hn14 2); exact e)
      (by have e := X.tile0_of (off13_eq k 3) (k0_off13_inb k 3) (k0_off13_inb k 3) (hp12 3 0) (hp12 3 1) (hn14 3); exact e)
      (by have e := X.tile1_of (off13_eq k 3) (k0_off13_inb k 3) (k0_off13_inb k 3) (hp12 3 0) (hp12 3 1) (hn14 3); exact e)

end Trip

end Cert.KernelIdeal.Hand
-- ==== Proof.IdealBody.lean ====
module

public import proofs.«01_k».proof.Proof.IdealTrip
public import proofs.«01_k».proof.Proof.Gen.KernelIdeal.Points

/-! The kernel's body at one grid point: it leaves the output block as the blocks it reads determine it. -/

@[expose] public section

set_option maxRecDepth 16384
set_option maxHeartbeats 4000000

noncomputable section

namespace Cert.KernelIdeal.Hand

open Cert.KernelIdeal Cert.KernelIdeal.Gen Cert.Hand
open Idealize.ShloMosaic Idealize.ShloMosaic.View Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem band_inb (n : ℕ) : ∀ a : Fin 2, (![64 * (n % 64 - 8), 0] : Fin 2 → ℕ) a + S576x128.size a ≤ S4096x128.size a := by
  intro a; fin_cases a <;> simp <;> omega

namespace In

variable (X : In F)

theorem pw_lo (h : Fin 2) {n : ℕ} (hn : n < 12) {s} (hs : s = X.scr h n) :
    k0_pay148 io (BitVec.ofNat 32 (64 * (8 - n))) (k0_pay145 s) (k0_pay146 (ld X.b (biasR h n))) = X.pw h n := by
  rw [In.pw, if_pos hn, hs]; rfl

theorem nw_lo {n : ℕ} (hn : n < 12) {s0 s1} (hs0 : s0 = X.scr 0 n) (hs1 : s1 = X.scr 1 n) :
    k0_pay154 io
      (k0_pay149 io (BitVec.ofNat 32 (64 * (8 - n))) (k0_pay145 s0) (k0_pay146 (ld X.b (biasR 0 n))))
      (k0_pay150 io (BitVec.ofNat 32 (64 * (8 - n))) s1 (ld X.b (biasR 1 n)))
      (k0_pay151 io (BitVec.ofNat 32 (64 * (8 - n))) s1 (ld X.b (biasR 1 n))) = X.nw n := by
  rw [In.nw, if_pos hn, hs0, hs1]; rfl

end In

section Body

variable (c : Dev nD) (i : grid0.Coords)
  (arg2 : Memref sig .tc .vmem S4096x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S2x1088x128 .f32) (harg7 : arg7.IsWhole)
  (arg8 : Memref sig .tc .vmem S4096x256 .bf16) (harg8 : arg8.IsWhole)
  (arg9 : Memref sig .tc .vmem S4x2x576x128 .f32) (harg9 : arg9.IsWhole)
  (arg10 : Memref sig .tc .vmem S4x2x576x128 .f32) (harg10 : arg10.IsWhole)
  (arg11 : Memref sig .tc .vmem S4x2x576x128 .bf16) (harg11 : arg11.IsWhole)
  (arg12 : Memref sig .tc .vmem S4x2x576x128 .bf16) (harg12 : arg12.IsWhole)
  (arg13 : Memref sig .tc .vmem S4x128x128 .f32) (harg13 : arg13.IsWhole)
  (arg14 : Memref sig .tc .vmem S4x128x128 .f32) (harg14 : arg14.IsWhole)

/-- The body, run from any contents of its buffers, leaves the inputs as they were and the output block as they determine
it. -/
theorem body (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14)
    ⊢ wp frame (wpE (defs₀ (F := F)) 𝒱₀ (c : Thread nD τ) none) Set.univ
        (cc0_attn_prompt i arg2 harg2 arg3 harg3 arg4 harg4 arg5 harg5 arg6 harg6 arg7 harg7 arg8 harg8 arg9 harg9 arg10 harg10 arg11 harg11 arg12 harg12 arg13 harg13 arg14 harg14)
        (fun _ => iprop(pt c arg2 f2 ∗ pt c arg3 f3 ∗ pt c arg4 f4 ∗ pt c arg5 f5 ∗ pt c arg6 f6 ∗ pt c arg7 f7 ∗
          (∃ f, pt c arg8 f ∗ ⌜arg8.view.read (Elt F) f = (inOf c arg2 arg3 arg4 arg5 arg6 arg7 f2 f3 f4 f5 f6 f7).out⌝) ∗ (∃ f, pt c arg9 f) ∗ (∃ f, pt c arg10 f) ∗ (∃ f, pt c arg11 f) ∗ (∃ f, pt c arg12 f) ∗ (∃ f, pt c arg13 f) ∗ (∃ f, pt c arg14 f))) := by
  simp only [cc0_attn_prompt_eq_skeleton]
  unfold cc0_attn_prompt_skel
  iintro ⟨H2, H3, H4, H5, H6, H7, H8, H9, H10, H11, H12, H13, H14⟩
  set_option sl_exec.stopBefore "k0_part69" in
  sl_exec_parts
  sl_unfold [k0_part69]
  sl_unfold [k0_part69_skel]
  sl_exec
  first | sl_rw [bind_assoc] | sl_rw [Prog.bind_assoc]
  sl_for (inv c arg2 arg3 arg4 arg5 arg6 arg7 arg8 arg9 arg10 arg11 arg12 arg13 arg14 f2 f3 f4 f5 f6 f7) $$ [H2 H3 H4 H5 H6 H7 H8 H9 H10 H11 H12 H13 H14]
  · intro k acc
    exact trip c i arg2 harg2 arg3 harg3 arg4 harg4 arg5 harg5 arg6 harg6 arg7 harg7 arg8 harg8 arg9 harg9 arg10 harg10 arg11 harg11 arg12 harg12 arg13 harg13 arg14 harg14 f2 f3 f4 f5 f6 f7 _ k
  · unfold inv
    isplitl [H2]; · iexact H2
    isplitl [H3]; · iexact H3
    isplitl [H4]; · iexact H4
    isplitl [H5]; · iexact H5
    isplitl [H6]; · iexact H6
    isplitl [H7]; · iexact H7
    isplitl [H9]; · iexists _; iexact H9
    isplitl [H12]; · iexists _; iexact H12
    isplitl [H14]; · iexists _; iexact H14
    iexists _, _, _, _
    isplitl [H8]; · iexact H8
    isplitl [H10]; · iexact H10
    isplitl [H11]; · iexact H11
    isplitl [H13]; · iexact H13
    ipureintro
    let X : In F := inOf c arg2 arg3 arg4 arg5 arg6 arg7 f2 f3 f4 f5 f6 f7
    have hs0 : ∀ u h, ld (arg9.view.read (Elt F) (arg9.view.writes (Elt F) arg9.view.junk (body.sl.H9_8 c arg2 arg3 arg4 f2 f3 f4))) (slot u h) = X.scr h (0 + u.val) :=
      slots8 arg9.view (fun u h => X.scr h (0 + u.val))
        (by exact In.scr_of X (h := 0) (n := 0) rfl rfl rfl rfl)
        (by exact In.scr_of X (h := 1) (n := 0) rfl rfl rfl rfl)
        (by exact In.scr_of X (h := 0) (n := 1) rfl rfl rfl rfl)
        (by exact In.scr_of X (h := 1) (n := 1) rfl rfl rfl rfl)
        (by exact In.scr_of X (h := 0) (n := 2) rfl rfl rfl rfl)
        (by exact In.scr_of X (h := 1) (n := 2) rfl rfl rfl rfl)
        (by exact In.scr_of X (h := 0) (n := 3) rfl rfl rfl rfl)
        (by exact In.scr_of X (h := 1) (n := 3) rfl rfl rfl rfl)
    have hs1 : ∀ u h, ld (arg10.view.read (Elt F) (arg10.view.writes (Elt F) arg10.view.junk (body.sl.H10_8 c arg2 arg3 arg4 f2 f3 f4))) (slot u h) = X.scr h (4 + u.val) :=
      slots8 arg10.view (fun u h => X.scr h (4 + u.val))
        (by exact In.scr_of X (h := 0) (n := 4) rfl rfl rfl rfl)
        (by exact In.scr_of X (h := 1) (n := 4) rfl rfl rfl rfl)
        (by exact In.scr_of X (h := 0) (n := 5) rfl rfl rfl rfl)
        (by exact In.scr_of X (h := 1) (n := 5) rfl rfl rfl rfl)
        (by exact In.scr_of X (h := 0) (n := 6) rfl rfl rfl rfl)
        (by exact In.scr_of X (h := 1) (n := 6) rfl rfl rfl rfl)
        (by exact In.scr_of X (h := 0) (n := 7) rfl rfl rfl rfl)
        (by exact In.scr_of X (h := 1) (n := 7) rfl rfl rfl rfl)
    have hs2 : ∀ u h, ld (arg9.view.read (Elt F) (arg9.view.writes (Elt F) arg9.view.junk (body.sl.H9_16 c arg2 arg3 arg4 f2 f3 f4))) (slot u h) = X.scr h (8 + u.val) :=
      slots8 arg9.view (fun u h => X.scr h (8 + u.val))
        (by exact In.scr_of X (h := 0) (n := 8) rfl rfl rfl rfl)
        (by exact In.scr_of X (h := 1) (n := 8) rfl rfl rfl rfl)
        (by exact In.scr_of X (h := 0) (n := 9) rfl rfl rfl rfl)
        (by exact In.scr_of X (h := 1) (n := 9) rfl rfl rfl rfl)
        (by exact In.scr_of X (h := 0) (n := 10) rfl rfl rfl rfl)
        (by exact In.scr_of X (h := 1) (n := 10) rfl rfl rfl rfl)
        (by exact In.scr_of X (h := 0) (n := 11) rfl rfl rfl rfl)
        (by exact In.scr_of X (h := 1) (n := 11) rfl rfl rfl rfl)
    have hs3 : ∀ u h, ld (arg10.view.read (Elt F) (arg10.view.writes (Elt F) f10 (body.sl.H10_16 c arg2 arg3 arg4 f2 f3 f4))) (slot u h) = X.scr h (12 + u.val) :=
      slots8 arg10.view (fun u h => X.scr h (12 + u.val))
        (by exact In.scr_of X (h := 0) (n := 12) rfl rfl rfl rfl)
        (by exact In.scr_of X (h := 1) (n := 12) rfl rfl rfl rfl)
        (by exact In.scr_of X (h := 0) (n := 13) rfl rfl rfl rfl)
        (by exact In.scr_of X (h := 1) (n := 13) rfl rfl rfl rfl)
        (by exact In.scr_of X (h := 0) (n := 14) rfl rfl rfl rfl)
        (by exact In.scr_of X (h := 1) (n := 14) rfl rfl rfl rfl)
        (by exact In.scr_of X (h := 0) (n := 15) rfl rfl rfl rfl)
        (by exact In.scr_of X (h := 1) (n := 15) rfl rfl rfl rfl)
    have hp0 : ∀ u h, ld (arg11.view.read (Elt F) (arg11.view.writes (Elt F) arg11.view.junk (body.sl.H11_8 c arg2 arg3 arg4 arg7 arg9 f2 f3 f4 f7))) (slot u h) = X.pw h (0 + u.val) :=
      slots8 arg11.view (fun u h => X.pw h (0 + u.val))
        (by have e := In.pw_lo X 0 (n := 0) (by decide) (hs0 0 0); exact e)
        (by have e := In.pw_lo X 1 (n := 0) (by decide) (hs0 0 1); exact e)
        (by have e := In.pw_lo X 0 (n := 1) (by decide) (hs0 1 0); exact e)
        (by have e := In.pw_lo X 1 (n := 1) (by decide) (hs0 1 1); exact e)
        (by have e := In.pw_lo X 0 (n := 2) (by decide) (hs0 2 0); exact e)
        (by have e := In.pw_lo X 1 (n := 2) (by decide) (hs0 2 1); exact e)
        (by have e := In.pw_lo X 0 (n := 3) (by decide) (hs0 3 0); exact e)
        (by have e := In.pw_lo X 1 (n := 3) (by decide) (hs0 3 1); exact e)
    have hn0 : ∀ u, ld (arg13.view.read (Elt F) (arg13.view.writes (Elt F) arg13.view.junk (body.sl.H13_4 c arg2 arg3 arg4 arg7 arg9 f2 f3 f4 f7))) (slotN u) = X.nw (0 + u.val) :=
      slots4 arg13.view (fun u => X.nw (0 + u.val))
        (by have e := In.nw_lo X (n := 0) (by decide) (hs0 0 0) (hs0 0 1); exact e)
        (by have e := In.nw_lo X (n := 1) (by decide) (hs0 1 0) (hs0 1 1); exact e)
        (by have e := In.nw_lo X (n := 2) (by decide) (hs0 2 0) (hs0 2 1); exact e)
        (by have e := In.nw_lo X (n := 3) (by decide) (hs0 3 0) (hs0 3 1); exact e)
    have hp1 : ∀ u h, ld (arg12.view.read (Elt F) (arg12.view.writes (Elt F) arg12.view.junk (body.sl.H12_8 c arg2 arg3 arg4 arg7 arg10 f2 f3 f4 f7))) (slot u h) = X.pw h (4 + u.val) :=
      slots8 arg12.view (fun u h => X.pw h (4 + u.val))
        (by have e := In.pw_lo X 0 (n := 4) (by decide) (hs1 0 0); exact e)
        (by have e := In.pw_lo X 1 (n := 4) (by decide) (hs1 0 1); exact e)
        (by have e := In.pw_lo X 0 (n := 5) (by decide) (hs1 1 0); exact e)
        (by have e := In.pw_lo X 1 (n := 5) (by decide) (hs1 1 1); exact e)
        (by have e := In.pw_lo X 0 (n := 6) (by decide) (hs1 2 0); exact e)
        (by have e := In.pw_lo X 1 (n := 6) (by decide) (hs1 2 1); exact e)
        (by have e := In.pw_lo X 0 (n := 7) (by decide) (hs1 3 0); exact e)
        (by have e := In.pw_lo X 1 (n := 7) (by decide) (hs1 3 1); exact e)
    have hn1 : ∀ u, ld (arg14.view.read (Elt F) (arg14.view.writes (Elt F) arg14.view.junk (body.sl.H14_4 c arg2 arg3 arg4 arg7 arg10 f2 f3 f4 f7))) (slotN u) = X.nw (4 + u.val) :=
      slots4 arg14.view (fun u => X.nw (4 + u.val))
        (by have e := In.nw_lo X (n := 4) (by decide) (hs1 0 0) (hs1 0 1); exact e)
        (by have e := In.nw_lo X (n := 5) (by decide) (hs1 1 0) (hs1 1 1); exact e)
        (by have e := In.nw_lo X (n := 6) (by decide) (hs1 2 0) (hs1 2 1); exact e)
        (by have e := In.nw_lo X (n := 7) (by decide) (hs1 3 0) (hs1 3 1); exact e)
    have hp2 : ∀ u h, ld (arg11.view.read (Elt F) (arg11.view.writes (Elt F) f11 (body.sl.H11_16 c arg2 arg3 arg4 arg7 arg9 f2 f3 f4 f7))) (slot u h) = X.pw h (8 + u.val) :=
      slots8 arg11.view (fun u h => X.pw h (8 + u.val))
        (by have e := In.pw_lo X 0 (n := 8) (by decide) (hs2 0 0); exact e)
        (by have e := In.pw_lo X 1 (n := 8) (by decide) (hs2 0 1); exact e)
        (by have e := In.pw_lo X 0 (n := 9) (by decide) (hs2 1 0); exact e)
        (by have e := In.pw_lo X 1 (n := 9) (by decide) (hs2 1 1); exact e)
        (by have e := In.pw_lo X 0 (n := 10) (by decide) (hs2 2 0); exact e)
        (by have e := In.pw_lo X 1 (n := 10) (by decide) (hs2 2 1); exact e)
        (by have e := In.pw_lo X 0 (n := 11) (by decide) (hs2 3 0); exact e)
        (by have e := In.pw_lo X 1 (n := 11) (by decide) (hs2 3 1); exact e)
    have hn2 : ∀ u, ld (arg13.view.read (Elt F) (arg13.view.writes (Elt F) f13 (body.sl.H13_8 c arg2 arg3 arg4 arg7 arg9 f2 f3 f4 f7))) (slotN u) = X.nw (8 + u.val) :=
      slots4 arg13.view (fun u => X.nw (8 + u.val))
        (by have e := In.nw_lo X (n := 8) (by decide) (hs2 0 0) (hs2 0 1); exact e)
        (by have e := In.nw_lo X (n := 9) (by decide) (hs2 1 0) (hs2 1 1); exact e)
        (by have e := In.nw_lo X (n := 10) (by decide) (hs2 2 0) (hs2 2 1); exact e)
        (by have e := In.nw_lo X (n := 11) (by decide) (hs2 3 0) (hs2 3 1); exact e)
    have d4 : Done X 4 (arg8.view.read (Elt F) (arg8.view.writes (Elt F) f8 (body.sl.H8_8 c arg2 arg3 arg4 arg5 arg6 arg7 arg9 arg11 arg13 f2 f3 f4 f5 f6 f7))) := by
      exact Done.four (n := 0) (L := []) (by decide) (Done.zero X _) rfl rfl rfl rfl rfl rfl rfl rfl
          (by have e := X.tile0_of (n := 0) rfl (band_inb 0) (band_inb 0) (hp0 0 0) (hp0 0 1) (hn0 0); exact e)
          (by have e := X.tile1_of (n := 0) rfl (band_inb 0) (band_inb 0) (hp0 0 0) (hp0 0 1) (hn0 0); exact e)
          (by have e := X.tile0_of (n := 1) rfl (band_inb 1) (band_inb 1) (hp0 1 0) (hp0 1 1) (hn0 1); exact e)
          (by have e := X.tile1_of (n := 1) rfl (band_inb 1) (band_inb 1) (hp0 1 0) (hp0 1 1) (hn0 1); exact e)
          (by have e := X.tile0_of (n := 2) rfl (band_inb 2) (band_inb 2) (hp0 2 0) (hp0 2 1) (hn0 2); exact e)
          (by have e := X.tile1_of (n := 2) rfl (band_inb 2) (band_inb 2) (hp0 2 0) (hp0 2 1) (hn0 2); exact e)
          (by have e := X.tile0_of (n := 3) rfl (band_inb 3) (band_inb 3) (hp0 3 0) (hp0 3 1) (hn0 3); exact e)
          (by have e := X.tile1_of (n := 3) rfl (band_inb 3) (band_inb 3) (hp0 3 0) (hp0 3 1) (hn0 3); exact e)
    refine ⟨?_, hs3, hp2, hn2⟩
    exact Done.four (n := 4) (by decide) d4 rfl rfl rfl rfl rfl rfl rfl rfl
          (by have e := X.tile0_of (n := 4) rfl (band_inb 4) (band_inb 4) (hp1 0 0) (hp1 0 1) (hn1 0); exact e)
          (by have e := X.tile1_of (n := 4) rfl (band_inb 4) (band_inb 4) (hp1 0 0) (hp1 0 1) (hn1 0); exact e)
          (by have e := X.tile0_of (n := 5) rfl (band_inb 5) (band_inb 5) (hp1 1 0) (hp1 1 1) (hn1 1); exact e)
          (by have e := X.tile1_of (n := 5) rfl (band_inb 5) (band_inb 5) (hp1 1 0) (hp1 1 1) (hn1 1); exact e)
          (by have e := X.tile0_of (n := 6) rfl (band_inb 6) (band_inb 6) (hp1 2 0) (hp1 2 1) (hn1 2); exact e)
          (by have e := X.tile1_of (n := 6) rfl (band_inb 6) (band_inb 6) (hp1 2 0) (hp1 2 1) (hn1 2); exact e)
          (by have e := X.tile0_of (n := 7) rfl (band_inb 7) (band_inb 7) (hp1 3 0) (hp1 3 1) (hn1 3); exact e)
          (by have e := X.tile1_of (n := 7) rfl (band_inb 7) (band_inb 7) (hp1 3 0) (hp1 3 1) (hn1 3); exact e)
  unfold inv
  iintro %acc ⟨H2, H3, H4, H5, H6, H7, ⟨%g9, H9⟩, ⟨%g12, H12⟩, ⟨%g14, H14⟩, %g8, %g10, %g11, %g13, H8, H10, H11, H13, %st⟩
  sl_exec_parts
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    let X : In F := inOf c arg2 arg3 arg4 arg5 arg6 arg7 f2 f3 f4 f5 f6 f7
    have e6 : Scf.trips k0_t1_loop.lb k0_t1_loop.ub k0_t1_loop.st = 6 := by decide +kernel
    rw [e6] at st
    have hp : ∀ u h, ld (arg12.view.read (Elt F) (arg12.view.writes (Elt F) arg12.view.junk (body.sl.H12_8_1 c arg7 arg10 f7 g10))) (slot u h) = X.pw h (60 + u.val) :=
      slots8 arg12.view (fun u h => X.pw h (60 + u.val))
        (by have e := In.pw_of X 0 (n := 60) (by decide) (st.s 0 0); exact e)
        (by have e := In.pw_of X 1 (n := 60) (by decide) (st.s 0 1); exact e)
        (by have e := In.pw_of X 0 (n := 61) (by decide) (st.s 1 0); exact e)
        (by have e := In.pw_of X 1 (n := 61) (by decide) (st.s 1 1); exact e)
        (by have e := In.pw_of X 0 (n := 62) (by decide) (st.s 2 0); exact e)
        (by have e := In.pw_of X 1 (n := 62) (by decide) (st.s 2 1); exact e)
        (by have e := In.pw_of X 0 (n := 63) (by decide) (st.s 3 0); exact e)
        (by have e := In.pw_of X 1 (n := 63) (by decide) (st.s 3 1); exact e)
    have hn : ∀ u, ld (arg14.view.read (Elt F) (arg14.view.writes (Elt F) arg14.view.junk (body.sl.H14_4_1 c arg7 arg10 f7 g10))) (slotN u) = X.nw (60 + u.val) :=
      slots4 arg14.view (fun u => X.nw (60 + u.val))
        (by have e := In.nw_of X (n := 60) (by decide) (st.s 0 0) (st.s 0 1); exact e)
        (by have e := In.nw_of X (n := 61) (by decide) (st.s 1 0) (st.s 1 1); exact e)
        (by have e := In.nw_of X (n := 62) (by decide) (st.s 2 0) (st.s 2 1); exact e)
        (by have e := In.nw_of X (n := 63) (by decide) (st.s 3 0) (st.s 3 1); exact e)
    have d4 : Done X 60 (arg8.view.read (Elt F) (arg8.view.writes (Elt F) g8 (body.sl.H8_8_1 c arg5 arg6 arg11 arg13 f5 f6 g11 g13))) := by
      exact Done.four (n := 56) (L := []) (by decide) st.done rfl rfl rfl rfl rfl rfl rfl rfl
          (by have e := X.tile0_of (n := 56) rfl (band_inb 56) (band_inb 56) (st.p 0 0) (st.p 0 1) (st.n 0); exact e)
          (by have e := X.tile1_of (n := 56) rfl (band_inb 56) (band_inb 56) (st.p 0 0) (st.p 0 1) (st.n 0); exact e)
          (by have e := X.tile0_of (n := 57) rfl (band_inb 57) (band_inb 57) (st.p 1 0) (st.p 1 1) (st.n 1); exact e)
          (by have e := X.tile1_of (n := 57) rfl (band_inb 57) (band_inb 57) (st.p 1 0) (st.p 1 1) (st.n 1); exact e)
          (by have e := X.tile0_of (n := 58) rfl (band_inb 58) (band_inb 58) (st.p 2 0) (st.p 2 1) (st.n 2); exact e)
          (by have e := X.tile1_of (n := 58) rfl (band_inb 58) (band_inb 58) (st.p 2 0) (st.p 2 1) (st.n 2); exact e)
          (by have e := X.tile0_of (n := 59) rfl (band_inb 59) (band_inb 59) (st.p 3 0) (st.p 3 1) (st.n 3); exact e)
          (by have e := X.tile1_of (n := 59) rfl (band_inb 59) (band_inb 59) (st.p 3 0) (st.p 3 1) (st.n 3); exact e)
    refine Done.eq (X := X) ?_
    exact Done.four (n := 60) (by decide) d4 rfl rfl rfl rfl rfl rfl rfl rfl
          (by have e := X.tile0_of (n := 60) rfl (band_inb 60) (band_inb 60) (hp 0 0) (hp 0 1) (hn 0); exact e)
          (by have e := X.tile1_of (n := 60) rfl (band_inb 60) (band_inb 60) (hp 0 0) (hp 0 1) (hn 0); exact e)
          (by have e := X.tile0_of (n := 61) rfl (band_inb 61) (band_inb 61) (hp 1 0) (hp 1 1) (hn 1); exact e)
          (by have e := X.tile1_of (n := 61) rfl (band_inb 61) (band_inb 61) (hp 1 0) (hp 1 1) (hn 1); exact e)
          (by have e := X.tile0_of (n := 62) rfl (band_inb 62) (band_inb 62) (hp 2 0) (hp 2 1) (hn 2); exact e)
          (by have e := X.tile1_of (n := 62) rfl (band_inb 62) (band_inb 62) (hp 2 0) (hp 2 1) (hn 2); exact e)
          (by have e := X.tile0_of (n := 63) rfl (band_inb 63) (band_inb 63) (hp 3 0) (hp 3 1) (hn 3); exact e)
          (by have e := X.tile1_of (n := 63) rfl (band_inb 63) (band_inb 63) (hp 3 0) (hp 3 1) (hn 3); exact e)
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Body

end Cert.KernelIdeal.Hand
-- ==== Proof.IdealRun.lean ====
module

public import proofs.«01_k».proof.Proof.IdealBody
public import Idealize.ShloMosaic.Lib.Claim
public import proofs.«01_k».proof.Proof.Gen.KernelIdeal.Points

/-! The launch: the pipeline's proof data, the body's obligation at every grid point, the run and the frame. -/

@[expose] public section

set_option maxRecDepth 16384
set_option maxHeartbeats 400000

noncomputable section

namespace Cert.KernelIdeal.Hand

open Cert.KernelIdeal Cert.KernelIdeal.Gen Cert.Hand
open Idealize.ShloMosaic Idealize.ShloMosaic.View Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- A whole buffer held through its memref. -/
theorem pt_whole (c : Dev nD) (b : Ref sig .tc) (f : Buf (Elt F) ((c : Thread nD τ).loc b)) :
    (pt c (Memref.whole b) f : sProp 𝕄) = (((c : Thread nD τ).loc b) ↦{fullShare} f) := by
  show ((Memref.whole b).view.loc (c : Thread nD τ) ↦[(Memref.whole b).view.set]{fullShare} f : sProp 𝕄) = _
  simp only [Memref.view_whole, View.set_whole]

/-- The same at some contents. -/
theorem ex_whole (c : Dev nD) (b : Ref sig .tc) :
    (iprop(∃ f : Buf (Elt F) ((c : Thread nD τ).loc b), (((c : Thread nD τ).loc b) ↦{fullShare} f)) : sProp 𝕄) =
      iprop(∃ f, pt c (Memref.whole b) f) := by
  congr 1; funext f; exact (pt_whole c b f).symm

/-- The scoped buffers that no window stages are the six scratch buffers. -/
theorem scratch_eq (c : Dev nD) :
    (Pipeline.scopedRest (Ix := Unit) (Name := ℕ) (U := UR sig nD τ) (Lvl := ℕ) (Val := Elt F) spec0 c : sProp 𝕄) =
      iprop((∃ f, pt c (Memref.whole cc0_scratch0) f) ∗ (∃ f, pt c (Memref.whole cc0_scratch1) f) ∗
        (∃ f, pt c (Memref.whole cc0_scratch2) f) ∗ (∃ f, pt c (Memref.whole cc0_scratch3) f) ∗
        (∃ f, pt c (Memref.whole cc0_scratch4) f) ∗ (∃ f, pt c (Memref.whole cc0_scratch5) f)) := by
  rw [scopedRest0_eq, ex_whole, ex_whole, ex_whole, ex_whole, ex_whole, ex_whole]

/-- The output block as a function of the input blocks. -/
def outBlk (x0 : Vec F S4096x256 .bf16) (x1 x2 x3 x4 : Vec F S4096x128 .bf16) (x5 : Vec F S2x1088x128 .f32) :
    Vec F S4096x256 .bf16 := (⟨x0, x1, x2, x3, x4, x5⟩ : In F).out

/-- The proof data on core `c`: the arrays as the region finds them; after the body each input's buffer at its block and
the output's at `outBlk` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t =
    outBlk (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6,
    show (dats m 0 c).Φ t.castSucc = Pipeline.ΦA spec0 c from rfl]
  unfold Pipeline.ΦA
  rw [scratch_eq]
  unfold owns
  iintro ⟨⟨⟨⟨%f9, H9⟩, ⟨%f10, H10⟩, ⟨%f11, H11⟩, ⟨%f12, H12⟩, ⟨%f13, H13⟩, ⟨%f14, H14⟩⟩, Hg⟩, Ho, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, -, H8⟩⟩
  iapply wp_wand_r
  isplitl [H2 H3 H4 H5 H6 H7 H8 H9 H10 H11 H12 H13 H14]
  · iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f2 f3 f4 f5 f6 f7 f8 f9 f10 f11 f12 f13 f14)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %a ⟨H2, H3, H4, H5, H6, H7, ⟨%g8, H8, %e8⟩, ⟨%g9, H9⟩, ⟨%g10, H10⟩, ⟨%g11, H11⟩, ⟨%g12, H12⟩, ⟨%g13, H13⟩, ⟨%g14, H14⟩⟩
  isplitl [H9 H10 H11 H12 H13 H14 Hg]
  · isplitl [H9 H10 H11 H12 H13 H14]
    · isplitl [H9]; · iexists g9; iexact H9
      isplitl [H10]; · iexists g10; iexact H10
      isplitl [H11]; · iexists g11; iexact H11
      isplitl [H12]; · iexists g12; iexact H12
      isplitl [H13]; · iexists g13; iexact H13
      iexists g14; iexact H14
    iexact Hg
  isplitl [Ho]; · iexact Ho
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists g8; isplitr
  · ipureintro
    rw [e8]; unfold inOf outBlk; rw [h2, h3, h4, h5, h6, h7]
  iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run: every array of the pipeline at what the proof data says, every other unscoped buffer as the region found it,
every counter zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

/-- The frame: the arguments end unchanged and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main m ρ))

end Cert.KernelIdeal.Hand
-- ==== Proof.Table.lean ====
module

public import proofs.«01_k».proof.Proof.Gen.KernelIdeal
public import proofs.«01_k».proof.Proof.Gen.ReferenceIdeal
public import Idealize.ShloMosaic.Lib.Pointwise
public import Idealize.ShloMosaic.Lib.Routing.Words

/-! The bias table: its rows gathered at clipped distances. -/

@[expose] public section

set_option maxRecDepth 16384

noncomputable section

namespace Cert.Hand

open Idealize.ShloMosaic

/-- The table's column for a query at `t` and a key at `s`: their distance clipped to [-63, 256], plus 63. -/
def col (t s : ℕ) : Fin 320 := ⟨min (t + 63 - s) 319, by omega⟩

/-- The kernel's gather of table columns at an index. -/
theorem gather_kernel (x : Cert.KernelIdeal.S32x320.Idx → EReal) (idx : IVec Cert.KernelIdeal.S640x1 32) (a : Fin 32) (b : Fin 640) :
    Host.gather Cert.KernelIdeal.gather_S32x320_S640x1_S32x640_0_1_n_n_1_1_321 x idx (ix2 a b)
      = x (ix2 a ⟨min (idx (ix2 b 0)).toInt.toNat 319, by omega⟩) := by
  unfold Host.gather
  congr 1
  funext e
  refine Fin.ext ?_
  show Cert.KernelIdeal.gather_S32x320_S640x1_S32x640_0_1_n_n_1_1_321.start (ix2 a b) idx e
      + Cert.KernelIdeal.gather_S32x320_S640x1_S32x640_0_1_n_n_1_1_321.batchCoord (ix2 a b) e
      + Cert.KernelIdeal.gather_S32x320_S640x1_S32x640_0_1_n_n_1_1_321.offCoord (ix2 a b) e = _
  rw [GatherDims.batchCoord_eq_zero _ _ _ List.not_mem_nil]
  have h01 : e = 0 ∨ e = 1 := by
    match e with
    | ⟨0, _⟩ => exact Or.inl rfl
    | ⟨1, _⟩ => exact Or.inr rfl
  rcases h01 with rfl | rfl
  · have h0 : Cert.KernelIdeal.gather_S32x320_S640x1_S32x640_0_1_n_n_1_1_321.start (ix2 a b) idx 0 = 0 := by
      unfold GatherDims.start
      exact dif_neg (show ¬ (0 : Fin 2) ∈ [(1 : Fin 2)] by decide)
    rw [h0]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ Cert.KernelIdeal.gather_S32x320_S640x1_S32x640_0_1_n_n_1_1_321.startIndexMap from List.mem_singleton.mpr rfl)).trans ?_
    have hsi : Cert.KernelIdeal.gather_S32x320_S640x1_S32x640_0_1_n_n_1_1_321.siIdx (ix2 a b)
        ⟨List.idxOf (1 : Fin 2) [(1 : Fin 2)], List.idxOf_lt_length_iff.2 (List.mem_singleton.mpr rfl)⟩ = ix2 b 0 := by
      funext f; refine Fin.ext ?_
      match f with
      | ⟨0, _⟩ => rfl
      | ⟨1, _⟩ => rfl
    exact congrArg (fun i => min (idx i).toInt.toNat 319) hsi

/-- The reference's gather of table columns at an index. -/
theorem gather_reference (x : Cert.ReferenceIdeal.S32x320.Idx → EReal) (idx : IVec Cert.ReferenceIdeal.S4096x4096x1 32)
    (a : Fin 32) (b c : Fin 4096) :
    Host.gather Cert.ReferenceIdeal.gather_S32x320_S4096x4096x1_S32x4096x4096_0_1_n_n_1_2_321 x idx (ix3 a b c)
      = x (ix2 a ⟨min (idx (ix3 b c 0)).toInt.toNat 319, by omega⟩) := by
  unfold Host.gather
  congr 1
  funext e
  refine Fin.ext ?_
  show Cert.ReferenceIdeal.gather_S32x320_S4096x4096x1_S32x4096x4096_0_1_n_n_1_2_321.start (ix3 a b c) idx e
      + Cert.ReferenceIdeal.gather_S32x320_S4096x4096x1_S32x4096x4096_0_1_n_n_1_2_321.batchCoord (ix3 a b c) e
      + Cert.ReferenceIdeal.gather_S32x320_S4096x4096x1_S32x4096x4096_0_1_n_n_1_2_321.offCoord (ix3 a b c) e = _
  rw [GatherDims.batchCoord_eq_zero _ _ _ List.not_mem_nil]
  have h01 : e = 0 ∨ e = 1 := by
    match e with
    | ⟨0, _⟩ => exact Or.inl rfl
    | ⟨1, _⟩ => exact Or.inr rfl
  rcases h01 with rfl | rfl
  · have h0 : Cert.ReferenceIdeal.gather_S32x320_S4096x4096x1_S32x4096x4096_0_1_n_n_1_2_321.start (ix3 a b c) idx 0 = 0 := by
      unfold GatherDims.start
      exact dif_neg (show ¬ (0 : Fin 2) ∈ [(1 : Fin 2)] by decide)
    rw [h0]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ Cert.ReferenceIdeal.gather_S32x320_S4096x4096x1_S32x4096x4096_0_1_n_n_1_2_321.startIndexMap from List.mem_singleton.mpr rfl)).trans ?_
    have hsi : Cert.ReferenceIdeal.gather_S32x320_S4096x4096x1_S32x4096x4096_0_1_n_n_1_2_321.siIdx (ix3 a b c)
        ⟨List.idxOf (1 : Fin 2) [(1 : Fin 2)], List.idxOf_lt_length_iff.2 (List.mem_singleton.mpr rfl)⟩ = ix3 b c 0 := by
      funext f; refine Fin.ext ?_
      match f with
      | ⟨0, _⟩ => rfl
      | ⟨1, _⟩ => rfl
      | ⟨2, _⟩ => rfl
    exact congrArg (fun i => min (idx i).toInt.toNat 319) hsi

/-- A difference of two words, read signed, where it does not leave the words' range. -/
theorem toInt_subi (x y : BitVec 32) (h : -2147483648 ≤ x.toInt - y.toInt) (h' : x.toInt - y.toInt < 2147483648) :
    (IntOp.subi x y).toInt = x.toInt - y.toInt := by
  unfold IntOp.subi
  rw [BitVec.toInt_sub, Int.bmod_eq_of_le (by omega) (by omega)]

/-- A small number's word, read signed. -/
theorem toInt_word (a : ℕ) (ha : a < 2147483648) : (BitVec.ofNat 32 a).toInt = (a : Int) := by
  rw [BitVec.toInt_ofNat', Int.bmod_eq_of_le (by omega) (by omega)]

/-- The wrapped and clipped distance word, as a column. -/
theorem word_col (a b : ℕ) (ha : a < 4096) (hb : b < 4096) :
    min (Scalar.select
        (IntOp.cmpi .slt (IntOp.subi (IntOp.minsi 256#32 (IntOp.maxsi 4294967233#32
          (IntOp.subi (BitVec.ofNat 32 a) (BitVec.ofNat 32 b)))) 4294967233#32) 0#32)
        (IntOp.addi (IntOp.subi (IntOp.minsi 256#32 (IntOp.maxsi 4294967233#32
          (IntOp.subi (BitVec.ofNat 32 a) (BitVec.ofNat 32 b)))) 4294967233#32) 320#32)
        (IntOp.subi (IntOp.minsi 256#32 (IntOp.maxsi 4294967233#32
          (IntOp.subi (BitVec.ofNat 32 a) (BitVec.ofNat 32 b)))) 4294967233#32)).toInt.toNat 319 = min (a + 63 - b) 319 := by
  have hd : (IntOp.subi (BitVec.ofNat 32 a) (BitVec.ofNat 32 b)).toInt = (a : Int) - b := by
    rw [toInt_subi _ _ (by rw [toInt_word a (by omega), toInt_word b (by omega)]; omega)
      (by rw [toInt_word a (by omega), toInt_word b (by omega)]; omega), toInt_word a (by omega), toInt_word b (by omega)]
  generalize IntOp.subi (BitVec.ofNat 32 a) (BitVec.ofNat 32 b) = d at hd
  have h1 : (IntOp.maxsi 4294967233#32 d).toInt = max (-63) d.toInt := by
    unfold IntOp.maxsi
    rw [BitVec.slt_eq_decide]
    have : (4294967233#32).toInt = -63 := by decide
    rw [this]
    by_cases h : d.toInt < -63
    · rw [if_pos (decide_eq_true h), this]; omega
    · rw [if_neg (by simpa using h)]; omega
  have h2 : (IntOp.minsi 256#32 (IntOp.maxsi 4294967233#32 d)).toInt = min 256 (max (-63) d.toInt) := by
    unfold IntOp.minsi
    rw [BitVec.slt_eq_decide, h1]
    have : (256#32).toInt = 256 := by decide
    rw [this]
    by_cases h : 256 < max (-63) d.toInt
    · rw [if_pos (decide_eq_true h), this]; omega
    · rw [if_neg (by simpa using h), h1]; omega
  have hm : (4294967233#32).toInt = -63 := by decide
  have h3 : (IntOp.subi (IntOp.minsi 256#32 (IntOp.maxsi 4294967233#32 d)) 4294967233#32).toInt
      = min 256 (max (-63) d.toInt) + 63 := by
    rw [toInt_subi _ _ (by rw [h2, hm]; omega) (by rw [h2, hm]; omega), h2, hm]
    omega
  generalize IntOp.subi (IntOp.minsi 256#32 (IntOp.maxsi 4294967233#32 d)) 4294967233#32 = w at h3
  have h4 : IntOp.cmpi .slt w 0#32 = 0#1 := by
    show BitVec.ofBool (w.slt 0#32) = 0#1
    rw [BitVec.slt_eq_decide, show (0#32).toInt = 0 by decide, decide_eq_false (by omega)]
    rfl
  rw [h4]
  show min w.toInt.toNat 319 = _
  rw [h3, hd]
  omega

/-- A query at `t` sees a key at `s`: the key's chunk of 64 is the query's or one of the eight before it. -/
def sees (t s : ℕ) : Prop := s / 64 ≤ t / 64 ∧ t / 64 ≤ s / 64 + 8

instance (t s : ℕ) : Decidable (sees t s) := by unfold sees; infer_instance

/-- The reference's mask bit. -/
theorem sees_word (t s : ℕ) (ht : t < 4096) (hs : s < 4096) {α : Type} (x y : α) :
    Scalar.select (IntOp.andi
        (IntOp.cmpi .sle (IntOp.divsi ArithUnit.host (BitVec.ofNat 32 s) 64#32) (IntOp.divsi ArithUnit.host (BitVec.ofNat 32 t) 64#32))
        (IntOp.cmpi .sle (IntOp.divsi ArithUnit.host (BitVec.ofNat 32 t) 64#32)
          (IntOp.addi (IntOp.divsi ArithUnit.host (BitVec.ofNat 32 s) 64#32) 8#32))) x y = if sees t s then x else y := by
  have hdiv : ∀ a, a < 4096 → IntOp.divsi ArithUnit.host (BitVec.ofNat 32 a) 64#32 = BitVec.ofNat 32 (a / 64) :=
    fun a ha => Routing.divsi_word _ (by omega) (by omega) (by omega)
  rw [hdiv t ht, hdiv s hs]
  have hadd : IntOp.addi (BitVec.ofNat 32 (s / 64)) 8#32 = BitVec.ofNat 32 (s / 64 + 8) := by
    unfold IntOp.addi
    rw [BitVec.ofNat_add]
  rw [hadd]
  have hle : ∀ a b, a < 4096 → b < 4096 → IntOp.cmpi .sle (BitVec.ofNat 32 a) (BitVec.ofNat 32 b) = BitVec.ofBool (decide (a ≤ b)) := by
    intro a b ha hb
    show BitVec.ofBool ((BitVec.ofNat 32 a).sle (BitVec.ofNat 32 b)) = _
    rw [BitVec.sle_eq_decide, toInt_word a (by omega), toInt_word b (by omega)]
    congr 1
    simp
  rw [hle _ _ (by omega) (by omega), hle _ _ (by omega) (by omega)]
  unfold sees
  by_cases h1 : s / 64 ≤ t / 64 <;> by_cases h2 : t / 64 ≤ s / 64 + 8 <;> simp [h1, h2] <;> rfl

end Cert.Hand

end
-- ==== Proof.HostAt.lean ====
module

public import proofs.«01_k».proof.Proof.IdealRun
public import proofs.«01_k».proof.Proof.Table
public import Idealize.ShloMosaic.Lib.StableHlo.ReadAt
public import Idealize.ShloMosaic.Lib.Tactic.CleanTypes

/-! The kernel's operands, as the host code makes them, at an index. -/

@[expose] public section

set_option maxRecDepth 16384

noncomputable section

namespace Cert.KernelIdeal.Hand

open Cert.KernelIdeal Cert.KernelIdeal.Gen Cert.Hand
open Idealize.ShloMosaic

variable (m : (ℓ : Loc nD τ sig) → Buf (Elt Ideal) ℓ) (c : Dev nD)

/-- The queries, keys, values and table, read by their coordinates. -/
def argQ (b : Fin 8) (t : Fin 4096) (h : Fin 8) (g : Fin 4) (d : Fin 64) : EReal :=
  m ((c.tc : Thread nD τ).loc main_arg0) (ix5 b t h g d)
/-- The keys. -/
def argK (b : Fin 8) (t : Fin 4096) (h : Fin 8) (d : Fin 64) : EReal := m ((c.tc : Thread nD τ).loc main_arg1) (ix4 b t h d)
/-- The values. -/
def argV (b : Fin 8) (t : Fin 4096) (h : Fin 8) (d : Fin 64) : EReal := m ((c.tc : Thread nD τ).loc main_arg2) (ix4 b t h d)
/-- The bias table. -/
def argT (h : Fin 32) (w : Fin 320) : EReal := m ((c.tc : Thread nD τ).loc main_arg3) (ix2 h w)

theorem host_q (r : Fin 32768) (k : Fin 2048) : (V m c main_v1 : S32768x2048.Idx → EReal) (ix2 r k) =
    argQ m c ⟨r.val / 4096, by omega⟩ ⟨r.val % 4096, by omega⟩ ⟨k.val / 256, by omega⟩ ⟨k.val / 64 % 4, by omega⟩
      ⟨k.val % 64, by omega⟩ := by
  unfold V
  after_reads_at
  rfl

/-- Sixty-four lanes of a row and sixty-four zeros. -/
def low (f : Fin 64 → EReal) (l : ℕ) : EReal := if h : l < 64 then f ⟨l, h⟩ else 0
/-- Sixty-four zeros and sixty-four lanes of a row. -/
def high (f : Fin 64 → EReal) (l : ℕ) : EReal := if h : 64 ≤ l ∧ l - 64 < 64 then f ⟨l - 64, h.2⟩ else 0

theorem zero_word : FloatOps.sitofp (F := Ideal) FTy.f32 0#32 = (0 : EReal) := by
  show (((0#32).toInt : ℝ) : EReal) = 0
  simp

theorem low_pos (f : Fin 64 → EReal) (l : ℕ) (h : l < 64) : low f l = f ⟨l, h⟩ := dif_pos h
theorem low_neg (f : Fin 64 → EReal) (l : ℕ) (h : ¬ l < 64) : low f l = 0 := dif_neg h
theorem high_pos (f : Fin 64 → EReal) (l : ℕ) (h : 64 ≤ l ∧ l - 64 < 64) : high f l = f ⟨l - 64, h.2⟩ := dif_pos h
theorem high_neg (f : Fin 64 → EReal) (l : ℕ) (h : ¬ (64 ≤ l ∧ l - 64 < 64)) : high f l = 0 := dif_neg h

theorem host_kl (r : Fin 32768) (k : Fin 1024) : (V m c main_v5 : S32768x1024.Idx → EReal) (ix2 r k) =
    low (argK m c ⟨r.val / 4096, by omega⟩ ⟨r.val % 4096, by omega⟩ ⟨k.val / 128, by omega⟩) (k.val % 128) := by
  unfold V
  after_reads_at
  by_cases h : k.val % 128 < 64
  · exact (dif_pos ⟨by omega, by omega, by omega, h⟩).trans (low_pos (argK m c ⟨r.val / 4096, by omega⟩ ⟨r.val % 4096, by omega⟩ ⟨k.val / 128, by omega⟩) _ h).symm
  · exact (dif_neg fun q => h q.2.2.2).trans (zero_word.trans (low_neg (argK m c ⟨r.val / 4096, by omega⟩ ⟨r.val % 4096, by omega⟩ ⟨k.val / 128, by omega⟩) _ h).symm)

theorem host_kh (r : Fin 32768) (k : Fin 1024) : (V m c main_v7 : S32768x1024.Idx → EReal) (ix2 r k) =
    high (argK m c ⟨r.val / 4096, by omega⟩ ⟨r.val % 4096, by omega⟩ ⟨k.val / 128, by omega⟩) (k.val % 128) := by
  unfold V
  after_reads_at
  by_cases h : 64 ≤ k.val % 128 ∧ k.val % 128 - 64 < 64
  · exact (dif_pos ⟨by omega, by omega, by omega, h⟩).trans (high_pos (argK m c ⟨r.val / 4096, by omega⟩ ⟨r.val % 4096, by omega⟩ ⟨k.val / 128, by omega⟩) _ h).symm
  · exact (dif_neg fun q => h q.2.2.2).trans (zero_word.trans (high_neg (argK m c ⟨r.val / 4096, by omega⟩ ⟨r.val % 4096, by omega⟩ ⟨k.val / 128, by omega⟩) _ h).symm)

theorem host_vl (r : Fin 32768) (k : Fin 1024) : (V m c main_v11 : S32768x1024.Idx → EReal) (ix2 r k) =
    low (argV m c ⟨r.val / 4096, by omega⟩ ⟨r.val % 4096, by omega⟩ ⟨k.val / 128, by omega⟩) (k.val % 128) := by
  unfold V
  after_reads_at
  by_cases h : k.val % 128 < 64
  · exact (dif_pos ⟨by omega, by omega, by omega, h⟩).trans (low_pos (argV m c ⟨r.val / 4096, by omega⟩ ⟨r.val % 4096, by omega⟩ ⟨k.val / 128, by omega⟩) _ h).symm
  · exact (dif_neg fun q => h q.2.2.2).trans (zero_word.trans (low_neg (argV m c ⟨r.val / 4096, by omega⟩ ⟨r.val % 4096, by omega⟩ ⟨k.val / 128, by omega⟩) _ h).symm)

theorem host_vh (r : Fin 32768) (k : Fin 1024) : (V m c main_v13 : S32768x1024.Idx → EReal) (ix2 r k) =
    high (argV m c ⟨r.val / 4096, by omega⟩ ⟨r.val % 4096, by omega⟩ ⟨k.val / 128, by omega⟩) (k.val % 128) := by
  unfold V
  after_reads_at
  by_cases h : 64 ≤ k.val % 128 ∧ k.val % 128 - 64 < 64
  · exact (dif_pos ⟨by omega, by omega, by omega, h⟩).trans (high_pos (argV m c ⟨r.val / 4096, by omega⟩ ⟨r.val % 4096, by omega⟩ ⟨k.val / 128, by omega⟩) _ h).symm
  · exact (dif_neg fun q => h q.2.2.2).trans (zero_word.trans (high_neg (argV m c ⟨r.val / 4096, by omega⟩ ⟨r.val % 4096, by omega⟩ ⟨k.val / 128, by omega⟩) _ h).symm)

theorem host_b (j : Fin 16) (k : Fin 1088) (l : Fin 128) (hk : k.val < 576) : (V m c main_v37 : S16x1088x128.Idx → EReal) (ix3 j k l) =
    argT m c ⟨j.val / 2 * 4 + l.val / 64 * 2 + j.val % 2, by omega⟩ (col (512 + l.val % 64) k.val) := by
  unfold V
  after_reads_at
  rw [dif_pos hk]
  simp only [gather_kernel, id]
  pointwise
  have hb : (l.val % 64 * 639 + (63 + k.val)) % 640 = 63 + k.val - l.val % 64 := by omega
  simp only [hb, word_col 575 _ (by omega) (show 63 + k.val - l.val % 64 < 4096 by omega)]
  have hl : (⟨min (575 + 63 - (63 + k.val - l.val % 64)) 319, by omega⟩ : Fin 320) = col (512 + l.val % 64) k.val := by
    apply Fin.ext
    show min (575 + 63 - (63 + k.val - l.val % 64)) 319 = min (512 + l.val % 64 + 63 - k.val) 319
    omega
  exact congrArg (argT m c ⟨j.val / 2 * 4 + l.val / 64 * 2 + j.val % 2, by omega⟩) hl

end Cert.KernelIdeal.Hand
end
-- ==== Proof.PayAt.lean ====
module

public import proofs.«01_k».proof.Proof.IdealCanon
public import proofs.«01_k».proof.Proof.Table
public import Idealize.ShloMosaic.Lib.Pointwise
public import Idealize.ShloMosaic.Lib.Tactic.CleanTypes

/-! The kernel's scores, exponentials, reciprocals and output tiles at an index. -/

@[expose] public section

set_option maxRecDepth 16384
set_option maxHeartbeats 4000000

noncomputable section

namespace Cert.KernelIdeal.Hand

open Cert.KernelIdeal Cert.KernelIdeal.Gen Cert.Hand
open Idealize.ShloMosaic Idealize.ShloMosaic.View

theorem log2e_named : (Named.named (F := Ideal) Cert.KernelIdeal.κ "log2e" (φ := .f32) 0x3FB8AA3B#32 : EReal) = (((Real.log 2)⁻¹ : ℝ) : EReal) := rfl
theorem scale_named : (Named.named (F := Ideal) Cert.KernelIdeal.κ "scale" (φ := .f32) 0x3E38AA3B#32 : EReal) = (((1 / 8) * (Real.log 2)⁻¹ : ℝ) : EReal) := rfl
theorem mask_named : (Named.named (F := Ideal) Cert.KernelIdeal.κ "mask" (φ := .f32) 0xF149F2CA#32 : EReal) = ⊥ := rfl
theorem neg_word : Ideal.ofBits .f32 4286578688#32 = ⊥ := by
  simp [Ideal.ofBits, Ideal.ieee]

/-- Comparing two small words, read signed. -/
theorem slt_word (a b : ℕ) (ha : a < 4096) (hb : b < 4096) {α : Type} (x y : α) :
    Scalar.select (IntOp.cmpi .slt (BitVec.ofNat 32 a) (BitVec.ofNat 32 b)) x y = if a < b then x else y := by
  have h : IntOp.cmpi .slt (BitVec.ofNat 32 a) (BitVec.ofNat 32 b) = BitVec.ofBool (decide (a < b)) := by
    show BitVec.ofBool ((BitVec.ofNat 32 a).slt (BitVec.ofNat 32 b)) = _
    rw [BitVec.slt_eq_decide, toInt_word a (by omega), toInt_word b (by omega)]
    congr 1
    simp
  rw [h]
  by_cases h1 : a < b <;> simp [h1] <;> rfl

/-- The number of band rows that lie in the row. -/
theorem sub_word (a : ℕ) (ha : a ≤ 576) : Scalar.subi 576#32 (BitVec.ofNat 32 a) = BitVec.ofNat 32 (576 - a) := by
  apply BitVec.eq_of_toNat_eq
  show ((576#32) - BitVec.ofNat 32 a).toNat = _
  rw [BitVec.toNat_sub, BitVec.toNat_ofNat, BitVec.toNat_ofNat, BitVec.toNat_ofNat]
  norm_num
  omega

/-- The softmax's terms of one column of scores. -/
def term (f : Fin 576 → EReal) (κ : Fin 576) : EReal := Ideal.exp2 (f κ - Finset.univ.fold max ⊥ f)

theorem pay40_at (s : FVec Ideal S1x1x576x128 .f32) (b : Vec Ideal S1x576x128 .f32) (κ : Fin 576) (c : Fin 128) :
    (k0_pay40 s b (ix4 0 0 κ c) : EReal) =
      term (fun x => s (ix4 0 0 x c) + b (ix3 0 x c) * (((Real.log 2)⁻¹ : ℝ) : EReal)) κ := by
  pointwise [k0_pay40, k0_pay39]
  simp only [log2e_named, neg_word]
  rfl

theorem pay148_at (w : BitVec 32) (s : FVec Ideal S1x1x576x128 .f32) (b : Vec Ideal S1x576x128 .f32) (κ : Fin 576) (c : Fin 128) :
    (k0_pay148 io w (k0_pay145 s) (k0_pay146 b) (ix4 0 0 κ c) : EReal) =
      term (fun x => Scalar.select (IntOp.cmpi .slt (BitVec.ofNat 32 x.val) (Scalar.subi 576#32 w))
        (s (ix4 0 0 x c) + b (ix3 0 x c) * (((Real.log 2)⁻¹ : ℝ) : EReal)) ⊥) κ := by
  pointwise [k0_pay148, k0_pay147, k0_pay145, k0_pay146, io]
  simp only [log2e_named, neg_word, mask_named]
  rfl

theorem pay154_at (w : BitVec 32) (s s' : FVec Ideal S1x1x576x128 .f32) (b b' : Vec Ideal S1x576x128 .f32) (l : Fin 128) (c : Fin 128) :
    (k0_pay154 io (k0_pay149 io w (k0_pay145 s) (k0_pay146 b)) (k0_pay150 io w s' b') (k0_pay151 io w s' b') (ix3 0 l c) : EReal) =
      if l.val < 64 then
        Ideal.div 1 (∑ κ, term (fun x => Scalar.select (IntOp.cmpi .slt (BitVec.ofNat 32 x.val) (Scalar.subi 576#32 w))
          (s (ix4 0 0 x c) + b (ix3 0 x c) * (((Real.log 2)⁻¹ : ℝ) : EReal)) ⊥) κ)
      else
        Ideal.div 1 (∑ κ, term (fun x => Scalar.select (IntOp.cmpi .slt (BitVec.ofNat 32 x.val) (Scalar.subi 576#32 w))
          (s' (ix4 0 0 x c) + b' (ix3 0 x c) * (((Real.log 2)⁻¹ : ℝ) : EReal)) ⊥) κ) := by
  pointwise [k0_pay154, k0_pay153, k0_pay152, k0_pay151, k0_pay150, k0_pay149, k0_pay147, k0_pay145, k0_pay146, io]
  simp only [log2e_named, neg_word, mask_named, slt_word l.val 64 (by omega) (by omega)]
  rfl

theorem pay30_at (s s' : FVec Ideal S1x1x576x128 .f32) (b b' : Vec Ideal S1x576x128 .f32) (l : Fin 128) (c : Fin 128) :
    (k0_pay30 io (k0_pay27 s b) s' b' (ix3 0 l c) : EReal) =
      if l.val < 64 then
        Ideal.div 1 (∑ κ, term (fun x => s (ix4 0 0 x c) + b (ix3 0 x c) * (((Real.log 2)⁻¹ : ℝ) : EReal)) κ)
      else Ideal.div 1 (∑ κ, term (fun x => s' (ix4 0 0 x c) + b' (ix3 0 x c) * (((Real.log 2)⁻¹ : ℝ) : EReal)) κ) := by
  pointwise [k0_pay30, k0_pay28, k0_pay27, k0_pay25, io]
  simp only [log2e_named, neg_word, slt_word l.val 64 (by omega) (by omega)]
  rfl

theorem pay2_at (p p' : FVec Ideal S1x1x576x128 .bf16) (v v' : Vec Ideal S576x128 .bf16) (w : FVec Ideal S1x128x128 .f32) (i : Fin 64) (l : Fin 128) :
    (k0_pay2 p v p' v' w (ix2 i l) : EReal) =
      (∑ x, p (ix4 0 0 x (⟨i.val, by omega⟩ : Fin 128)) * v (ix2 x l) + ∑ x, p' (ix4 0 0 x (⟨i.val, by omega⟩ : Fin 128)) * v' (ix2 x l))
        * w (ix3 0 l (⟨i.val, by omega⟩ : Fin 128)) := by
  pointwise [k0_pay2, k0_pay1]

theorem pay3_at (p p' : FVec Ideal S1x1x576x128 .bf16) (v v' : Vec Ideal S576x128 .bf16) (w : FVec Ideal S1x128x128 .f32) (i : Fin 64) (l : Fin 128) :
    (k0_pay3 p v p' v' w (ix2 i l) : EReal) =
      (∑ x, p (ix4 0 0 x (⟨64 + i.val, by omega⟩ : Fin 128)) * v (ix2 x l) + ∑ x, p' (ix4 0 0 x (⟨64 + i.val, by omega⟩ : Fin 128)) * v' (ix2 x l))
        * w (ix3 0 l (⟨64 + i.val, by omega⟩ : Fin 128)) := by
  pointwise [k0_pay3, k0_pay1]

variable (X : In Ideal)

theorem scr_at (h : Fin 2) (n : ℕ) (κ : Fin 576) (p : Fin 2) (i : Fin 64) :
    (X.scr h n (ix4 0 0 κ (⟨p.val * 64 + i.val, by omega⟩ : Fin 128)) : EReal) =
      ∑ x : Fin 128, X.k h (ix2 (⟨64 * (n % 64 - 8) + κ.val, by omega⟩ : Fin 4096) x) *
        (X.q (ix2 (⟨64 * (n % 64) + i.val, by omega⟩ : Fin 4096) (⟨p.val * 128 + x.val, by omega⟩ : Fin 256))
          * (((1 / 8) * (Real.log 2)⁻¹ : ℝ) : EReal)) := by
  unfold In.scr
  pointwise [k0_pay5, k0_pay4]
  simp only [scale_named]
  refine Finset.sum_congr rfl fun x _ => ?_
  congr 2
  have hp : p.val = 0 ∨ p.val = 1 := by omega
  rcases hp with hp | hp
  · rw [dif_pos (by omega)]
    congr 1
    simp [hp]
  · rw [dif_neg (by omega)]
    congr 1
    simp [hp]

theorem bias_at (h : Fin 2) (n : ℕ) (κ : Fin 576) (c : Fin 128) :
    (X.bias h n (ix3 0 κ c) : EReal) = X.b (ix3 h (⟨64 * (8 - n) + κ.val, by omega⟩ : Fin 1088) c) := by
  unfold In.bias
  pointwise

/-- The masked scores of chunk `n` for half `h`, in powers of two: minus infinity at the band rows past the row's end. -/
def In.sc (h : Fin 2) (n : ℕ) (c : Fin 128) (κ : Fin 576) : EReal :=
  if κ.val < 576 - 64 * (8 - n) then
    (X.scr h n (ix4 0 0 κ c) : EReal) + X.bias h n (ix3 0 κ c) * (((Real.log 2)⁻¹ : ℝ) : EReal)
  else ⊥

theorem sc_mask (h : Fin 2) (n : ℕ) (c : Fin 128) :
    (fun x : Fin 576 => Scalar.select (IntOp.cmpi .slt (BitVec.ofNat 32 x.val) (Scalar.subi 576#32 (BitVec.ofNat 32 (64 * (8 - n)))))
        ((X.scr h n (ix4 0 0 x c) : EReal) + X.bias h n (ix3 0 x c) * (((Real.log 2)⁻¹ : ℝ) : EReal)) ⊥) = X.sc h n c := by
  funext x
  rw [sub_word _ (by omega), slt_word _ _ (by omega) (by omega)]
  rfl

theorem sc_all (h : Fin 2) (n : ℕ) (hn : ¬ n < 12) (c : Fin 128) :
    (fun x : Fin 576 => (X.scr h n (ix4 0 0 x c) : EReal) + X.bias h n (ix3 0 x c) * (((Real.log 2)⁻¹ : ℝ) : EReal)) = X.sc h n c := by
  funext x
  exact (if_pos (by omega)).symm

theorem pw_at (h : Fin 2) (n : ℕ) (κ : Fin 576) (c : Fin 128) :
    (X.pw h n (ix4 0 0 κ c) : EReal) = term (X.sc h n c) κ := by
  unfold In.pw
  split
  · rw [pay148_at, sc_mask]
  · rename_i hn
    rw [pay40_at, sc_all X h n hn]

theorem nw_at (n : ℕ) (l c : Fin 128) : (X.nw n (ix3 0 l c) : EReal) =
    if l.val < 64 then Ideal.div 1 (∑ κ, term (X.sc 0 n c) κ) else Ideal.div 1 (∑ κ, term (X.sc 1 n c) κ) := by
  unfold In.nw
  split
  · rw [pay154_at, sc_mask, sc_mask]
  · rename_i hn
    rw [pay30_at, sc_all X _ n hn, sc_all X _ n hn]

theorem ld_at (v : Vec Ideal S4096x128 .bf16) (n : ℕ) (κ : Fin 576) (l : Fin 128) :
    (ld v (band n) (ix2 κ l) : EReal) = v (ix2 (⟨64 * (n % 64 - 8) + κ.val, by omega⟩ : Fin 4096) l) := by
  pointwise

theorem tile_at (n : ℕ) (p : Fin 2) (i : Fin 64) (l : Fin 128) : (X.tile n p (ix2 i l) : EReal) =
    (∑ κ, term (X.sc 0 n ⟨p.val * 64 + i.val, by omega⟩) κ * X.vl (ix2 (⟨64 * (n % 64 - 8) + κ.val, by omega⟩ : Fin 4096) l)
      + ∑ κ, term (X.sc 1 n ⟨p.val * 64 + i.val, by omega⟩) κ * X.vh (ix2 (⟨64 * (n % 64 - 8) + κ.val, by omega⟩ : Fin 4096) l))
    * (if l.val < 64 then Ideal.div 1 (∑ κ, term (X.sc 0 n ⟨p.val * 64 + i.val, by omega⟩) κ)
        else Ideal.div 1 (∑ κ, term (X.sc 1 n ⟨p.val * 64 + i.val, by omega⟩) κ)) := by
  unfold In.tile
  have hp : p = 0 ∨ p = 1 := by omega
  rcases hp with rfl | rfl
  · rw [if_pos rfl, pay2_at]
    simp only [pw_at, nw_at]
    have e : (⟨i.val, by omega⟩ : Fin 128) = ⟨(0 : Fin 2).val * 64 + i.val, by omega⟩ := Fin.ext (by simp)
    rw [e]
    exact congrArg₂ (· * ·) (congrArg₂ (· + ·) (Finset.sum_congr rfl fun κ _ => congrArg _ (ld_at X.vl n κ l))
      (Finset.sum_congr rfl fun κ _ => congrArg _ (ld_at X.vh n κ l))) rfl
  · rw [if_neg (by decide), pay3_at]
    simp only [pw_at, nw_at]
    have e : (⟨64 + i.val, by omega⟩ : Fin 128) = ⟨(1 : Fin 2).val * 64 + i.val, by omega⟩ := Fin.ext (by simp)
    rw [e]
    exact congrArg₂ (· * ·) (congrArg₂ (· + ·) (Finset.sum_congr rfl fun κ _ => congrArg _ (ld_at X.vl n κ l))
      (Finset.sum_congr rfl fun κ _ => congrArg _ (ld_at X.vh n κ l))) rfl

end Cert.KernelIdeal.Hand
end
-- ==== Proof.RefAt.lean ====
module

public import proofs.«01_k».proof.Proof.Gen.ReferenceIdeal.Run
public import proofs.«01_k».proof.Proof.Table
public import Idealize.ShloMosaic.Lib.Pointwise

/-! The reference's result at an index. -/

@[expose] public section

set_option maxRecDepth 16384

noncomputable section

namespace Cert.ReferenceIdeal.Hand

open Cert.ReferenceIdeal Cert.ReferenceIdeal.Gen Cert.Hand
open Idealize.ShloMosaic

/-- The masked score of a query at `t` and a key at `x`, from the query, the keys and the table's row of the head. -/
def rowScore (Q : Fin 64 → EReal) (K : Fin 4096 → Fin 64 → EReal) (T : Fin 320 → EReal) (t : ℕ) (x : Fin 4096) : EReal :=
  if sees t x.val then (∑ d, K x d * Q d) * Ideal.ofBits .f32 0x3E000000#32 + T (col t x.val) else ⊥

/-- One element of the attention: the values weighted by the softmax of the row's scores. -/
def attend (Q : Fin 64 → EReal) (K : Fin 4096 → Fin 64 → EReal) (T : Fin 320 → EReal) (W : Fin 4096 → EReal) (t : ℕ) : EReal :=
  ∑ x, W x * Ideal.div (Ideal.exp (rowScore Q K T t x - Finset.univ.fold max ⊥ (rowScore Q K T t)))
    (∑ x, Ideal.exp (rowScore Q K T t x - Finset.univ.fold max ⊥ (rowScore Q K T t)))

theorem bot_word : Ideal.ofBits .f32 0xFF800000#32 = ⊥ := by
  simp [Ideal.ofBits, Ideal.ieee]

set_option maxHeartbeats 4000000

/-- The column of the bias table, for every query time and key. -/
def idxT : IVec S4096x4096x1 32 :=
  broadcastInDim S4096x4096x1 ![0, 1] bcast_S4096x4096_S4096x4096x1_0_1 (select (cmpi .slt (subi (minsi (broadcastInDim S4096x4096 ![] bcast_S_S4096x4096 (id (constantI S_ 32 256#32))) (maxsi (broadcastInDim S4096x4096 ![] bcast_S_S4096x4096 (id (constantI S_ 32 4294967233#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constantI S_ 32 4294967233#32))) (broadcastInDim S4096x4096 ![] bcast_S_S4096x4096 (constantI S_ 32 0#32))) (addi (subi (minsi (broadcastInDim S4096x4096 ![] bcast_S_S4096x4096 (id (constantI S_ 32 256#32))) (maxsi (broadcastInDim S4096x4096 ![] bcast_S_S4096x4096 (id (constantI S_ 32 4294967233#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constantI S_ 32 4294967233#32))) (broadcastInDim S4096x4096 ![] bcast_S_S4096x4096 (constantI S_ 32 320#32))) (subi (minsi (broadcastInDim S4096x4096 ![] bcast_S_S4096x4096 (id (constantI S_ 32 256#32))) (maxsi (broadcastInDim S4096x4096 ![] bcast_S_S4096x4096 (id (constantI S_ 32 4294967233#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constantI S_ 32 4294967233#32))))
/-- The bias of every head, query time and key. -/
def biasT (a3 : FVec Ideal S32x320 .f32) : FVec Ideal S8x4x4096x4096 .f32 :=
  shapeCast _ (Host.gather gather_S32x320_S4096x4096x1_S32x4096x4096_0_1_n_n_1_2_321 (a3) idxT) shapeCasts_S32x4096x4096_S8x4x4096x4096
/-- Which keys a query time sees. -/
def seesT : IVec S4096x4096 1 :=
  andi (cmpi .sle (broadcastInDim S4096x4096 ![0, 1] bcast_S1x4096_S4096x4096_0_1 (Host.divsi (broadcastInDim S1x4096 ![1] bcast_S4096_S1x4096_1 (iotaInDim S4096 32 0)) (broadcastInDim S1x4096 ![] bcast_S_S1x4096 (constantI S_ 32 64#32)))) (broadcastInDim S4096x4096 ![0, 1] bcast_S4096x1_S4096x4096_0_1 (Host.divsi (broadcastInDim S4096x1 ![0] bcast_S4096_S4096x1_0 (iotaInDim S4096 32 0)) (broadcastInDim S4096x1 ![] bcast_S_S4096x1 (constantI S_ 32 64#32))))) (cmpi .sle (broadcastInDim S4096x4096 ![0, 1] bcast_S4096x1_S4096x4096_0_1 (Host.divsi (broadcastInDim S4096x1 ![0] bcast_S4096_S4096x1_0 (iotaInDim S4096 32 0)) (broadcastInDim S4096x1 ![] bcast_S_S4096x1 (constantI S_ 32 64#32)))) (broadcastInDim S4096x4096 ![0, 1] bcast_S1x4096_S4096x4096_0_1 (addi (Host.divsi (broadcastInDim S1x4096 ![1] bcast_S4096_S1x4096_1 (iotaInDim S4096 32 0)) (broadcastInDim S1x4096 ![] bcast_S_S1x4096 (constantI S_ 32 64#32))) (broadcastInDim S1x4096 ![] bcast_S_S1x4096 (constantI S_ 32 8#32)))))
/-- The masked scores. -/
def scoreT (a0 : FVec Ideal S8x4096x8x4x64 .f32) (a1 : FVec Ideal S8x4096x8x64 .f32) (a3 : FVec Ideal S32x320 .f32) :
    FVec Ideal S8x8x4x4096x4096 .f32 :=
  select (broadcastInDim S8x8x4x4096x4096 ![3, 4] bcast_S4096x4096_S8x8x4x4096x4096_3_4 seesT) (addf (mulf (transpose S8x8x4x4096x4096 [0, 1, 4, 3, 2] (Host.dotGeneral dot_S8x4096x8x64_S8x4096x8x4x64_S8x8x4096x4096x4_3_4_1_13_02_02 none (a1) (a0)) transposes_S8x8x4096x4096x4_S8x8x4x4096x4096_0_1_4_3_2) (broadcastInDim S8x8x4x4096x4096 ![] bcast_S_S8x8x4x4096x4096 (constant S_ .f32 0x3E000000#32))) (broadcastInDim S8x8x4x4096x4096 ![0, 1, 2, 3, 4] bcast_S1x8x4x4096x4096_S8x8x4x4096x4096_0_1_2_3_4 (broadcastInDim S1x8x4x4096x4096 ![1, 2, 3, 4] bcast_S8x4x4096x4096_S1x8x4x4096x4096_1_2_3_4 (biasT a3)))) (broadcastInDim S8x8x4x4096x4096 ![] bcast_S_S8x8x4x4096x4096 (id (constant S_ .f32 0xFF800000#32)))
/-- The row's largest score, from minus infinity. -/
def redT (s : FVec Ideal S8x8x4x4096x4096 .f32) : FVec Ideal S8x8x4x4096 .f32 :=
  Host.reduce FloatOps.maximumf s (constant S_ .f32 0xFF800000#32) reducesTo_S8x8x4x4096x4096_S8x8x4x4096_d4 h_S_
/-- The row's largest score. -/
def maxT (s : FVec Ideal S8x8x4x4096x4096 .f32) : FVec Ideal S8x8x4x4096 .f32 :=
  maximumf (broadcastInDim S8x8x4x4096 ![] bcast_S_S8x8x4x4096 (constant S_ .f32 0xFF800000#32)) (redT s)
/-- The exponentials of the scores less their row's largest. -/
def expT (s : FVec Ideal S8x8x4x4096x4096 .f32) : FVec Ideal S8x8x4x4096x4096 .f32 :=
  Host.exp (subf s (broadcastInDim S8x8x4x4096x4096 ![0, 1, 2, 3, 4] bcast_S8x8x4x4096x1_S8x8x4x4096x4096_0_1_2_3_4 (broadcastInDim S8x8x4x4096x1 ![0, 1, 2, 3] bcast_S8x8x4x4096_S8x8x4x4096x1_0_1_2_3 (maxT s))))
/-- The values weighted by the normalised exponentials. -/
def outT (e : FVec Ideal S8x8x4x4096x4096 .f32) (a2 : FVec Ideal S8x4096x8x64 .f32) : FVec Ideal S32768x2048 .bf16 :=
  truncf .bf16 (shapeCast _ (transpose S8x4096x8x4x64 [0, 4, 1, 3, 2] (Host.dotGeneral dot_S8x4096x8x64_S8x8x4x4096x4096_S8x8x64x4x4096_1_4_3_23_02_01 none (a2) (Host.divf e (broadcastInDim S8x8x4x4096x4096 ![0, 1, 2, 3, 4] bcast_S8x8x4x4096x1_S8x8x4x4096x4096_0_1_2_3_4 (broadcastInDim S8x8x4x4096x1 ![0, 1, 2, 3] bcast_S8x8x4x4096_S8x8x4x4096x1_0_1_2_3 (Host.reduceAdd e (constant S_ .f32 0x00000000#32) reducesTo_S8x8x4x4096x4096_S8x8x4x4096_d4 h_S_))))) transposes_S8x8x64x4x4096_S8x4096x8x4x64_0_4_1_3_2) shapeCasts_S8x4096x8x4x64_S32768x2048) bitsLt_bf16_f32

theorem res_eq (m : (ℓ : Loc nD τ sig) → Buf (Elt Ideal) ℓ) (c : Dev nD) :
    (Cert.ReferenceIdeal.Value.res_main_v53 m c : S32768x2048.Idx → EReal) =
      outT (expT (scoreT (m ((c.tc : Thread nD τ).loc main_arg0)) (m ((c.tc : Thread nD τ).loc main_arg1))
        (m ((c.tc : Thread nD τ).loc main_arg3)))) (m ((c.tc : Thread nD τ).loc main_arg2)) := rfl

theorem bias_at (a3 : FVec Ideal S32x320 .f32) (h : Fin 8) (g : Fin 4) (t x : Fin 4096) :
    (biasT a3 (ix4 h g t x) : EReal) = a3 (ix2 (⟨h.val * 4 + g.val, by omega⟩ : Fin 32) (col t.val x.val)) := by
  have hz : min ((idxT (ix3 t x 0)).toInt.toNat) 319 = min (t.val + 63 - x.val) 319 := by
    unfold idxT
    pointwise
    simp only [id]
    exact word_col _ _ t.isLt x.isLt
  unfold biasT
  pointwise
  rw [gather_reference]
  exact congrArg (fun w => a3 (ix2 _ w)) (Fin.ext hz)

theorem sees_at (t x : Fin 4096) (y z : EReal) : Scalar.select (seesT (ix2 t x)) y z = if sees t.val x.val then y else z := by
  unfold seesT
  pointwise
  exact sees_word _ _ t.isLt x.isLt _ _

theorem red_max {n0 n1 n2 n3 n4 : ℕ} {u : Shape} (v : FVec Ideal ⟨5, ![n0, n1, n2, n3, n4]⟩ .f32) (c : FVec Ideal u .f32)
    (h : (⟨5, ![n0, n1, n2, n3, n4]⟩ : Shape).ReducesTo [4] ⟨4, ![n0, n1, n2, n3]⟩) (hu : 0 < u.numel)
    (a : Fin n0) (b : Fin n1) (d : Fin n2) (e : Fin n3) :
    Host.reduce FloatOps.maximumf v c h hu (ix4 a b d e) =
      Finset.univ.fold max (c (Shape.Idx.first hu)) fun k : Fin n4 => v (ix5 a b d e k) := by
  simp only [pointwise]

theorem red_at (s : FVec Ideal S8x8x4x4096x4096 .f32) (b h : Fin 8) (g : Fin 4) (t : Fin 4096) :
    (redT s (ix4 b h g t) : EReal) = Finset.univ.fold max (Ideal.ofBits .f32 0xFF800000#32) fun k : Fin 4096 => (s (ix5 b h g t k) : EReal) :=
  red_max s (constant S_ .f32 0xFF800000#32) reducesTo_S8x8x4x4096x4096_S8x8x4x4096_d4 h_S_ b h g t

theorem max_vec {u : Shape} (v w : FVec Ideal u .f32) (y : EReal) (hv : ∀ i, v i = y) (i : u.Idx) :
    (maximumf v w i : EReal) = max y (w i : EReal) := by
  rw [← hv i]
  rfl

theorem max_red (s : FVec Ideal S8x8x4x4096x4096 .f32) (b h : Fin 8) (g : Fin 4) (t : Fin 4096) :
    (maxT s (ix4 b h g t) : EReal) = max (Ideal.ofBits .f32 0xFF800000#32) (redT s (ix4 b h g t) : EReal) := by
  unfold maxT
  exact max_vec _ _ _ (fun i => rfl) _

theorem max_at (s : FVec Ideal S8x8x4x4096x4096 .f32) (b h : Fin 8) (g : Fin 4) (t : Fin 4096) :
    (maxT s (ix4 b h g t) : EReal) = Finset.univ.fold max ⊥ fun k : Fin 4096 => (s (ix5 b h g t k) : EReal) := by
  have e := red_at s b h g t
  have f := max_red s b h g t
  generalize (maxT s (ix4 b h g t) : EReal) = y at f ⊢
  generalize (redT s (ix4 b h g t) : EReal) = z at e f
  rw [f, e, bot_word, max_bot_left]

theorem score_at (a0 : FVec Ideal S8x4096x8x4x64 .f32) (a1 : FVec Ideal S8x4096x8x64 .f32) (a3 : FVec Ideal S32x320 .f32)
    (b h : Fin 8) (g : Fin 4) (t x : Fin 4096) : (scoreT a0 a1 a3 (ix5 b h g t x) : EReal) =
      rowScore (fun d => a0 (ix5 b t h g d)) (fun x d => a1 (ix4 b x h d))
        (fun w => a3 (ix2 (⟨h.val * 4 + g.val, by omega⟩ : Fin 32) w)) t.val x := by
  unfold scoreT
  pointwise
  rw [sees_at, bias_at]
  exact congrArg (ite (sees t.val x.val) _) bot_word

theorem exp_at (s : FVec Ideal S8x8x4x4096x4096 .f32) (b h : Fin 8) (g : Fin 4) (t x : Fin 4096) :
    (expT s (ix5 b h g t x) : EReal) =
      Ideal.exp ((s (ix5 b h g t x) : EReal) - Finset.univ.fold max ⊥ fun k : Fin 4096 => (s (ix5 b h g t k) : EReal)) := by
  unfold expT
  pointwise
  rw [max_at]

theorem out_at (s : FVec Ideal S8x8x4x4096x4096 .f32) (a2 : FVec Ideal S8x4096x8x64 .f32)
    (r : Fin 32768) (k : Fin 2048) : (outT s a2 (ix2 r k) : EReal) =
      ∑ x : Fin 4096, a2 (ix4 (⟨r.val / 4096, by omega⟩ : Fin 8) x (⟨k.val / 256, by omega⟩ : Fin 8) (⟨k.val % 64, by omega⟩ : Fin 64)) *
        Ideal.div (s (ix5 (⟨r.val / 4096, by omega⟩ : Fin 8) (⟨k.val / 256, by omega⟩ : Fin 8) (⟨k.val / 64 % 4, by omega⟩ : Fin 4)
          (⟨r.val % 4096, by omega⟩ : Fin 4096) x))
          (∑ x : Fin 4096, s (ix5 (⟨r.val / 4096, by omega⟩ : Fin 8) (⟨k.val / 256, by omega⟩ : Fin 8) (⟨k.val / 64 % 4, by omega⟩ : Fin 4)
            (⟨r.val % 4096, by omega⟩ : Fin 4096) x)) := by
  unfold outT
  pointwise

theorem res_at (m : (ℓ : Loc nD τ sig) → Buf (Elt Ideal) ℓ) (c : Dev nD) (r : Fin 32768) (k : Fin 2048) :
    (Cert.ReferenceIdeal.Value.res_main_v53 m c : S32768x2048.Idx → EReal) (ix2 r k) =
      attend
        (fun d => m ((c.tc : Thread nD τ).loc main_arg0)
          (ix5 (⟨r.val / 4096, by omega⟩ : Fin 8) (⟨r.val % 4096, by omega⟩ : Fin 4096) (⟨k.val / 256, by omega⟩ : Fin 8)
            (⟨k.val / 64 % 4, by omega⟩ : Fin 4) d))
        (fun x d => m ((c.tc : Thread nD τ).loc main_arg1)
          (ix4 (⟨r.val / 4096, by omega⟩ : Fin 8) x (⟨k.val / 256, by omega⟩ : Fin 8) d))
        (fun w => m ((c.tc : Thread nD τ).loc main_arg3) (ix2 (⟨k.val / 256 * 4 + k.val / 64 % 4, by omega⟩ : Fin 32) w))
        (fun x => m ((c.tc : Thread nD τ).loc main_arg2)
          (ix4 (⟨r.val / 4096, by omega⟩ : Fin 8) x (⟨k.val / 256, by omega⟩ : Fin 8) (⟨k.val % 64, by omega⟩ : Fin 64)))
        (r.val % 4096) := by
  rw [res_eq, out_at]
  simp only [exp_at, score_at]
  rfl

end Cert.ReferenceIdeal.Hand

end
-- ==== Proof.Soft.lean ====
module

public import Idealize.ShloMosaic.PureOps.Ideal
public import Idealize.ShloMosaic.Lib.Pointwise

/-! The softmax of a band, by powers of two and with the division after the sum, is the softmax of the whole row with its
masked scores at minus infinity. -/

@[expose] public section

noncomputable section

namespace Cert.Hand

open Idealize.ShloMosaic

/-- A sum times a real that is not negative is the sum of the products. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A real sum, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The greatest of finitely many values, as the folded maximum. -/
theorem fold_max_eq {ι : Type} [Fintype ι] (f : ι → EReal) (M : EReal) (h : ∀ i, f i ≤ M) (h' : ∃ i, f i = M) :
    Finset.univ.fold max ⊥ f = M := by
  obtain ⟨i, rfl⟩ := h'
  show Finset.univ.sup f = f i
  exact le_antisymm (Finset.sup_le fun k _ => h k) (Finset.le_sup (Finset.mem_univ i))

/-- A power of two at a multiple of one over the logarithm of two. -/
theorem exp2_real (x : ℝ) : Ideal.exp2 (((Real.log 2)⁻¹ * x : ℝ) : EReal) = (Real.exp x : EReal) := by
  rw [Ideal.exp2_coe]
  congr 1
  show (2 : ℝ) ^ ((Real.log 2)⁻¹ * x) = _
  rw [Real.rpow_def_of_pos (by norm_num), ← mul_assoc, mul_inv_cancel₀ (Real.log_pos (by norm_num)).ne', one_mul]

/-- The band's weights at a key and the row's are the same softmax. `z` gives the scores where `on` holds, `s` the band's
    scores in powers of two, `g` where the band lies in the row. -/
theorem soft_eq {ι κ : Type} [Fintype ι] [Fintype κ] (g : κ → ι) (hg : Function.Injective g)
    (on : ι → Prop) [DecidablePred on] (z : ι → ℝ) (s : κ → EReal) (sm : ι → EReal) (V : ι → EReal)
    (h1 : ∀ k, on (g k) → s k = (((Real.log 2)⁻¹ * z (g k) : ℝ) : EReal)) (h2 : ∀ k, ¬ on (g k) → s k = ⊥)
    (h3 : ∀ i, on i → ∃ k, g k = i) (h4 : ∃ i, on i)
    (h5 : ∀ i, sm i = if on i then (z i : EReal) else ⊥) :
    (∑ k, Ideal.exp2 (s k - Finset.univ.fold max ⊥ s) * V (g k))
        * Ideal.div 1 (∑ k, Ideal.exp2 (s k - Finset.univ.fold max ⊥ s))
      = ∑ i, V i * Ideal.div (Ideal.exp (sm i - Finset.univ.fold max ⊥ sm))
          (∑ i, Ideal.exp (sm i - Finset.univ.fold max ⊥ sm)) := by
  classical
  have hlog : (0 : ℝ) < (Real.log 2)⁻¹ := inv_pos.2 (Real.log_pos (by norm_num))
  obtain ⟨i₀, hi₀⟩ := h4
  obtain ⟨i₁, hi₁, hmax⟩ := Finset.exists_max_image (Finset.univ.filter on) z ⟨i₀, by simpa using hi₀⟩
  have hon : on i₁ := by simpa using hi₁
  have hle : ∀ i, on i → z i ≤ z i₁ := fun i hi => hmax i (by simpa using hi)
  have hM : Finset.univ.fold max ⊥ sm = (z i₁ : EReal) := by
    refine fold_max_eq _ _ (fun i => ?_) ⟨i₁, by rw [h5, if_pos hon]⟩
    rw [h5]
    split_ifs with h
    · exact_mod_cast hle i h
    · exact bot_le
  have hS : Finset.univ.fold max ⊥ s = (((Real.log 2)⁻¹ * z i₁ : ℝ) : EReal) := by
    obtain ⟨k₁, hk₁⟩ := h3 i₁ hon
    refine fold_max_eq _ _ (fun k => ?_) ⟨k₁, by rw [h1 k₁ (hk₁ ▸ hon), hk₁]⟩
    by_cases h : on (g k)
    · rw [h1 k h]
      exact_mod_cast mul_le_mul_of_nonneg_left (hle _ h) hlog.le
    · rw [h2 k h]
      exact bot_le
  rw [hM, hS]
  set e : ι → ℝ := fun i => if on i then Real.exp (z i - z i₁) else 0 with he
  have hE : ∀ i, Ideal.exp (sm i - (z i₁ : EReal)) = (e i : EReal) := by
    intro i
    rw [h5, he]
    by_cases h : on i
    · simp only [if_pos h]
      rw [← EReal.coe_sub, Ideal.exp_coe]
    · simp only [if_neg h]
      rw [EReal.bot_sub]
      simp
  have hE2 : ∀ k, Ideal.exp2 (s k - (((Real.log 2)⁻¹ * z i₁ : ℝ) : EReal)) = (e (g k) : EReal) := by
    intro k
    rw [he]
    by_cases h : on (g k)
    · simp only [if_pos h]
      rw [h1 k h, ← EReal.coe_sub, ← mul_sub, exp2_real]
    · simp only [if_neg h]
      rw [h2 k h, EReal.bot_sub]
      simp
  simp only [hE, hE2]
  have hsum : ∀ f : ι → EReal, (∀ i, ¬ on i → f i = 0) → ∑ k, f (g k) = ∑ i, f i := by
    intro f hf
    refine (Finset.sum_map Finset.univ ⟨g, hg⟩ f).symm.trans ?_
    refine Finset.sum_subset (Finset.subset_univ _) fun i _ hi => hf i fun h => hi ?_
    obtain ⟨k, rfl⟩ := h3 i h
    exact Finset.mem_map_of_mem _ (Finset.mem_univ k)
  have hoff : ∀ i, ¬ on i → e i = 0 := fun i h => by rw [he]; exact if_neg h
  rw [hsum (fun i => (e i : EReal) * V i) (fun i h => by simp [hoff i h]),
    hsum (fun i => (e i : EReal)) (fun i h => by simp [hoff i h])]
  have hnn : ∀ i, 0 ≤ e i := fun i => by
    simp only [he]
    split_ifs
    · exact (Real.exp_pos _).le
    · exact le_rfl
  have hL : (∑ i, (e i : EReal)) = ((∑ i, e i : ℝ) : EReal) := by
    rw [coe_sum]
  have hpos : 0 < ∑ i, e i := by
    refine lt_of_lt_of_le ?_ (Finset.single_le_sum (fun i _ => hnn i) (Finset.mem_univ i₁))
    simp only [he, if_pos hon]
    exact Real.exp_pos _
  have hdiv : ∀ x : EReal, Ideal.div x ((∑ i, e i : ℝ) : EReal) = x * (((∑ i, e i)⁻¹ : ℝ) : EReal) := by
    intro x
    unfold Ideal.div
    rw [if_neg (by exact_mod_cast hpos.ne'), EReal.coe_inv]
  rw [hL, hdiv, one_mul, sum_mul_real _ _ _ (inv_nonneg.2 hpos.le)]
  refine Finset.sum_congr rfl fun i _ => ?_
  rw [hdiv, mul_comm (e i : EReal) (V i), mul_assoc]

/-- The score of the kernel, in powers of two, is the score of the reference times one over the logarithm of two. -/
theorem score_eq (n : ℕ) (Q K : Fin n → ℝ) (T : ℝ) :
    (∑ d, (K d : EReal) * ((Q d : EReal) * (((1 / 8) * (Real.log 2)⁻¹ : ℝ) : EReal))) + (T : EReal) * (((Real.log 2)⁻¹ : ℝ) : EReal)
      = (((Real.log 2)⁻¹ * ((∑ d, K d * Q d) * (1 / 8) + T) : ℝ) : EReal) := by
  simp only [← EReal.coe_mul]
  rw [← coe_sum, ← EReal.coe_add]
  congr 1
  rw [Finset.sum_mul, mul_add, Finset.mul_sum]
  congr 1
  · exact Finset.sum_congr rfl fun d _ => by ring
  · ring

end Cert.Hand

end
-- ==== Proof.Value.lean ====
module

public import proofs.«01_k».proof.Proof.HostAt
public import proofs.«01_k».proof.Proof.PayAt
public import proofs.«01_k».proof.Proof.RefAt
public import proofs.«01_k».proof.Proof.Soft

/-! One output block of the kernel, of real queries, keys and biases, is the attention of the reference. -/

@[expose] public section

set_option maxHeartbeats 1000000

noncomputable section

namespace Cert.KernelIdeal.Hand

open Cert.KernelIdeal Cert.KernelIdeal.Gen Cert.Hand
open Cert.ReferenceIdeal.Hand (attend rowScore bot_word)
open Idealize.ShloMosaic Idealize.ShloMosaic.View

theorem eighth_word : Ideal.ofBits .f32 0x3E000000#32 = ((1 / 8 : ℝ) : EReal) := by
  simp [Ideal.ofBits, Ideal.ieee]
  rw [← EReal.coe_mul]
  congr 1
  norm_num

/-- A sum over lanes of which the last sixty-four are zero. -/
theorem sum_low (f : Fin 64 → EReal) (y : Fin 128 → EReal) :
    ∑ x : Fin 128, low f x.val * y x = ∑ d : Fin 64, f d * y ⟨d.val, by omega⟩ := by
  have e : ∑ x : Fin 128, low f x.val * y x = ∑ x : Fin (64 + 64), low f x.val * y x := rfl
  rw [e, Fin.sum_univ_add]
  have h2 : ∑ d : Fin 64, low f (Fin.natAdd 64 d).val * y (Fin.natAdd 64 d) = 0 :=
    Finset.sum_eq_zero fun d _ => by rw [low_neg _ _ (by simp), zero_mul]
  rw [h2, add_zero]
  refine Finset.sum_congr rfl fun d _ => ?_
  rw [low_pos _ _ (by simp)]
  rfl

/-- A sum over lanes of which the first sixty-four are zero. -/
theorem sum_high (f : Fin 64 → EReal) (y : Fin 128 → EReal) :
    ∑ x : Fin 128, high f x.val * y x = ∑ d : Fin 64, f d * y ⟨64 + d.val, by omega⟩ := by
  have e : ∑ x : Fin 128, high f x.val * y x = ∑ x : Fin (64 + 64), high f x.val * y x := rfl
  rw [e, Fin.sum_univ_add]
  have h2 : ∑ d : Fin 64, high f (Fin.castAdd 64 d).val * y (Fin.castAdd 64 d) = 0 :=
    Finset.sum_eq_zero fun d _ => by rw [high_neg _ _ (by simp), zero_mul]
  rw [h2, zero_add]
  refine Finset.sum_congr rfl fun d _ => ?_
  rw [high_pos _ _ (by simp)]
  congr 2
  apply Fin.ext
  simp

/-- What an output block's operands are: real queries, keys and biases, any values. -/
structure Reals (X : In Ideal) (Q : Fin 4096 → Fin 256 → ℝ) (K : Fin 4096 → Fin 64 → ℝ) (W : Fin 4096 → Fin 64 → EReal)
    (T : Fin 2 → Fin 2 → Fin 320 → ℝ) : Prop where
  q : ∀ t k, X.q (ix2 t k) = (Q t k : EReal)
  kl : ∀ t (l : Fin 128), X.kl (ix2 t l) = low (fun d => (K t d : EReal)) l.val
  kh : ∀ t (l : Fin 128), X.kh (ix2 t l) = high (fun d => (K t d : EReal)) l.val
  vl : ∀ t (l : Fin 128), X.vl (ix2 t l) = low (W t) l.val
  vh : ∀ t (l : Fin 128), X.vh (ix2 t l) = high (W t) l.val
  b : ∀ (h : Fin 2) (k : Fin 1088) (l : Fin 128), k.val < 576 →
    X.b (ix3 h k l) = (T h ⟨l.val / 64, by omega⟩ (col (512 + l.val % 64) k.val) : EReal)

variable {X : In Ideal} {Q : Fin 4096 → Fin 256 → ℝ} {K : Fin 4096 → Fin 64 → ℝ} {W : Fin 4096 → Fin 64 → EReal}
  {T : Fin 2 → Fin 2 → Fin 320 → ℝ}

/-- The reference's score of a query at `t`, pair `p`, half `h`, and a key. -/
def zsc (Q : Fin 4096 → Fin 256 → ℝ) (K : Fin 4096 → Fin 64 → ℝ) (T : Fin 2 → Fin 2 → Fin 320 → ℝ)
    (h p : Fin 2) (t x : Fin 4096) : ℝ :=
  (∑ d : Fin 64, K x d * Q t ⟨p.val * 128 + (h.val * 64 + d.val), by omega⟩) * (1 / 8) + T h p (col t.val x.val)

/-- The kernel's score at a band row that lies in the row. -/
theorem sc_real (H : Reals X Q K W T) (h p : Fin 2) (n : ℕ) (hn : n < 64) (i : Fin 64) (κ : Fin 576)
    (hκ : κ.val < 576 - 64 * (8 - n)) :
    X.sc h n ⟨p.val * 64 + i.val, by omega⟩ κ =
      (((Real.log 2)⁻¹ * zsc Q K T h p ⟨64 * n + i.val, by omega⟩ ⟨64 * (n - 8) + κ.val, by omega⟩ : ℝ) : EReal) := by
  unfold In.sc
  rw [if_pos hκ, scr_at, bias_at, H.b _ _ _ (by show 64 * (8 - n) + κ.val < 576; omega)]
  have hT : (T h ⟨(p.val * 64 + i.val) / 64, by omega⟩ (col (512 + (p.val * 64 + i.val) % 64) (64 * (8 - n) + κ.val)))
      = T h p (col (64 * n + i.val) (64 * (n - 8) + κ.val)) := by
    congr 1
    · apply Fin.ext; show (p.val * 64 + i.val) / 64 = p.val; omega
    · apply Fin.ext
      show min (512 + (p.val * 64 + i.val) % 64 + 63 - (64 * (8 - n) + κ.val)) 319 = min (64 * n + i.val + 63 - (64 * (n - 8) + κ.val)) 319
      omega
  rw [hT]
  have hkey : (⟨64 * (n % 64 - 8) + κ.val, by omega⟩ : Fin 4096) = ⟨64 * (n - 8) + κ.val, by omega⟩ := by
    apply Fin.ext; show 64 * (n % 64 - 8) + κ.val = 64 * (n - 8) + κ.val; omega
  have hrow : (⟨64 * (n % 64) + i.val, by omega⟩ : Fin 4096) = ⟨64 * n + i.val, by omega⟩ := by
    apply Fin.ext; show 64 * (n % 64) + i.val = 64 * n + i.val; omega
  simp only [hkey, hrow, H.q]
  unfold zsc
  rw [← score_eq 64 (fun d => Q ⟨64 * n + i.val, by omega⟩ ⟨p.val * 128 + (h.val * 64 + d.val), by omega⟩)
    (fun d => K ⟨64 * (n - 8) + κ.val, by omega⟩ d)]
  congr 1
  have hh : h = 0 ∨ h = 1 := by omega
  rcases hh with rfl | rfl
  · have e : X.k 0 = X.kl := if_pos rfl
    simp only [e, H.kl]
    rw [sum_low (fun d => (K ⟨64 * (n - 8) + κ.val, by omega⟩ d : EReal))
      (fun x => (Q ⟨64 * n + i.val, by omega⟩ ⟨p.val * 128 + x.val, by omega⟩ : EReal) * (((1 / 8) * (Real.log 2)⁻¹ : ℝ) : EReal))]
    refine Finset.sum_congr rfl fun d _ => ?_
    congr 4
    apply Fin.ext
    simp
  · have e : X.k 1 = X.kh := if_neg (by decide)
    simp only [e, H.kh]
    rw [sum_high (fun d => (K ⟨64 * (n - 8) + κ.val, by omega⟩ d : EReal))
      (fun x => (Q ⟨64 * n + i.val, by omega⟩ ⟨p.val * 128 + x.val, by omega⟩ : EReal) * (((1 / 8) * (Real.log 2)⁻¹ : ℝ) : EReal))]
    refine Finset.sum_congr rfl fun d _ => ?_
    congr 4

/-- The reference's masked score, of reals. -/
theorem row_real (h p : Fin 2) (t x : Fin 4096) :
    rowScore (fun d => (Q t ⟨p.val * 128 + (h.val * 64 + d.val), by omega⟩ : EReal)) (fun x d => (K x d : EReal))
      (fun w => (T h p w : EReal)) t.val x = if sees t.val x.val then (zsc Q K T h p t x : EReal) else ⊥ := by
  unfold rowScore zsc
  rw [eighth_word, EReal.coe_add, EReal.coe_mul, coe_sum]
  simp only [EReal.coe_mul]

/-- One half's sum over the band, normalised, is the attention. -/
theorem half_eq (H : Reals X Q K W T) (h p : Fin 2) (n : ℕ) (hn : n < 64) (i : Fin 64) (d : Fin 64) :
    (∑ κ : Fin 576, term (X.sc h n ⟨p.val * 64 + i.val, by omega⟩) κ * W ⟨64 * (n - 8) + κ.val, by omega⟩ d)
        * Ideal.div 1 (∑ κ, term (X.sc h n ⟨p.val * 64 + i.val, by omega⟩) κ)
      = attend (fun d => (Q ⟨64 * n + i.val, by omega⟩ ⟨p.val * 128 + (h.val * 64 + d.val), by omega⟩ : EReal)) (fun x d => (K x d : EReal))
          (fun w => (T h p w : EReal)) (fun x => W x d) (64 * n + i.val) := by
  refine soft_eq (fun κ : Fin 576 => (⟨64 * (n - 8) + κ.val, by omega⟩ : Fin 4096)) ?_ (fun x => sees (64 * n + i.val) x.val)
    (fun x => zsc Q K T h p ⟨64 * n + i.val, by omega⟩ x) (X.sc h n ⟨p.val * 64 + i.val, by omega⟩) _ (fun x => W x d)
    ?_ ?_ ?_ ?_ ?_
  · intro a b e
    have := congrArg Fin.val e
    simp only at this
    exact Fin.ext (by omega)
  · intro κ hk
    have hk' : (64 * (n - 8) + κ.val) / 64 ≤ (64 * n + i.val) / 64 ∧ (64 * n + i.val) / 64 ≤ (64 * (n - 8) + κ.val) / 64 + 8 := hk
    exact sc_real H h p n hn i κ (by omega)
  · intro κ hk
    have hk' : ¬ ((64 * (n - 8) + κ.val) / 64 ≤ (64 * n + i.val) / 64 ∧ (64 * n + i.val) / 64 ≤ (64 * (n - 8) + κ.val) / 64 + 8) := hk
    exact if_neg (by omega)
  · intro x hx
    have hx' : x.val / 64 ≤ (64 * n + i.val) / 64 ∧ (64 * n + i.val) / 64 ≤ x.val / 64 + 8 := hx
    exact ⟨⟨x.val - 64 * (n - 8), by omega⟩, Fin.ext (by show 64 * (n - 8) + (x.val - 64 * (n - 8)) = x.val; omega)⟩
  · exact ⟨⟨64 * n + i.val, by omega⟩, by show (64 * n + i.val) / 64 ≤ (64 * n + i.val) / 64 ∧ (64 * n + i.val) / 64 ≤ (64 * n + i.val) / 64 + 8; omega⟩
  · intro x
    exact row_real h p ⟨64 * n + i.val, by omega⟩ x

/-- An output block at an index. -/
theorem out_real (H : Reals X Q K W T) (t : Fin 4096) (k : Fin 256) : (X.out (ix2 t k) : EReal) =
    attend (fun d => (Q t ⟨k.val / 64 * 64 + d.val, by omega⟩ : EReal)) (fun x d => (K x d : EReal))
      (fun w => (T ⟨k.val / 64 % 2, by omega⟩ ⟨k.val / 128, by omega⟩ w : EReal)) (fun x => W x ⟨k.val % 64, by omega⟩) t.val := by
  have hloc : loc (ix2 t k) = ix2 (⟨t.val % 64, by omega⟩ : Fin 64) (⟨k.val % 128, by omega⟩ : Fin 128) := by
    funext a
    match a with
    | ⟨0, _⟩ => rfl
    | ⟨1, _⟩ => rfl
  have e : (X.out (ix2 t k) : EReal) = X.tile (t.val / 64) ⟨k.val / 128, by omega⟩
      (ix2 (⟨t.val % 64, by omega⟩ : Fin 64) (⟨k.val % 128, by omega⟩ : Fin 128)) := by
    rw [← hloc]
    rfl
  have hn : t.val / 64 < 64 := by omega
  have ht : (⟨64 * (t.val / 64) + t.val % 64, by omega⟩ : Fin 4096) = t := Fin.ext (by show 64 * (t.val / 64) + t.val % 64 = t.val; omega)
  have ht' : 64 * (t.val / 64) + t.val % 64 = t.val := by omega
  have hkey : ∀ κ : Fin 576, (⟨64 * (t.val / 64 % 64 - 8) + κ.val, by omega⟩ : Fin 4096) = ⟨64 * (t.val / 64 - 8) + κ.val, by omega⟩ := by
    intro κ
    apply Fin.ext; show 64 * (t.val / 64 % 64 - 8) + κ.val = 64 * (t.val / 64 - 8) + κ.val; omega
  rw [e, tile_at]
  simp only [hkey, H.vl, H.vh]
  by_cases hk : k.val % 128 < 64
  · simp only [low_pos _ _ hk, high_neg _ _ (show ¬ (64 ≤ k.val % 128 ∧ k.val % 128 - 64 < 64) by omega), mul_zero, Finset.sum_const_zero,
      add_zero, if_pos hk]
    have E := half_eq H 0 ⟨k.val / 128, by omega⟩ (t.val / 64) hn ⟨t.val % 64, by omega⟩ ⟨k.val % 128, hk⟩
    refine E.trans ?_
    have e1 : (⟨k.val / 64 % 2, by omega⟩ : Fin 2) = 0 := Fin.ext (by show k.val / 64 % 2 = 0; omega)
    have e2 : (⟨k.val % 64, by omega⟩ : Fin 64) = ⟨k.val % 128, hk⟩ := Fin.ext (by show k.val % 64 = k.val % 128; omega)
    have e3 : ∀ d : Fin 64, (⟨k.val / 64 * 64 + d.val, by omega⟩ : Fin 256) = ⟨k.val / 128 * 128 + ((0 : Fin 2).val * 64 + d.val), by simp; omega⟩ :=
      fun d => Fin.ext (by show k.val / 64 * 64 + d.val = k.val / 128 * 128 + ((0 : Fin 2).val * 64 + d.val); simp; omega)
    simp only [e1, e2, e3, ht, ht']
  · have hk2 : 64 ≤ k.val % 128 ∧ k.val % 128 - 64 < 64 := by omega
    simp only [low_neg _ _ hk, high_pos _ _ hk2, mul_zero, Finset.sum_const_zero, zero_add, if_neg hk]
    have E := half_eq H 1 ⟨k.val / 128, by omega⟩ (t.val / 64) hn ⟨t.val % 64, by omega⟩ ⟨k.val % 128 - 64, hk2.2⟩
    refine E.trans ?_
    have e1 : (⟨k.val / 64 % 2, by omega⟩ : Fin 2) = 1 := Fin.ext (by show k.val / 64 % 2 = 1; omega)
    have e2 : (⟨k.val % 64, by omega⟩ : Fin 64) = ⟨k.val % 128 - 64, hk2.2⟩ := Fin.ext (by show k.val % 64 = k.val % 128 - 64; omega)
    have e3 : ∀ d : Fin 64, (⟨k.val / 64 * 64 + d.val, by omega⟩ : Fin 256) = ⟨k.val / 128 * 128 + ((1 : Fin 2).val * 64 + d.val), by simp; omega⟩ :=
      fun d => Fin.ext (by show k.val / 64 * 64 + d.val = k.val / 128 * 128 + ((1 : Fin 2).val * 64 + d.val); simp; omega)
    simp only [e1, e2, e3, ht, ht']

end Cert.KernelIdeal.Hand
end
-- ==== Proof.Blocks.lean ====
module

public import proofs.«01_k».proof.Proof.IdealRun
public import proofs.«01_k».proof.Proof.Value
public import Idealize.ShloMosaic.Lib.Pipeline.ValueKit

/-! The blocks of every grid point at coordinates, and the result array from its blocks. -/

@[expose] public section

set_option maxRecDepth 16384
set_option maxHeartbeats 1000000

noncomputable section

namespace Cert.KernelIdeal.Hand

open Cert.KernelIdeal Cert.KernelIdeal.Gen Cert.Hand
open Cert.ReferenceIdeal.Hand (attend)
open Idealize.ShloMosaic Idealize.ShloMosaic.TcCoe Idealize.SL.Sem
open Idealize.ShloMosaic.Pipeline (Dat)

/-- The index maps of the windows: the batch row and the head of a point. -/
theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8]
    ∧ win0_4.index t = ![t.val / 8, t.val % 8] ∧ win0_5.index t = ![t.val % 8, 0, 0]
    ∧ win0_6.index t = ![t.val / 8, t.val % 8] ∧ t.val < 64 :=
  (by decide +kernel : ∀ t : Fin grid0.N, _)

variable (m : (ℓ : Loc nD τ sig) → Buf (Elt Ideal) ℓ) (c : Dev nD)

theorem lt64 (t : Fin cfg0.N) : t.val < 64 := (idx t).2.2.2.2.2.2.2

theorem blk_q (t : Fin cfg0.N) (a : Fin 4096) (k : Fin 256) :
    (iblk m c 0 t : S4096x256.Idx → EReal) (ix2 a k)
      = (V m c main_v1 : S32768x2048.Idx → EReal) (ix2 ⟨t.val / 8 * 4096 + a, by have := lt64 t; omega⟩ ⟨t.val % 8 * 256 + k, by omega⟩) := by
  blk_ext [iblk, idx t]

theorem blk_kl (t : Fin cfg0.N) (a : Fin 4096) (k : Fin 128) :
    (iblk m c 1 t : S4096x128.Idx → EReal) (ix2 a k)
      = (V m c main_v5 : S32768x1024.Idx → EReal) (ix2 ⟨t.val / 8 * 4096 + a, by have := lt64 t; omega⟩ ⟨t.val % 8 * 128 + k, by omega⟩) := by
  blk_ext [iblk, idx t]

theorem blk_kh (t : Fin cfg0.N) (a : Fin 4096) (k : Fin 128) :
    (iblk m c 2 t : S4096x128.Idx → EReal) (ix2 a k)
      = (V m c main_v7 : S32768x1024.Idx → EReal) (ix2 ⟨t.val / 8 * 4096 + a, by have := lt64 t; omega⟩ ⟨t.val % 8 * 128 + k, by omega⟩) := by
  blk_ext [iblk, idx t]

theorem blk_vl (t : Fin cfg0.N) (a : Fin 4096) (k : Fin 128) :
    (iblk m c 3 t : S4096x128.Idx → EReal) (ix2 a k)
      = (V m c main_v11 : S32768x1024.Idx → EReal) (ix2 ⟨t.val / 8 * 4096 + a, by have := lt64 t; omega⟩ ⟨t.val % 8 * 128 + k, by omega⟩) := by
  blk_ext [iblk, idx t]

theorem blk_vh (t : Fin cfg0.N) (a : Fin 4096) (k : Fin 128) :
    (iblk m c 4 t : S4096x128.Idx → EReal) (ix2 a k)
      = (V m c main_v13 : S32768x1024.Idx → EReal) (ix2 ⟨t.val / 8 * 4096 + a, by have := lt64 t; omega⟩ ⟨t.val % 8 * 128 + k, by omega⟩) := by
  blk_ext [iblk, idx t]

theorem blk_b (t : Fin cfg0.N) (h : Fin 2) (k : Fin 1088) (l : Fin 128) :
    (iblk m c 5 t : S2x1088x128.Idx → EReal) (ix3 h k l)
      = (V m c main_v37 : S16x1088x128.Idx → EReal) (ix3 ⟨t.val % 8 * 2 + h, by omega⟩ k l) := by
  blk_ext [iblk, idx t]

/-- The attention over the kernel's argument arrays. -/
def goal (i : S32768x2048.Idx) : EReal :=
  attend (fun d => argQ m c ⟨(i 0).val / 4096, by idx_bounds i; omega⟩ ⟨(i 0).val % 4096, by omega⟩ ⟨(i 1).val / 256, by idx_bounds i; omega⟩
      ⟨(i 1).val / 64 % 4, by omega⟩ d)
    (fun x d => argK m c ⟨(i 0).val / 4096, by idx_bounds i; omega⟩ x ⟨(i 1).val / 256, by idx_bounds i; omega⟩ d)
    (fun w => argT m c ⟨(i 1).val / 256 * 4 + (i 1).val / 64 % 4, by idx_bounds i; omega⟩ w)
    (fun x => argV m c ⟨(i 0).val / 4096, by idx_bounds i; omega⟩ x ⟨(i 1).val / 256, by idx_bounds i; omega⟩ ⟨(i 1).val % 64, by omega⟩)
    ((i 0).val % 4096)

/-- The batch row of a point. -/
def row (t : Fin cfg0.N) : Fin 8 := ⟨t.val / 8, by have := lt64 t; omega⟩
/-- The head of a point. -/
def head (t : Fin cfg0.N) : Fin 8 := ⟨t.val % 8, by omega⟩

/-- The six blocks of a point. -/
def inAt (t : Fin cfg0.N) : In Ideal := ⟨iblk m c 0 t, iblk m c 1 t, iblk m c 2 t, iblk m c 3 t, iblk m c 4 t, iblk m c 5 t⟩

/-- The queries, keys and bias table as real numbers. -/
def realQ (b h : Fin 8) (a : Fin 4096) (k : Fin 256) : ℝ := (argQ m c b a h ⟨k.val / 64, by omega⟩ ⟨k.val % 64, by omega⟩).toReal
def realK (b h : Fin 8) (a : Fin 4096) (d : Fin 64) : ℝ := (argK m c b a h d).toReal
def realT (h : Fin 8) (p g : Fin 2) (w : Fin 320) : ℝ :=
  (argT m c ⟨h.val * 4 + g.val * 2 + p.val, by omega⟩ w).toReal

theorem reals (hQ : ∀ b t h g d, argQ m c b t h g d = ((argQ m c b t h g d).toReal : EReal))
    (hK : ∀ b t h d, argK m c b t h d = ((argK m c b t h d).toReal : EReal))
    (hT : ∀ h w, argT m c h w = ((argT m c h w).toReal : EReal)) (t : Fin cfg0.N) :
    Reals (inAt m c t) (realQ m c (row t) (head t)) (realK m c (row t) (head t)) (fun a d => argV m c (row t) a (head t) d)
      (realT m c (head t)) where
  q a k := by
    refine (blk_q m c t a k).trans ((host_q m c _ _).trans ?_)
    refine Eq.trans ?_ (hQ _ _ _ _ _)
    unfold row head
    congr 1 <;> apply Fin.ext <;> show _ = _ <;> dsimp only <;> omega
  kl a l := by
    refine (blk_kl m c t a l).trans ((host_kl m c _ _).trans ?_)
    refine congr (congrArg low (funext fun d => Eq.trans ?_ (hK _ _ _ d))) (by dsimp only; omega)
    unfold row head
    congr 1 <;> apply Fin.ext <;> show _ = _ <;> dsimp only <;> omega
  kh a l := by
    refine (blk_kh m c t a l).trans ((host_kh m c _ _).trans ?_)
    refine congr (congrArg high (funext fun d => Eq.trans ?_ (hK _ _ _ d))) (by dsimp only; omega)
    unfold row head
    congr 1 <;> apply Fin.ext <;> show _ = _ <;> dsimp only <;> omega
  vl a l := by
    refine (blk_vl m c t a l).trans ((host_vl m c _ _).trans ?_)
    refine congr (congrArg low (funext fun d => ?_)) (by dsimp only; omega)
    unfold row head
    congr 1 <;> apply Fin.ext <;> show _ = _ <;> dsimp only <;> omega
  vh a l := by
    refine (blk_vh m c t a l).trans ((host_vh m c _ _).trans ?_)
    refine congr (congrArg high (funext fun d => ?_)) (by dsimp only; omega)
    unfold row head
    congr 1 <;> apply Fin.ext <;> show _ = _ <;> dsimp only <;> omega
  b h k l hk := by
    refine (blk_b m c t h k l).trans ((host_b m c _ k l hk).trans ?_)
    refine Eq.trans ?_ (hT _ _)
    unfold head
    congr 1
    apply Fin.ext
    show _ = _
    dsimp only
    omega

/-- What a point leaves is its part of the attention. -/
theorem point (hQ : ∀ b t h g d, argQ m c b t h g d = ((argQ m c b t h g d).toReal : EReal))
    (hK : ∀ b t h d, argK m c b t h d = ((argK m c b t h d).toReal : EReal))
    (hT : ∀ h w, argT m c h w = ((argT m c h w).toReal : EReal)) (t : Fin cfg0.N) (a : Fin 4096) (k : Fin 256) :
    ((inAt m c t).out (ix2 a k) : EReal)
      = goal m c (ix2 ⟨t.val / 8 * 4096 + a, by have := lt64 t; omega⟩ ⟨t.val % 8 * 256 + k, by omega⟩) := by
  rw [out_real (reals m c hQ hK hT t) a k]
  unfold goal
  refine congr (congr (congr (congr (congrArg attend (funext fun d => ?_)) (funext fun x => funext fun d => ?_)) (funext fun w => ?_))
    (funext fun x => ?_)) ?_
  · refine (hQ _ _ _ _ _).symm.trans ?_
    unfold row head
    congr 1 <;> apply Fin.ext <;> show _ = _ <;> simp only [ix2_0, ix2_1] <;> omega
  · refine (hK _ _ _ _).symm.trans ?_
    unfold row head
    congr 1 <;> apply Fin.ext <;> show _ = _ <;> simp only [ix2_0, ix2_1] <;> omega
  · refine (hT _ _).symm.trans ?_
    unfold head
    congr 1 <;> apply Fin.ext <;> show _ = _ <;> simp only [ix2_0, ix2_1] <;> omega
  · unfold row head
    congr 1 <;> apply Fin.ext <;> show _ = _ <;> simp only [ix2_0, ix2_1] <;> omega
  · simp only [ix2_0, ix2_1]; omega

/-- The result array after the run. -/
theorem final (hQ : ∀ b t h g d, argQ m c b t h g d = ((argQ m c b t h g d).toReal : EReal))
    (hK : ∀ b t h d, argK m c b t h d = ((argK m c b t h d).toReal : EReal))
    (hT : ∀ h w, argT m c h w = ((argT m c h w).toReal : EReal)) :
    (dats m 0 c).arrAt 6 cfg0.N = goal m c := by
  refine (dats m 0 c).arrAt_eq_of_covers 6 _ (by decide +kernel) fun t _ y => ?_
  blk_simp
  rw [after_6]
  obtain ⟨a, k, rfl⟩ : ∃ (a : Fin 4096) (k : Fin 256), y = ix2 a k := ⟨y 0, y 1, by funext i; fin_cases i <;> rfl⟩
  refine (point m c hQ hK hT t a k).trans ?_
  blk_ext [idx t]

end Cert.KernelIdeal.Hand

end
-- ==== Proof.Finite.lean ====
module

public import proofs.«01_k».proof.Defs
public import Idealize.ShloMosaic.Lib.ReduceAll
public import Idealize.ShloMosaic.Lib.Decide

/-! What the precondition says: every query, every key and every entry of the bias table is a real number. -/

@[expose] public section

set_option maxHeartbeats 1000000

noncomputable section

namespace Cert.Proof

open Idealize.ShloMosaic

/-- The shape relations of the precondition's operations. -/
theorem preFacts : Cert.Pre_finite.Facts where
  bcast_S_S8x4096x8x4x64 := by decide
  reducesTo_S8x4096x8x4x64_S_d0_1_2_3_4 := by decide
  h_S_ := by decide
  bcast_S_S8x4096x8x64 := by decide
  reducesTo_S8x4096x8x64_S_d0_1_2_3 := by decide
  bcast_S_S32x320 := by decide
  reducesTo_S32x320_S_d0_1 := by decide

theorem top_word : Ideal.ofBits .f32 0x7F800000#32 = (⊤ : EReal) := by simp [Ideal.ofBits, Ideal.ieee]

/-- A number whose absolute value is less than infinity is real. -/
theorem real_of_abs (x : EReal) (h : max x (-x) < ⊤) : x = (x.toReal : EReal) := by
  have h1 : x ≠ ⊤ := by rintro rfl; simp at h
  have h2 : x ≠ ⊥ := by rintro rfl; simp at h
  exact (EReal.coe_toReal h1 h2).symm

/-- A tensor of which the test "less than infinity in absolute value" holds everywhere is real. -/
theorem real_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (j : (⟨0, ![]⟩ : Shape).Idx)
    (e : Host.reduce IntOp.andi (cmpf .olt (Host.absf x) (broadcastInDim s ![] hb (constant (⟨0, ![]⟩ : Shape) .f32 0x7F800000#32)))
      (constantI (⟨0, ![]⟩ : Shape) 1 1#1) hr hu j = 1#1) (i : s.Idx) :
    (x i : EReal) = ((x i : EReal).toReal : EReal) := by
  haveI : Subsingleton (⟨0, ![]⟩ : Shape).Idx := ⟨fun a b => funext fun k => k.elim0⟩
  have h := Host.reduce_andi_all _ _ hr hu j e i
  have h' : Ideal.cmp .olt (max (x i : EReal) (-(x i : EReal))) (Ideal.ofBits .f32 0x7F800000#32) = 1#1 := h
  rw [top_word] at h'
  refine real_of_abs _ ?_
  by_contra hn
  simp [Ideal.cmp, hn] at h'

open Cert.KernelIdeal in
/-- The arguments the precondition names are real. -/
theorem args_real (m : (ℓ : Loc nD τ sig) → Buf (Elt Ideal) ℓ)
    (h : Cert.Pre_KernelIdeal_finite (hPre_finite := preFacts) m) (c : Dev nD) :
    (∀ i : S8x4096x8x4x64.Idx, (m ((c.tc : Thread nD τ).loc main_arg0) : S8x4096x8x4x64.Idx → EReal) i
      = (((m ((c.tc : Thread nD τ).loc main_arg0) : S8x4096x8x4x64.Idx → EReal) i).toReal : EReal))
    ∧ (∀ i : S8x4096x8x64.Idx, (m ((c.tc : Thread nD τ).loc main_arg1) : S8x4096x8x64.Idx → EReal) i
      = (((m ((c.tc : Thread nD τ).loc main_arg1) : S8x4096x8x64.Idx → EReal) i).toReal : EReal))
    ∧ (∀ i : S32x320.Idx, (m ((c.tc : Thread nD τ).loc main_arg3) : S32x320.Idx → EReal) i
      = (((m ((c.tc : Thread nD τ).loc main_arg3) : S32x320.Idx → EReal) i).toReal : EReal)) := by
  have h0 := congrFun (h c) (fun k => k.elim0)
  unfold Cert.Pre_finite.fn at h0
  obtain ⟨h1, h4⟩ := IntOp.andi_eq_one.mp h0
  obtain ⟨h2, h3⟩ := IntOp.andi_eq_one.mp h1
  exact ⟨real_of_all _ _ _ _ _ h2, real_of_all _ _ _ _ _ h3, real_of_all _ _ _ _ _ h4⟩

end Cert.Proof

end
-- ==== Proof.Alg.lean ====
module

public import proofs.«01_k».proof.Proof.Blocks
public import proofs.«01_k».proof.Proof.Finite
public import proofs.«01_k».proof.Proof.Gen.ReferenceIdeal.Run

/-! The idealized kernel's result array is the reference's. -/

@[expose] public section

set_option maxRecDepth 16384
set_option maxHeartbeats 1000000

noncomputable section

namespace Cert.Proof

open Idealize.ShloMosaic Idealize.ShloMosaic.TcCoe Idealize.SL.Sem
open Cert.KernelIdeal (S32768x2048)
open Cert.KernelIdeal.Hand

/-- The reference's result over the kernel's argument arrays. -/
theorem reference_goal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (Cert.ReferenceIdeal.Value.res_main_v53 m' c : S32768x2048.Idx → EReal) = goal m c := by
  funext i
  obtain ⟨r, k, rfl⟩ : ∃ (r : Fin 32768) (k : Fin 2048), i = ix2 r k := ⟨i 0, i 1, by funext a; fin_cases a <;> rfl⟩
  refine (Cert.ReferenceIdeal.Hand.res_at m' c r k).trans ?_
  rw [h0, h1, h2, h3]
  rfl

/-- The idealized kernel leaves the attention in its result array, its arguments unchanged. -/
theorem kernel_goal (m : (ℓ : Loc Cert.KernelIdeal.nD Cert.KernelIdeal.τ Cert.KernelIdeal.sig) → Buf (Elt Ideal) ℓ)
    (g : Dev Cert.KernelIdeal.nD → PrngReg) (h : Cert.Pre_KernelIdeal_finite (hPre_finite := preFacts) m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v38) = goal m c) :=
  (θ_run Cert.KernelIdeal.defs _ _).mono (fun r hr c => (hr.1.out_eq c 6).trans
    (final m c (fun b t h' g' d => (args_real m h c).1 (ix5 b t h' g' d)) (fun b t h' d => (args_real m h c).2.1 (ix4 b t h' d))
      (fun h' w => (args_real m h c).2.2 (ix2 h' w)))) (run_main (F := Ideal) m g)

/-- The idealized kernel and the reference leave the same array. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hp he
  refine ⟨fun c => goal m c, ?_, ?_⟩
  · exact (θ_run Cert.KernelIdeal.defs _ _).mono (fun r hr c => ⟨hr.1 c, hr.2 c⟩) (θ_run_and (kernel_goal m g hp) (unchanged m g))
  · refine (θ_run Cert.ReferenceIdeal.defs _ _).mono (fun r hr c => ⟨(hr c).1.trans ?_, (hr c).2⟩)
      (Cert.ReferenceIdeal.Value.run (F := Ideal) m' g')
    exact reference_goal m m' c (he c).1 (he c).2.1 (he c).2.2.1 (he c).2.2.2

end Cert.Proof

end
-- ==== Proof.OutProj.lean ====
module

public import proofs.«01_k».proof.Defs
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal.Run
public import Idealize.ShloMosaic.Lib.Pipeline.ValueKit
public import Idealize.ShloMosaic.Lib.StableHlo.ReadAt

/-! The output projection: the result array is the residual stream plus the projected rows of attention. -/

@[expose] public section

set_option maxRecDepth 16384
set_option maxHeartbeats 1000000

noncomputable section

namespace Cert.KernelOutIdeal.Hand

open Cert.KernelOutIdeal Cert.KernelOutIdeal.Gen
open Idealize.ShloMosaic Idealize.ShloMosaic.TcCoe Idealize.SL.Sem
open Idealize.ShloMosaic.Pipeline (Dat)

/-- The rows of the prompt, then the rows of the samples. -/
def stack (A : S32768x2048.Idx → EReal) (B : S512x2048.Idx → EReal) (r : Fin 33280) (k : Fin 2048) : EReal :=
  if h : r.val < 32768 then A (ix2 ⟨r.val, h⟩ k) else B (ix2 ⟨r.val - 32768, by omega⟩ k)

/-- The entry that a row block takes from the prompt's rows or, in the last block, from the samples'. -/
theorem stack_of (A : S32768x2048.Idx → EReal) (B : S512x2048.Idx → EReal) (t : ℕ) (ht : t < 65) (a : Fin 512) (k : Fin 2048) (u w : EReal)
    (hu : ∀ h : t < 64, u = A (ix2 ⟨t * 512 + a, by omega⟩ k)) (hw : ¬ t < 64 → w = B (ix2 a k)) :
    (if t < 64 then u else w) = stack A B ⟨t * 512 + a, by omega⟩ k := by
  unfold stack
  by_cases h : t < 64
  · rw [if_pos h, hu h]
    refine Eq.trans ?_ (dif_pos (show t * 512 + a.val < 32768 by omega)).symm
    rfl
  · rw [if_neg h, hw h]
    refine Eq.trans ?_ (dif_neg (show ¬ t * 512 + a.val < 32768 by omega)).symm
    refine congrArg (fun x : Fin 512 => B (ix2 x k)) (Fin.ext ?_)
    show a.val = t * 512 + a.val - 32768
    omega

/-- The output projection, element by element. -/
def project (A : S32768x2048.Idx → EReal) (B : S512x2048.Idx → EReal) (W : S2048x2048.Idx → EReal) (X : S33280x2048.Idx → EReal)
    (r : Fin 33280) (n : Fin 2048) : EReal :=
  X (ix2 r n) + ∑ k : Fin 2048, stack A B r k * W (ix2 k n)

theorem head_word : ∀ j : Fin 65, Scalar.cmpi .slt (BitVec.ofNat 32 j.val) 64#32 = if j.val < 64 then 1#1 else 0#1 := by
  decide +kernel

/-- What the body computes of its blocks. -/
theorem pay_at (i : grid0.Coords) (v0 : FVec Ideal S512x2048 .f32) (v2 v4 : FVec Ideal S512x2048 .bf16) (v7 : FVec Ideal S2048x2048 .bf16)
    (a : Fin 512) (n : Fin 2048) :
    (show EReal from k0_pay1 (F := Ideal) i v0 v2 v4 v7 (ix2 a n))
      = (v0 (ix2 a n) : EReal) + ∑ k : Fin 2048, (if (i 0).val < 64 then (v2 (ix2 a k) : EReal) else v4 (ix2 a k)) * (v7 (ix2 k n) : EReal) := by
  have hw := head_word (i 0)
  by_cases h : (i 0).val < 64
  · simp only [h, if_true] at hw ⊢
    unfold k0_pay1
    simp only [hw, Scalar.select, show (1#1 : BitVec 1) = 1 from rfl, if_true]
    pointwise
  · simp only [h, if_false] at hw ⊢
    unfold k0_pay1
    simp only [hw, Scalar.select, show ¬ (0#1 : BitVec 1) = 1 by decide, if_false]
    pointwise

/-- The index maps of the windows. -/
theorem idx : ∀ t : Fin cfg0.N, win0_0.index t = ![min t.val 63, 0] ∧ win0_1.index t = ![t.val - 64, 0] ∧ win0_2.index t = ![0, 0]
    ∧ win0_3.index t = ![t.val, 0] ∧ win0_4.index t = ![t.val, 0] ∧ (grid0.coords t 0).val = t.val ∧ t.val < 65 :=
  (by decide +kernel : ∀ t : Fin grid0.N, _)

variable (m : (ℓ : Loc nD τ sig) → Buf (Elt Ideal) ℓ) (c : Dev nD)

theorem lt65 (t : Fin cfg0.N) : t.val < 65 := (idx t).2.2.2.2.2.2
theorem coord (t : Fin cfg0.N) : (grid0.coords t 0).val = t.val := (idx t).2.2.2.2.2.1

theorem host_a : (V m c main_v0 : S32768x2048.Idx → EReal) = m ((c : Thread nD τ).loc main_arg0) := by
  unfold V; after_reads_at; rfl
theorem host_b : (V m c main_v1 : S512x2048.Idx → EReal) = m ((c : Thread nD τ).loc main_arg1) := by
  unfold V; after_reads_at; rfl
theorem host_w : (V m c main_v2 : S2048x2048.Idx → EReal) = m ((c : Thread nD τ).loc main_arg2) := by
  unfold V; after_reads_at; rfl

theorem blk_a (t : Fin cfg0.N) (h : t.val < 64) (a : Fin 512) (k : Fin 2048) :
    (iblk m c 0 t : S512x2048.Idx → EReal) (ix2 a k)
      = (V m c main_v0 : S32768x2048.Idx → EReal) (ix2 ⟨t.val * 512 + a, by omega⟩ k) := by
  have e : min t.val 63 = t.val := by omega
  blk_ext [iblk, idx t, e]

theorem blk_b (t : Fin cfg0.N) (h : ¬ t.val < 64) (a : Fin 512) (k : Fin 2048) :
    (iblk m c 1 t : S512x2048.Idx → EReal) (ix2 a k) = (V m c main_v1 : S512x2048.Idx → EReal) (ix2 a k) := by
  have e : t.val - 64 = 0 := by have := lt65 t; omega
  blk_ext [iblk, idx t, e]

theorem blk_w (t : Fin cfg0.N) (k n : Fin 2048) :
    (iblk m c 2 t : S2048x2048.Idx → EReal) (ix2 k n) = (V m c main_v2 : S2048x2048.Idx → EReal) (ix2 k n) := by
  blk_ext [iblk, idx t]

theorem blk_x (t : Fin cfg0.N) (a : Fin 512) (n : Fin 2048) :
    (iblk m c 3 t : S512x2048.Idx → EReal) (ix2 a n)
      = (m ((c : Thread nD τ).loc main_arg3) : S33280x2048.Idx → EReal) (ix2 ⟨t.val * 512 + a, by have := lt65 t; omega⟩ n) := by
  blk_ext [iblk, V, idx t]

/-- The output projection of the kernel's argument arrays. -/
def goal (i : S33280x2048.Idx) : EReal :=
  project (m ((c : Thread nD τ).loc main_arg0)) (m ((c : Thread nD τ).loc main_arg1)) (m ((c : Thread nD τ).loc main_arg2))
    (m ((c : Thread nD τ).loc main_arg3)) (i 0) (i 1)

theorem point (t : Fin cfg0.N) (a : Fin 512) (n : Fin 2048) :
    (show EReal from k0_pay1 (F := Ideal) (grid0.coords t) (iblk m c 3 t) (iblk m c 0 t) (iblk m c 1 t) (iblk m c 2 t) (ix2 a n))
      = goal m c (ix2 ⟨t.val * 512 + a, by have := lt65 t; omega⟩ n) := by
  refine (pay_at (grid0.coords t) (iblk m c 3 t) (iblk m c 0 t) (iblk m c 1 t) (iblk m c 2 t) a n).trans ?_
  unfold goal project
  refine congrArg₂ (· + ·) (blk_x m c t a n) (Finset.sum_congr rfl fun k _ => congrArg₂ (· * ·) ?_ ?_)
  · rw [coord t]
    exact stack_of _ _ t.val (lt65 t) a k _ _ (fun h => (blk_a m c t h a k).trans (congrFun (host_a m c) _))
      fun h => (blk_b m c t h a k).trans (congrFun (host_b m c) _)
  · exact (blk_w m c t k n).trans (congrFun (host_w m c) _)

/-- The result array after the run. -/
theorem final : (dats m 0 c).arrAt 4 cfg0.N = goal m c := by
  refine (dats m 0 c).arrAt_eq_of_covers 4 _ (by decide +kernel) fun t _ y => ?_
  blk_simp
  rw [after0_4]
  frame_out
  obtain ⟨a, k, rfl⟩ : ∃ (a : Fin 512) (k : Fin 2048), y = ix2 a k := ⟨y 0, y 1, by funext i; fin_cases i <;> rfl⟩
  refine (point m c t a k).trans ?_
  blk_ext [idx t]

/-- The kernel leaves the output projection in its result array. -/
theorem kernel_goal (g : Dev nD → PrngReg) :
    θ_run (defs (F := Ideal)) (onTc (τ := τ) (main (F := Ideal))) ⟨m, fun _ => 0, g⟩
      (fun r => ∀ c : Dev nD, r.2.mem ((c : Thread nD τ).loc main_v3) = goal m c) :=
  (θ_run defs _ _).mono (fun r hr c => (hr.out_eq c 4).trans (final m c)) (run_main (F := Ideal) m g)

end Cert.KernelOutIdeal.Hand

namespace Cert.Proof

open Idealize.ShloMosaic Idealize.ShloMosaic.TcCoe Idealize.SL.Sem

theorem frame_out : Cert.quiescent_KernelOut (hKernelOut := Cert.KernelOut.Gen.facts) :=
  fun m ρ _ => Cert.KernelOut.Gen.frame m ρ

theorem frame_out_ideal : Cert.quiescent_KernelOutIdeal (hKernelOutIdeal := Cert.KernelOutIdeal.Gen.facts) :=
  fun m ρ _ => Cert.KernelOutIdeal.Gen.frame m ρ

theorem frame_out_reference : Cert.quiescent_ReferenceOutIdeal (hReferenceOutIdeal := Cert.ReferenceOutIdeal.Gen.facts) := by
  intro m ρ _
  exact (θ_run Cert.ReferenceOutIdeal.defs _ _).mono
    (fun r h => ⟨fun c => (h c).2, Idealize.ShloMosaic.sem_eq_zero_of_no_sems (by decide) r.2⟩)
    (Cert.ReferenceOutIdeal.Value.run (F := Ideal) m ρ)

open Cert.ReferenceOutIdeal in
/-- The reference's result at coordinates. -/
theorem reference_out (A : FVec Ideal S32768x2048 .f32) (B : FVec Ideal S512x2048 .f32) (W : FVec Ideal S2048x2048 .f32)
    (X : FVec Ideal S33280x2048 .f32) (hc : Shape.Concatenates [S32768x2048, S512x2048] S33280x2048 0) (r : Fin 33280) (n : Fin 2048) :
    (addf X (Host.dotGeneral dot_S33280x2048_S2048x2048_S33280x2048_1_0_0_1_n_n none
      (concatenate S33280x2048 0 [⟨S32768x2048, A⟩, ⟨S512x2048, B⟩] hc) W : FVec Ideal S33280x2048 .f32) (ix2 r n) : EReal)
      = Cert.KernelOutIdeal.Hand.project A B W X r n := by
  pointwise
  rfl

theorem preserves_out : Cert.preserves_KernelOut_KernelOutIdeal := trivial

/-- The kernel and the plain projection end with the same result array. -/
theorem algebraic_out : Cert.algebraic_KernelOutIdeal_ReferenceOutIdeal (hKernelOutIdeal := Cert.KernelOutIdeal.Gen.facts)
    (hReferenceOutIdeal := Cert.ReferenceOutIdeal.Gen.facts) := by
  intro m g m' g' _ he
  refine ⟨fun c => Cert.KernelOutIdeal.Hand.goal m c, ?_, ?_⟩
  · exact (θ_run Cert.KernelOutIdeal.defs _ _).mono (fun r hr c => ⟨hr.1 c, hr.2 c⟩)
      (θ_run_and (Cert.KernelOutIdeal.Hand.kernel_goal m g) (Cert.KernelOutIdeal.Gen.unchanged m g))
  · refine (θ_run Cert.ReferenceOutIdeal.defs _ _).mono (fun r hr c => ⟨(hr c).1.trans ?_, (hr c).2⟩)
      (Cert.ReferenceOutIdeal.Value.run (F := Ideal) m' g')
    rw [(he c).1, (he c).2.1, (he c).2.2.1, (he c).2.2.2]
    funext j
    obtain ⟨r, n, rfl⟩ : ∃ (r : Fin 33280) (n : Fin 2048), j = ix2 r n := ⟨j 0, j 1, by funext i; fin_cases i <;> rfl⟩
    exact reference_out _ _ _ _ _ r n

end Cert.Proof

end
-- ==== Proof.OutFirst.lean ====
module

public import proofs.«01_k».proof.Proof.OutProj
public import proofs.«01_k».proof.Proof.Gen.KernelOut0
public import proofs.«01_k».proof.Proof.Gen.KernelOut0.Frame
public import proofs.«01_k».proof.Proof.Gen.KernelOut0Ideal
public import proofs.«01_k».proof.Proof.Gen.KernelOut0Ideal.Frame
public import proofs.«01_k».proof.Proof.Gen.ReferenceOut0Ideal.Run

/-! The output projection of the first layer, whose residual stream comes in two arrays. -/

@[expose] public section

set_option maxRecDepth 16384
set_option maxHeartbeats 1000000

noncomputable section

namespace Cert.KernelOut0Ideal.Hand

open Cert.KernelOut0Ideal Cert.KernelOut0Ideal.Gen
open Cert.KernelOutIdeal.Hand (stack stack_of project head_word)
open Idealize.ShloMosaic Idealize.ShloMosaic.TcCoe Idealize.SL.Sem
open Idealize.ShloMosaic.Pipeline (Dat)

/-- What the body computes of its blocks. -/
theorem pay_at (i : grid0.Coords) (v1 v2 : FVec Ideal S512x2048 .f32) (v5 v7 : FVec Ideal S512x2048 .bf16) (v10 : FVec Ideal S2048x2048 .bf16)
    (a : Fin 512) (n : Fin 2048) :
    (show EReal from k0_pay1 (F := Ideal) i v1 v2 v5 v7 v10 (ix2 a n))
      = (if (i 0).val < 64 then (v1 (ix2 a n) : EReal) else v2 (ix2 a n))
        + ∑ k : Fin 2048, (if (i 0).val < 64 then (v5 (ix2 a k) : EReal) else v7 (ix2 a k)) * (v10 (ix2 k n) : EReal) := by
  have hw := head_word (i 0)
  by_cases h : (i 0).val < 64
  · simp only [h, if_true] at hw ⊢
    unfold k0_pay1
    simp only [hw, Scalar.select, show (1#1 : BitVec 1) = 1 from rfl, if_true]
    pointwise
  · simp only [h, if_false] at hw ⊢
    unfold k0_pay1
    simp only [hw, Scalar.select, show ¬ (0#1 : BitVec 1) = 1 by decide, if_false]
    pointwise

/-- The index maps of the windows. -/
theorem idx : ∀ t : Fin cfg0.N, win0_0.index t = ![min t.val 63, 0] ∧ win0_1.index t = ![t.val - 64, 0] ∧ win0_2.index t = ![0, 0]
    ∧ win0_3.index t = ![min t.val 63, 0] ∧ win0_4.index t = ![t.val - 64, 0] ∧ win0_5.index t = ![t.val, 0]
    ∧ (grid0.coords t 0).val = t.val ∧ t.val < 65 :=
  (by decide +kernel : ∀ t : Fin grid0.N, _)

variable (m : (ℓ : Loc nD τ sig) → Buf (Elt Ideal) ℓ) (c : Dev nD)

theorem lt65 (t : Fin cfg0.N) : t.val < 65 := (idx t).2.2.2.2.2.2.2
theorem coord (t : Fin cfg0.N) : (grid0.coords t 0).val = t.val := (idx t).2.2.2.2.2.2.1

theorem host_a : (V m c main_v0 : S32768x2048.Idx → EReal) = m ((c : Thread nD τ).loc main_arg0) := by
  unfold V; after_reads_at; rfl
theorem host_b : (V m c main_v1 : S512x2048.Idx → EReal) = m ((c : Thread nD τ).loc main_arg1) := by
  unfold V; after_reads_at; rfl
theorem host_w : (V m c main_v2 : S2048x2048.Idx → EReal) = m ((c : Thread nD τ).loc main_arg2) := by
  unfold V; after_reads_at; rfl

theorem blk_a (t : Fin cfg0.N) (h : t.val < 64) (a : Fin 512) (k : Fin 2048) :
    (iblk m c 0 t : S512x2048.Idx → EReal) (ix2 a k)
      = (V m c main_v0 : S32768x2048.Idx → EReal) (ix2 ⟨t.val * 512 + a, by omega⟩ k) := by
  have e : min t.val 63 = t.val := by omega
  blk_ext [iblk, idx t, e]

theorem blk_b (t : Fin cfg0.N) (h : ¬ t.val < 64) (a : Fin 512) (k : Fin 2048) :
    (iblk m c 1 t : S512x2048.Idx → EReal) (ix2 a k) = (V m c main_v1 : S512x2048.Idx → EReal) (ix2 a k) := by
  have e : t.val - 64 = 0 := by have := lt65 t; omega
  blk_ext [iblk, idx t, e]

theorem blk_w (t : Fin cfg0.N) (k n : Fin 2048) :
    (iblk m c 2 t : S2048x2048.Idx → EReal) (ix2 k n) = (V m c main_v2 : S2048x2048.Idx → EReal) (ix2 k n) := by
  blk_ext [iblk, idx t]

theorem blk_x (t : Fin cfg0.N) (h : t.val < 64) (a : Fin 512) (n : Fin 2048) :
    (iblk m c 3 t : S512x2048.Idx → EReal) (ix2 a n)
      = (m ((c : Thread nD τ).loc main_arg3) : S32768x2048.Idx → EReal) (ix2 ⟨t.val * 512 + a, by omega⟩ n) := by
  have e : min t.val 63 = t.val := by omega
  blk_ext [iblk, V, idx t, e]

theorem blk_y (t : Fin cfg0.N) (h : ¬ t.val < 64) (a : Fin 512) (n : Fin 2048) :
    (iblk m c 4 t : S512x2048.Idx → EReal) (ix2 a n) = (m ((c : Thread nD τ).loc main_arg4) : S512x2048.Idx → EReal) (ix2 a n) := by
  have e : t.val - 64 = 0 := by have := lt65 t; omega
  blk_ext [iblk, V, idx t, e]

/-- The output projection of the kernel's argument arrays, with the residual rows of both arrays stacked. -/
def goal (i : S33280x2048.Idx) : EReal :=
  project (m ((c : Thread nD τ).loc main_arg0)) (m ((c : Thread nD τ).loc main_arg1)) (m ((c : Thread nD τ).loc main_arg2))
    (fun j => stack (m ((c : Thread nD τ).loc main_arg3)) (m ((c : Thread nD τ).loc main_arg4)) (j 0) (j 1)) (i 0) (i 1)

theorem point (t : Fin cfg0.N) (a : Fin 512) (n : Fin 2048) :
    (show EReal from k0_pay1 (F := Ideal) (grid0.coords t) (iblk m c 3 t) (iblk m c 4 t) (iblk m c 0 t) (iblk m c 1 t) (iblk m c 2 t) (ix2 a n))
      = goal m c (ix2 ⟨t.val * 512 + a, by have := lt65 t; omega⟩ n) := by
  refine (pay_at (grid0.coords t) (iblk m c 3 t) (iblk m c 4 t) (iblk m c 0 t) (iblk m c 1 t) (iblk m c 2 t) a n).trans ?_
  unfold goal project
  rw [coord t]
  refine congrArg₂ (· + ·) ?_ (Finset.sum_congr rfl fun k _ => congrArg₂ (· * ·) ?_ ?_)
  · exact stack_of _ _ t.val (lt65 t) a n _ _ (fun h => blk_x m c t h a n) fun h => blk_y m c t h a n
  · exact stack_of _ _ t.val (lt65 t) a k _ _ (fun h => (blk_a m c t h a k).trans (congrFun (host_a m c) _))
      fun h => (blk_b m c t h a k).trans (congrFun (host_b m c) _)
  · exact (blk_w m c t k n).trans (congrFun (host_w m c) _)

/-- The result array after the run. -/
theorem final : (dats m 0 c).arrAt 5 cfg0.N = goal m c := by
  refine (dats m 0 c).arrAt_eq_of_covers 5 _ (by decide +kernel) fun t _ y => ?_
  blk_simp
  rw [after0_5]
  frame_out
  obtain ⟨a, k, rfl⟩ : ∃ (a : Fin 512) (k : Fin 2048), y = ix2 a k := ⟨y 0, y 1, by funext i; fin_cases i <;> rfl⟩
  refine (point m c t a k).trans ?_
  blk_ext [idx t]

/-- The kernel leaves the output projection in its result array. -/
theorem kernel_goal (g : Dev nD → PrngReg) :
    θ_run (defs (F := Ideal)) (onTc (τ := τ) (main (F := Ideal))) ⟨m, fun _ => 0, g⟩
      (fun r => ∀ c : Dev nD, r.2.mem ((c : Thread nD τ).loc main_v3) = goal m c) :=
  (θ_run defs _ _).mono (fun r hr c => (hr.out_eq c 5).trans (final m c)) (run_main (F := Ideal) m g)

end Cert.KernelOut0Ideal.Hand

namespace Cert.Proof

open Idealize.ShloMosaic Idealize.ShloMosaic.TcCoe Idealize.SL.Sem

theorem frame_first : Cert.quiescent_KernelOut0 (hKernelOut0 := Cert.KernelOut0.Gen.facts) :=
  fun m ρ _ => Cert.KernelOut0.Gen.frame m ρ

theorem frame_first_ideal : Cert.quiescent_KernelOut0Ideal (hKernelOut0Ideal := Cert.KernelOut0Ideal.Gen.facts) :=
  fun m ρ _ => Cert.KernelOut0Ideal.Gen.frame m ρ

theorem frame_first_reference : Cert.quiescent_ReferenceOut0Ideal (hReferenceOut0Ideal := Cert.ReferenceOut0Ideal.Gen.facts) := by
  intro m ρ _
  exact (θ_run Cert.ReferenceOut0Ideal.defs _ _).mono
    (fun r h => ⟨fun c => (h c).2, Idealize.ShloMosaic.sem_eq_zero_of_no_sems (by decide) r.2⟩)
    (Cert.ReferenceOut0Ideal.Value.run (F := Ideal) m ρ)

open Cert.ReferenceOut0Ideal in
/-- Two stacked arrays at coordinates. -/
theorem stacked (A : FVec Ideal S32768x2048 .f32) (B : FVec Ideal S512x2048 .f32)
    (hc : Shape.Concatenates [S32768x2048, S512x2048] S33280x2048 0) :
    (concatenate S33280x2048 0 [⟨S32768x2048, A⟩, ⟨S512x2048, B⟩] hc : FVec Ideal S33280x2048 .f32)
      = fun j => Cert.KernelOutIdeal.Hand.stack A B (j 0) (j 1) := by
  funext j
  obtain ⟨r, n, rfl⟩ : ∃ (r : Fin 33280) (n : Fin 2048), j = ix2 r n := ⟨j 0, j 1, by funext i; fin_cases i <;> rfl⟩
  pointwise
  rfl

theorem preserves_first : Cert.preserves_KernelOut0_KernelOut0Ideal := trivial

/-- The kernel and the plain projection of the first layer end with the same result array. -/
theorem algebraic_first : Cert.algebraic_KernelOut0Ideal_ReferenceOut0Ideal (hKernelOut0Ideal := Cert.KernelOut0Ideal.Gen.facts)
    (hReferenceOut0Ideal := Cert.ReferenceOut0Ideal.Gen.facts) := by
  intro m g m' g' _ he
  refine ⟨fun c => Cert.KernelOut0Ideal.Hand.goal m c, ?_, ?_⟩
  · exact (θ_run Cert.KernelOut0Ideal.defs _ _).mono (fun r hr c => ⟨hr.1 c, hr.2 c⟩)
      (θ_run_and (Cert.KernelOut0Ideal.Hand.kernel_goal m g) (Cert.KernelOut0Ideal.Gen.unchanged m g))
  · refine (θ_run Cert.ReferenceOut0Ideal.defs _ _).mono (fun r hr c => ⟨(hr c).1.trans ?_, (hr c).2⟩)
      (Cert.ReferenceOut0Ideal.Value.run (F := Ideal) m' g')
    rw [(he c).1, (he c).2.1, (he c).2.2.1, (he c).2.2.2.1, (he c).2.2.2.2]
    funext j
    obtain ⟨r, n, rfl⟩ : ∃ (r : Fin 33280) (n : Fin 2048), j = ix2 r n := ⟨j 0, j 1, by funext i; fin_cases i <;> rfl⟩
    refine (reference_out _ _ _ _ _ r n).trans ?_
    rw [stacked]
    rfl

end Cert.Proof

end
-- ==== Proof.FfnWordRuns.lean ====
module

public import proofs.«01_k».proof.Proof.Gen.KernelFfn.Skeleton
public import proofs.«01_k».proof.Proof.FfnWordPins

/-! The body's run on each of its four paths. -/

@[expose] public section

set_option maxRecDepth 16384

set_option Elab.async false

noncomputable section

namespace Cert.KernelFfn.Gen

open Cert.KernelFfn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_5 : View sig .tc .vmem S832x2048 .f32 := (Memref.whole cc0_stg5_0 : Memref sig .tc .vmem S832x2048 .f32).view

set_option backward.proofsInPublic true in
set_option maxHeartbeats 8000000 in

noncomputable def kernelRun0_A (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Bits .i32)) (T1 : (S1.Idx → Elt Bits .i32))
     (x0 : (S832x2048.Idx → Elt Bits .f32)) (x1 : (S1x2048.Idx → Elt Bits .f32)) (x2 : (S1x1x2048x512.Idx → Elt Bits .bf16)) (x3 : (S1x1x2048x512.Idx → Elt Bits .bf16)) (x4 : (S1x1x512x2048.Idx → Elt Bits .bf16)) (xa3 : Buf (Elt Bits) ((c : Thread nD τ).loc cc0_scratch3)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : (Scalar.cmpi .ne (Scalar.extui (Scalar.cmpi .eq (BitVec.ofNat 32 (i 1).val) 0#32)) 0#32) = 1#1) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : ¬(k0_cond5 i = 1#1)) (k0_h6 : ¬(k0_cond6 i (View.readAt (Elt Bits) (tbM0_1).view (Rect.unit (s := S1) ![0] S1.size inb_S1_S1_0).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S832x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S832x2048.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_swiglu_eq_skeleton]; unfold cc0_swiglu_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = Scalar.cmpi = _; exact k0_h2) | (guard_target = ¬(Scalar.cmpi = _); exact k0_h3) | (guard_target = ¬(Scalar.cmpi = _); exact k0_h4) | (guard_target = ¬(k0_cond5 _ = _); exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in

noncomputable def kernelRun0_B (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Bits .i32)) (T1 : (S1.Idx → Elt Bits .i32))
     (x0 : (S832x2048.Idx → Elt Bits .f32)) (x1 : (S1x2048.Idx → Elt Bits .f32)) (x2 : (S1x1x2048x512.Idx → Elt Bits .bf16)) (x3 : (S1x1x2048x512.Idx → Elt Bits .bf16)) (x4 : (S1x1x512x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : (Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1) (k0_h5 : ¬(k0_cond5 i = 1#1)) (k0_h6 : ¬(k0_cond6 i (View.readAt (Elt Bits) (tbM0_1).view (Rect.unit (s := S1) ![0] S1.size inb_S1_S1_0).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S832x2048.Idx → Elt Bits .f32)) (xa3 : Buf (Elt Bits) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S832x2048.Idx → Elt Bits .f32)) (xa3 : Buf (Elt Bits) ((c : Thread nD τ).loc cc0_scratch3)) K => by
    unfold owns
    rw [cc0_swiglu_eq_skeleton]; unfold cc0_swiglu_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = ¬(Scalar.cmpi = _); exact k0_h3) | (guard_target = Scalar.cmpi = _; exact k0_h4) | (guard_target = ¬(k0_cond5 _ = _); exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in

noncomputable def kernelRun0_C (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Bits .i32)) (T1 : (S1.Idx → Elt Bits .i32))
     (x0 : (S832x2048.Idx → Elt Bits .f32)) (x1 : (S1x2048.Idx → Elt Bits .f32)) (x2 : (S1x1x2048x512.Idx → Elt Bits .bf16)) (x3 : (S1x1x2048x512.Idx → Elt Bits .bf16)) (x4 : (S1x1x512x2048.Idx → Elt Bits .bf16)) (xa0 : Buf (Elt Bits) ((c : Thread nD τ).loc cc0_scratch0)) (xa1 : Buf (Elt Bits) ((c : Thread nD τ).loc cc0_scratch1)) (xa3 : Buf (Elt Bits) ((c : Thread nD τ).loc cc0_scratch3)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : (Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : ¬(k0_cond5 i = 1#1)) (k0_h6 : ¬(k0_cond6 i (View.readAt (Elt Bits) (tbM0_1).view (Rect.unit (s := S1) ![0] S1.size inb_S1_S1_0).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S832x2048.Idx → Elt Bits .f32)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S832x2048.Idx → Elt Bits .f32)) (xa2 : Buf (Elt Bits) ((c : Thread nD τ).loc cc0_scratch2)) K => by
    unfold owns
    rw [cc0_swiglu_eq_skeleton]; unfold cc0_swiglu_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = Scalar.cmpi = _; exact k0_h3) | (guard_target = ¬(Scalar.cmpi = _); exact k0_h4) | (guard_target = ¬(k0_cond5 _ = _); exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in

noncomputable def kernelRun0_D (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Bits .i32)) (T1 : (S1.Idx → Elt Bits .i32))
     (x0 : (S832x2048.Idx → Elt Bits .f32)) (x1 : (S1x2048.Idx → Elt Bits .f32)) (x2 : (S1x1x2048x512.Idx → Elt Bits .bf16)) (x3 : (S1x1x2048x512.Idx → Elt Bits .bf16)) (x4 : (S1x1x512x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : k0_cond5 i = 1#1) (k0_h6 : ¬(k0_cond6 i (View.readAt (Elt Bits) (tbM0_1).view (Rect.unit (s := S1) ![0] S1.size inb_S1_S1_0).toLoadRect T1 (Shape.Idx.first (numel1_S1.symm ▸ Nat.one_pos))) = 1#1)) :
    Σ' (out0 : List (View.Piece (Elt Bits) S832x2048 .f32)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun K => by
    unfold owns
    rw [cc0_swiglu_eq_skeleton]; unfold cc0_swiglu_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = ¬(Scalar.cmpi = _); exact k0_h3) | (guard_target = ¬(Scalar.cmpi = _); exact k0_h4) | (guard_target = k0_cond5 _ = _; exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

theorem cover0_D_5 (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Bits .i32)) (T1 : (S1.Idx → Elt Bits .i32))
     (x0 : (S832x2048.Idx → Elt Bits .f32)) (x1 : (S1x2048.Idx → Elt Bits .f32)) (x2 : (S1x1x2048x512.Idx → Elt Bits .bf16)) (x3 : (S1x1x2048x512.Idx → Elt Bits .bf16)) (x4 : (S1x1x512x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : k0_cond5 i = 1#1) (k0_h6 : ¬(k0_cond6 i (View.readAt (Elt Bits) (tbM0_1).view (Rect.unit (s := S1) ![0] S1.size inb_S1_S1_0).toLoadRect T1 (Shape.Idx.first (numel1_S1.symm ▸ Nat.one_pos))) = 1#1)) (y : S832x2048.Idx) :
    ∃ pc ∈ (kernelRun0_D c i arg4 harg4 arg5 harg5 arg6 harg6 arg7 harg7 arg8 harg8 arg9 harg9 T0 T1 x0 x1 x2 x3 x4 xa0 xa1 xa2 xa3 k0_h1 k0_h2 k0_h3 k0_h4 k0_h5 k0_h6).1, y ∈ pc.1.set :=
  View.cover_of_tiledL (kernelRun0_D c i arg4 harg4 arg5 harg5 arg6 harg6 arg7 harg7 arg8 harg8 arg9 harg9 T0 T1 x0 x1 x2 x3 x4 xa0 xa1 xa2 xa3 k0_h1 k0_h2 k0_h3 k0_h4 k0_h5 k0_h6).1 S832x2048.size (by sl_kernel_rfl) y

def out0_D_5 (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Bits .i32)) (T1 : (S1.Idx → Elt Bits .i32))
     (x0 : (S832x2048.Idx → Elt Bits .f32)) (x1 : (S1x2048.Idx → Elt Bits .f32)) (x2 : (S1x1x2048x512.Idx → Elt Bits .bf16)) (x3 : (S1x1x2048x512.Idx → Elt Bits .bf16)) (x4 : (S1x1x512x2048.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (k0_h1 : k0_cond1 i (View.readAt (Elt Bits) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : k0_cond5 i = 1#1) (k0_h6 : ¬(k0_cond6 i (View.readAt (Elt Bits) (tbM0_1).view (Rect.unit (s := S1) ![0] S1.size inb_S1_S1_0).toLoadRect T1 (Shape.Idx.first (numel1_S1.symm ▸ Nat.one_pos))) = 1#1)) : (S832x2048.Idx → Elt Bits .f32) :=
  VO0_5.read (Elt Bits) (VO0_5.writes (Elt Bits) VO0_5.junk (kernelRun0_D c i arg4 harg4 arg5 harg5 arg6 harg6 arg7 harg7 arg8 harg8 arg9 harg9 T0 T1 x0 x1 x2 x3 x4 xa0 xa1 xa2 xa3 k0_h1 k0_h2 k0_h3 k0_h4 k0_h5 k0_h6).1)

end Cert.KernelFfn.Gen

end
-- ==== Proof.FfnWordOk0.lean ====
module

public import proofs.«01_k».proof.Proof.FfnWordLayer

/-! The printed side conditions at the pinned tables. -/

@[expose] public section

set_option maxRecDepth 16384

set_option Elab.async false

noncomputable section

namespace Cert.KernelFfn.Gen

open Cert.KernelFfn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN_0_0_inb : ∀ (ch : Fin 2) (i : grid0.Coords), ∀ a, (cc0_transform_0 inb_S1_S1_0 numel1_S1 (pfN ch) i a + 1) * S832x2048.size a ≤ S33280x2048.size a := by decide +kernel
theorem ok_pfN_0_0 (ch : Fin 2) : (∀ i : grid0.Coords, ∃ h : (∀ a, (cc0_transform_0 inb_S1_S1_0 numel1_S1 (pfN ch) i a + 1) * S832x2048.size a ≤ S33280x2048.size a), EltTy.bits .f32 = 32 ∨ (Rect.block (s := S33280x2048) S832x2048.size (cc0_transform_0 inb_S1_S1_0 numel1_S1 (pfN ch) i) h).WholeWords (EltTy.packing .f32)) := fun i => ⟨ok_pfN_0_0_inb ch i, .inl rfl⟩
theorem ok_pfN_0_1_inb : ∀ (ch : Fin 2) (i : grid0.Coords), ∀ a, (lay ch (cc0_transform_2 k0_off1_inb numel1_S1 inb_S1_S1_0 (pfN ch) i) a + 1) * S1x1x2048x512.size a ≤ S2x1x2048x5632.size a := by decide +kernel
theorem ok_pfN_0_1 (ch : Fin 2) : (∀ i : grid0.Coords, ∃ h : (∀ a, (lay ch (cc0_transform_2 k0_off1_inb numel1_S1 inb_S1_S1_0 (pfN ch) i) a + 1) * S1x1x2048x512.size a ≤ S2x1x2048x5632.size a), EltTy.bits .bf16 = 32 ∨ (Rect.block (s := S2x1x2048x5632) S1x1x2048x512.size (lay ch (cc0_transform_2 k0_off1_inb numel1_S1 inb_S1_S1_0 (pfN ch) i)) h).WholeWords (EltTy.packing .bf16)) := fun i => ⟨ok_pfN_0_1_inb ch i, .inr (Affine.block_words_dvd (s := S2x1x2048x5632) (p := EltTy.packing .bf16) (by decide) (by decide))⟩
theorem ok_pfN_0_2_inb : ∀ (ch : Fin 2) (i : grid0.Coords), ∀ a, (lay ch (cc0_transform_3 k0_off1_inb numel1_S1 inb_S1_S1_0 (pfN ch) i) a + 1) * S1x1x2048x512.size a ≤ S2x1x2048x5632.size a := by decide +kernel
theorem ok_pfN_0_2 (ch : Fin 2) : (∀ i : grid0.Coords, ∃ h : (∀ a, (lay ch (cc0_transform_3 k0_off1_inb numel1_S1 inb_S1_S1_0 (pfN ch) i) a + 1) * S1x1x2048x512.size a ≤ S2x1x2048x5632.size a), EltTy.bits .bf16 = 32 ∨ (Rect.block (s := S2x1x2048x5632) S1x1x2048x512.size (lay ch (cc0_transform_3 k0_off1_inb numel1_S1 inb_S1_S1_0 (pfN ch) i)) h).WholeWords (EltTy.packing .bf16)) := fun i => ⟨ok_pfN_0_2_inb ch i, .inr (Affine.block_words_dvd (s := S2x1x2048x5632) (p := EltTy.packing .bf16) (by decide) (by decide))⟩
theorem ok_pfN_0_3_inb : ∀ (ch : Fin 2) (i : grid0.Coords), ∀ a, (lay ch (cc0_transform_4 k0_off1_inb numel1_S1 inb_S1_S1_0 (pfN ch) i) a + 1) * S1x1x512x2048.size a ≤ S2x1x5632x2048.size a := by decide +kernel
theorem ok_pfN_0_3 (ch : Fin 2) : (∀ i : grid0.Coords, ∃ h : (∀ a, (lay ch (cc0_transform_4 k0_off1_inb numel1_S1 inb_S1_S1_0 (pfN ch) i) a + 1) * S1x1x512x2048.size a ≤ S2x1x5632x2048.size a), EltTy.bits .bf16 = 32 ∨ (Rect.block (s := S2x1x5632x2048) S1x1x512x2048.size (lay ch (cc0_transform_4 k0_off1_inb numel1_S1 inb_S1_S1_0 (pfN ch) i)) h).WholeWords (EltTy.packing .bf16)) := fun i => ⟨ok_pfN_0_3_inb ch i, .inr (Affine.block_words_dvd (s := S2x1x5632x2048) (p := EltTy.packing .bf16) (by decide) (by decide))⟩
theorem ok_pfN (ch : Fin 2) : okL (F := Bits) ch (pfN ch) := ⟨ok_pfN_0_0 ch, ok_pfN_0_1 ch, ok_pfN_0_2 ch, ok_pfN_0_3 ch⟩

end Cert.KernelFfn.Gen

end
-- ==== Proof.FfnWordCfg.lean ====
module

public import proofs.«01_k».proof.Proof.FfnWordOk0

/-! The pipeline at the pinned tables. -/

@[expose] public section

set_option maxRecDepth 16384

set_option Elab.async false

noncomputable section

namespace Cert.KernelFfn.Gen

open Cert.KernelFfn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 2)

def adm : (pcfgL (F := Bits) ch).Adm := ⟨pfN ch, ok_pfN ch⟩
abbrev cfgA : Pipeline.Cfg sig Λ₀ := (pcfgL (F := Bits) ch).at (adm ch)
abbrev pcs : Fin 1 → Pipeline.Cfg sig Λ₀ := Pipeline.pin (pcfgsL (F := Bits) ch) fun _ => adm ch

variable (m : (ℓ : Loc nD τ sig) → Buf (Elt Bits) ℓ) (ρ : Dev nD → PrngReg)

abbrev crd (t : Fin (cfgA ch).N) : (cfgA ch).grid.Coords := (cfgA ch).grid.coords t

abbrev ms0_0 (t : Fin (cfgA ch).N) : Memref sig .tc .vmem S832x2048 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x2048 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1x2048x512 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x1x2048x512 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x1x512x2048 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S832x2048 .f32 := spec0_5.stage ((cfgA ch).slots t (5 : Fin 6))
abbrev hs0_5 (t : Fin (cfgA ch).N) : (ms0_5 ch t).IsWhole := hstage0_5 (((cfgA ch).slots t (5 : Fin 6)).cast nbuf0_5)

def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

abbrev P0_0 (t : Fin (cfgA ch).N) : Prop := (Scalar.cmpi .ne (Scalar.extui (Scalar.cmpi .eq (BitVec.ofNat 32 ((crd ch t) 1).val) 0#32)) 0#32) = 1#1
abbrev P0_1 (t : Fin (cfgA ch).N) : Prop := (Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1
abbrev P0_2 (t : Fin (cfgA ch).N) : Prop := (Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1

def sfresh0_0 : ℕ → Bool
  | 0 => true
  | n + 1 => if h : n < (cfgA ch).N then (if P0_0 ch ⟨n, h⟩ then false else (if P0_1 ch ⟨n, h⟩ then sfresh0_0 n else (if P0_2 ch ⟨n, h⟩ then sfresh0_0 n else sfresh0_0 n))) else true

def sfirst0_0 (ch : Fin 2) : ℕ := 0
def sfrTab0_0 : ℕ → Bool := fun n => decide (n ≤ sfirst0_0 ch)

def sfresh0_1 : ℕ → Bool
  | 0 => true
  | n + 1 => if h : n < (cfgA ch).N then (if P0_0 ch ⟨n, h⟩ then false else (if P0_1 ch ⟨n, h⟩ then sfresh0_1 n else (if P0_2 ch ⟨n, h⟩ then sfresh0_1 n else sfresh0_1 n))) else true

def sfirst0_1 (ch : Fin 2) : ℕ := 0
def sfrTab0_1 : ℕ → Bool := fun n => decide (n ≤ sfirst0_1 ch)

def sfresh0_2 : ℕ → Bool
  | 0 => true
  | n + 1 => if h : n < (cfgA ch).N then (if P0_0 ch ⟨n, h⟩ then false else (if P0_1 ch ⟨n, h⟩ then false else (if P0_2 ch ⟨n, h⟩ then sfresh0_2 n else sfresh0_2 n))) else true

def sfirst0_2 (ch : Fin 2) : ℕ := 0
def sfrTab0_2 : ℕ → Bool := fun n => decide (n ≤ sfirst0_2 ch)

def sfresh0_3 : ℕ → Bool
  | 0 => true
  | n + 1 => if h : n < (cfgA ch).N then (if P0_0 ch ⟨n, h⟩ then sfresh0_3 n else (if P0_1 ch ⟨n, h⟩ then sfresh0_3 n else (if P0_2 ch ⟨n, h⟩ then false else true))) else true

def sfirst0_3 (ch : Fin 2) : ℕ := 1
def sfrTab0_3 : ℕ → Bool := fun n => decide (n % 12 ≤ sfirst0_3 ch)

set_option backward.proofsInPublic true in

def frMask0_5 (ch : Fin 2) : ℕ := 0xffffffffffffffffffffffffffffffffffffffffffffffffffffffffffffffffffffffffffffffffffffffffffffffffffffffffffffffffffffffff

def frTab0_5 : ℕ → Bool
  | 0 => true
  | n + 1 => (frMask0_5 ch).testBit n

end Cert.KernelFfn.Gen

end
-- ==== Proof.FfnWordFacts.lean ====
module

public import proofs.«01_k».proof.Proof.FfnWordCfg

/-! The decided facts of the grid. -/

@[expose] public section

set_option maxRecDepth 16384

set_option Elab.async false

noncomputable section

namespace Cert.KernelFfn.Gen

open Cert.KernelFfn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 2)
variable (m : (ℓ : Loc nD τ sig) → Buf (Elt Bits) ℓ) (ρ : Dev nD → PrngReg)

abbrev FactsAt (ch : Fin 2) (t : Fin (cfgA ch).N) : Prop :=

  (sfrTab0_0 ch (t.val + 1) = (if P0_0 ch t then false else (if P0_1 ch t then sfrTab0_0 ch t.val else (if P0_2 ch t then sfrTab0_0 ch t.val else sfrTab0_0 ch t.val))))
  ∧ (sfrTab0_1 ch (t.val + 1) = (if P0_0 ch t then false else (if P0_1 ch t then sfrTab0_1 ch t.val else (if P0_2 ch t then sfrTab0_1 ch t.val else sfrTab0_1 ch t.val))))
  ∧ (sfrTab0_2 ch (t.val + 1) = (if P0_0 ch t then false else (if P0_1 ch t then false else (if P0_2 ch t then sfrTab0_2 ch t.val else sfrTab0_2 ch t.val))))
  ∧ (sfrTab0_3 ch (t.val + 1) = (if P0_0 ch t then sfrTab0_3 ch t.val else (if P0_1 ch t then sfrTab0_3 ch t.val else (if P0_2 ch t then false else true))))
  ∧ (frTab0_5 ch (t.val + 1) = (((cfgA ch).win (5 : Fin 6)).flush t || ((cfgA ch).idle (5 : Fin 6) ((cfgA ch).grid.coords t) && frTab0_5 ch t.val)))
  ∧ (P0_0 ch t → (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))))
  ∧ (P0_0 ch t → (cfgA ch).idle (5 : Fin 6) ((cfgA ch).grid.coords t) = true ∧ ((cfgA ch).win (5 : Fin 6)).flush t = false ∧ frTab0_5 ch t.val = true ∧ sfrTab0_0 ch (t.val + 1) = false ∧ sfrTab0_1 ch (t.val + 1) = false ∧ sfrTab0_2 ch (t.val + 1) = false ∧ sfrTab0_3 ch t.val = true ∧ sfrTab0_3 ch (t.val + 1) = true)
  ∧ (¬P0_0 ch t → ¬P0_1 ch t → P0_2 ch t → (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))))
  ∧ (¬P0_0 ch t → ¬P0_1 ch t → P0_2 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch (t.val + 1) = false)
  ∧ (¬P0_0 ch t → P0_1 ch t → (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))))
  ∧ (¬P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → ¬P0_2 ch t → (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((k0_cond5 (crd ch t) = 1#1) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))))
  ∧ (¬P0_0 ch t → ¬P0_1 ch t → ¬P0_2 ch t → (cfgA ch).idle (5 : Fin 6) ((cfgA ch).grid.coords t) = false ∧ ((cfgA ch).win (5 : Fin 6)).flush t = true ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = true)

set_option synthInstance.maxSize 65536 in
instance FactsAt.dec (ch : Fin 2) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))

end Cert.KernelFfn.Gen

end
-- ==== Proof.FfnWordRun.lean ====
module

public import proofs.«01_k».proof.Proof.FfnWordRuns
public import proofs.«01_k».proof.Proof.FfnWordFacts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The launch: contents of the scratches and the result point by point, and the frame. -/

@[expose] public section

set_option maxRecDepth 16384

set_option Elab.async false

noncomputable section

namespace Cert.KernelFfn.Gen

open Cert.KernelFfn
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (ch : Fin 2)
variable (m : (ℓ : Loc nD τ sig) → Buf (Elt Bits) ℓ) (ρ : Dev nD → PrngReg)

theorem sfrTab0_0_step : ∀ (ch : Fin 2) (t : Fin (cfgA ch).N), sfrTab0_0 ch (t.val + 1) = (if P0_0 ch t then false else (if P0_1 ch t then sfrTab0_0 ch t.val else (if P0_2 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 2) (t : Fin (cfgA ch).N), sfrTab0_1 ch (t.val + 1) = (if P0_0 ch t then false else (if P0_1 ch t then sfrTab0_1 ch t.val else (if P0_2 ch t then sfrTab0_1 ch t.val else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 2) (t : Fin (cfgA ch).N), sfrTab0_2 ch (t.val + 1) = (if P0_0 ch t then false else (if P0_1 ch t then false else (if P0_2 ch t then sfrTab0_2 ch t.val else sfrTab0_2 ch t.val))) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 2) (t : Fin (cfgA ch).N), sfrTab0_3 ch (t.val + 1) = (if P0_0 ch t then sfrTab0_3 ch t.val else (if P0_1 ch t then sfrTab0_3 ch t.val else (if P0_2 ch t then false else true))) := fun ch t => (allFacts ch t).2.2.2.1
theorem sfresh0_3_eq : ∀ n, n ≤ (cfgA ch).N → sfresh0_3 ch n = sfrTab0_3 ch n
  | 0, _ => by simp only [sfresh0_3, sfrTab0_3, Nat.zero_mod, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem frTab0_5_step : ∀ (ch : Fin 2) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).2.2.2.2.1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

theorem hyps0_A : ∀ (ch : Fin 2) (t : Fin (cfgA ch).N), P0_0 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.1

theorem hypsR0_A : ∀ (ch : Fin 2) (t : Fin (cfgA ch).N), P0_0 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := hyps0_A

theorem sched0_A : ∀ (ch : Fin 2) (t : Fin (cfgA ch).N), P0_0 ch t →
    (cfgA ch).idle (5 : Fin 6) ((cfgA ch).grid.coords t) = true ∧ ((cfgA ch).win (5 : Fin 6)).flush t = false ∧ (cfgA ch).fresh (5 : Fin 6) t.val = true ∧ sfresh0_0 ch (t.val + 1) = false ∧ sfresh0_1 ch (t.val + 1) = false ∧ sfresh0_2 ch (t.val + 1) = false ∧ sfresh0_3 ch t.val = true ∧ sfresh0_3 ch (t.val + 1) = true := by
  intro ch t; rw [freshF0_5 ch t, sfreshS0_0 ch t, sfreshS0_1 ch t, sfreshS0_2 ch t, sfreshF0_3 ch t, sfreshS0_3 ch t]; exact (fun ch t => (allFacts ch t).2.2.2.2.2.2.1) ch t

theorem hyps0_B : ∀ (ch : Fin 2) (t : Fin (cfgA ch).N), ¬P0_0 ch t → ¬P0_1 ch t → P0_2 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.2.2.1

theorem hypsR0_B : ∀ (ch : Fin 2) (t : Fin (cfgA ch).N), ¬P0_0 ch t → ¬P0_1 ch t → P0_2 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := hyps0_B

theorem sched0_B : ∀ (ch : Fin 2) (t : Fin (cfgA ch).N), ¬P0_0 ch t → ¬P0_1 ch t → P0_2 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshS0_3 ch t]; exact (fun ch t => (allFacts ch t).2.2.2.2.2.2.2.2.1) ch t

theorem hyps0_C : ∀ (ch : Fin 2) (t : Fin (cfgA ch).N), ¬P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.2.2.2.2.1

theorem hypsR0_C : ∀ (ch : Fin 2) (t : Fin (cfgA ch).N), ¬P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := hyps0_C

theorem sched0_C : ∀ (ch : Fin 2) (t : Fin (cfgA ch).N), ¬P0_0 ch t → P0_1 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.1) ch t

theorem hyps0_D : ∀ (ch : Fin 2) (t : Fin (cfgA ch).N), ¬P0_0 ch t → ¬P0_1 ch t → ¬P0_2 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((k0_cond5 (crd ch t) = 1#1) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.2.2.2.2.2.2.1

theorem hypsR0_D : ∀ (ch : Fin 2) (t : Fin (cfgA ch).N), ¬P0_0 ch t → ¬P0_1 ch t → ¬P0_2 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((k0_cond5 (crd ch t) = 1#1) ∧ ((¬(k0_cond6 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))) := hyps0_D

theorem sched0_D : ∀ (ch : Fin 2) (t : Fin (cfgA ch).N), ¬P0_0 ch t → ¬P0_1 ch t → ¬P0_2 ch t →
    (cfgA ch).idle (5 : Fin 6) ((cfgA ch).grid.coords t) = false ∧ ((cfgA ch).win (5 : Fin 6)).flush t = true ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = true := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2) ch t

def step0 (c : Dev nD) (t : Fin (cfgA ch).N) (prev : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) :=
  if q0 : P0_0 ch t then
    ((if (cfgA ch).fresh (5 : Fin 6) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.2.1)
  else
    if q1 : P0_1 ch t then
      ((if (cfgA ch).fresh (5 : Fin 6) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.2.1)
    else
      if q2 : P0_2 ch t then
        ((if (cfgA ch).fresh (5 : Fin 6) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.2.1)
      else
        (out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.2.1)

def traj0 (c : Dev nD) : (n : ℕ) → n < (cfgA ch).N → (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)
  | 0, h => step0 ch m ρ c ⟨0, h⟩ (default, default, default, default, default)
  | n + 1, h => step0 ch m ρ c ⟨n + 1, h⟩ (traj0 c n (Nat.lt_of_succ_lt h))

def prev0 (c : Dev nD) (t : Fin (cfgA ch).N) : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : P0_0 ch t) :
    step0 ch m ρ c t prev = ((if (cfgA ch).fresh (5 : Fin 6) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.2.1) := by
  unfold step0; simp only [dif_pos q0]

theorem step0_B (c : Dev nD) (t : Fin (cfgA ch).N) (prev : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : ¬P0_0 ch t) (q1 : ¬P0_1 ch t) (q2 : P0_2 ch t) :
    step0 ch m ρ c t prev = ((if (cfgA ch).fresh (5 : Fin 6) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.2.1) := by
  unfold step0; simp only [dif_neg q0, dif_neg q1, dif_pos q2]

theorem step0_C (c : Dev nD) (t : Fin (cfgA ch).N) (prev : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : ¬P0_0 ch t) (q1 : P0_1 ch t) :
    step0 ch m ρ c t prev = ((if (cfgA ch).fresh (5 : Fin 6) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.2.1) := by
  unfold step0; simp only [dif_neg q0, dif_pos q1]

theorem step0_D (c : Dev nD) (t : Fin (cfgA ch).N) (prev : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : ¬P0_0 ch t) (q1 : ¬P0_1 ch t) (q2 : ¬P0_2 ch t) :
    step0 ch m ρ c t prev = (out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.2.1) := by
  unfold step0; simp only [dif_neg q0, dif_neg q1, dif_neg q2]

def prev0T (c : Dev nD) (t : Fin ((cfgA ch).N + 1)) : (S832x2048.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2⌝ ∗ (scM0_3.view.loc (c : Thread nD τ) ↦{fullShare} a)) ∗ (tbM0_0.view.loc (c : Thread nD τ) ↦{fullShare.right} pinT_0 ch) ∗ (tbM0_1.view.loc (c : Thread nD τ) ↦{fullShare.right} pinT_1 ch))

def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt).1
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt).1 := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · rw [step0_A ch m ρ c t _ q0]
    simp only [hf, Bool.false_eq_true, ↓reduceIte]
    unfold prev0; rw [dif_neg ht]
  · by_cases q1 : P0_1 ch t
    · rw [step0_C ch m ρ c t _ q0 q1]
      simp only [hf, Bool.false_eq_true, ↓reduceIte]
      unfold prev0; rw [dif_neg ht]
    · by_cases q2 : P0_2 ch t
      · rw [step0_B ch m ρ c t _ q0 q1 q2]
        simp only [hf, Bool.false_eq_true, ↓reduceIte]
        unfold prev0; rw [dif_neg ht]
      · obtain ⟨i5, -, -, -, -, -, -, -, -, -, -⟩ := sched0_D ch t q0 q1 q2
        rw [i5] at hi; exact absurd hi (by decide)

theorem before0_5 (c : Dev nD) (t : Fin (cfgA ch).N) (d) :
    (dats ch m ρ 0 c).before (5 : Fin 6) t d = if (cfgA ch).fresh (5 : Fin 6) t.val then d else (prev0 ch m ρ c t).1 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Bits) Λ₀ .tc) PUnit :=
  cc0_swiglu (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4000000 in

theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i5, f5, fr5, sfn0, sfn1, sfn2, sf3, sfn3⟩ := sched0_A ch t q0
    have F0 := hypsR0_A ch t q0
    have k0_h1 := F0.1; have F1 := F0.2
    have k0_h2 := F1.1; have F2 := F1.2
    have k0_h3 := F2.1; have F3 := F2.2
    have k0_h4 := F3.1; have F4 := F3.2
    have k0_h5 := F4.1; have F5 := F4.2
    have k0_h6 := F5.1; have F6 := F5.2
    clear F0 F1 F2 F3 F4 F5 F6
    rewrite [i5]
    simp only [before0_0, before0_1, before0_2, before0_3, before0_4, before0_5, after0_0, after0_1, after0_2, after0_3, after0_4, after0_5, f5]
    simp only [fr5, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) a3 k0_h1 k0_h2 k0_h3 k0_h4 k0_h5 k0_h6).2.2.2.2 _ a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    isplitl [HS1]; · iexact HS1
    isplitl [HS2]; · iexact HS2
    isplitl [HS3]; · iexact HS3
    iintro ⟨H0, H1, H2, H3, H4, HT0, HT1, H5, HS0, HS1, HS2, HS3⟩
    isplitl [HS0 HS1 HS2 HS3 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    first | (iexists d5; iexact H5) | iexact H5
  · by_cases q1 : P0_1 ch t
    · obtain ⟨i5, f5, fr5, sf0, sfn0, sf1, sfn1, sf2, sfn2, sf3, sfn3⟩ := sched0_C ch t q0 q1
      have F0 := hypsR0_C ch t q0 q1
      have k0_h1 := F0.1; have F1 := F0.2
      have k0_h2 := F1.1; have F2 := F1.2
      have k0_h3 := F2.1; have F3 := F2.2
      have k0_h4 := F3.1; have F4 := F3.2
      have k0_h5 := F4.1; have F5 := F4.2
      have k0_h6 := F5.1; have F6 := F5.2
      clear F0 F1 F2 F3 F4 F5 F6
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf3]
      iintro ⟨⟨HS0, HS1, ⟨%a2, %ha2, HS2⟩, HS3, HT0, HT1⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ k0_h1 k0_h2 k0_h3 k0_h4 k0_h5 k0_h6).2.2.2.2 _ a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · by_cases q2 : P0_2 ch t
      · obtain ⟨i5, f5, fr5, sf0, sfn0, sf1, sfn1, sf2, sfn2, sfn3⟩ := sched0_B ch t q0 q1 q2
        have F0 := hypsR0_B ch t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        have k0_h6 := F5.1; have F6 := F5.2
        clear F0 F1 F2 F3 F4 F5 F6
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        simp only [exists_held sf0, exists_held sf1, exists_held sf2]
        iintro ⟨⟨HS0, HS1, HS2, ⟨%a3, %ha3, HS3⟩, HT0, HT1⟩, Ho, ⟨%d0, H0⟩, ⟨%d1, H1⟩, ⟨%d2, H2⟩, ⟨%d3, H3⟩, ⟨%d4, H4⟩, ⟨%d5, H5⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ k0_h1 k0_h2 k0_h3 k0_h4 k0_h5 k0_h6).2.2.2.2 _ a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        isplitl [HS1]; · iexact HS1
        isplitl [HS2]; · iexact HS2
        isplitl [HS3]; · iexact HS3
        iintro ⟨H0, H1, H2, H3, H4, HT0, HT1, H5, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · obtain ⟨i5, f5, fr5, sf0, sfn0, sf1, sfn1, sf2, sfn2, sf3, sfn3⟩ := sched0_D ch t q0 q1 q2
        have F0 := hypsR0_D ch t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        have k0_h6 := F5.1; have F6 := F5.2
        clear F0 F1 F2 F3 F4 F5 F6
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ _ k0_h1 k0_h2 k0_h3 k0_h4 k0_h5 k0_h6).2.2.2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexists _; iexact H5
        isplitl [HS0]; · iexact HS0
        isplitl [HS1]; · iexact HS1
        isplitl [HS2]; · iexact HS2
        isplitl [HS3]; · iexact HS3
        iintro ⟨H0, H1, H2, H3, H4, HT0, HT1, ⟨%e5, H5⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        unfold owns; iexists _; isplitr; swap
        · iexact H5
        · ipureintro; exact View.read_writes_of_cover _ _ _ _ _ (cover0_D_5 c _ _ _ _ _ _ _ _ _ _ _ _ _ _ _ _ _ _ _ _ _ _ _ _ _ _ _ _ _ _)

theorem body_obligation (hp : Pinned ch m) (c : Dev nD) : BodyObligation (dats ch m ρ 0 c) (defs₀ (F := Bits)) Variants.none () Set.univ := fun t => by
  rw [bigSep_W0]
  exact sound_body ch m ρ hp c t

def u₀ : UR sig nD τ :=
  initOf (Pipeline.cells (pcs ch) ((launchL (F := Bits) ch).cellOf_inj fun _ => adm ch))
    (Pipeline.launchToks (pcs ch) ((launchL (F := Bits) ch).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -, -⟩
  isplitr; · iempintro
  isplitl [HS0]
  · iexists a0; iexact HS0
  isplitl [HS1]
  · iexists a1; iexact HS1
  isplitl [HS2]
  · iexists a2; iexact HS2
  iexists a3; iexact HS3

def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in

theorem run_main_quiescent (hp : Pinned ch m) : θ_run (defsL (F := Bits) ch) (onTc (τ := τ) (mainL (F := Bits) ch)) (s₀ m ρ) (fun r => QC ch m ρ r ∧ r.2.sem = fun _ => 0) :=
  Pipeline.θ_run_region_noSem_pf_quiescent (pcfgsL ch) (fun _ => adm ch) (dats ch m ρ) () ((launchL (F := Bits) ch).cellOf_inj fun _ => adm ch) (0 : Fin 1)
    (launchL (F := Bits) ch).win.to₀ (launchL (F := Bits) ch).pre EP defs₀ Variants.none m ρ (mainL ch)
    (hbody := fun c => (body_obligation ch m ρ hp c).loose) (hne := (launchL (F := Bits) ch).block_pos)
    (harr := (launchL (F := Bits) ch).arr_whole) (hstage := (launchL (F := Bits) ch).stage_whole) (howed := fun _ _ => rfl)
    (u₀ := u₀ ch) (hu₀ := .rfl)
    (V := fun c b => m ((c : Thread nD τ).loc b))
    (hmain := fun c Q => by
      delta mainL; simp only [Prog.bind_lift, Prog.pure_eq_ret]
      iintro ⟨Hk, Hb⟩; iapply Hk; iexact Hb)
    (hsplit := fun c => Pipeline.arrays_split (pcs ch) (dats ch m ρ) 0 (launchL (F := Bits) ch).win.arr_inj c (launchL (F := Bits) ch).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defsL (F := Bits) ch) (onTc (τ := τ) (mainL (F := Bits) ch)) (s₀ m ρ) (QC ch m ρ) :=
  (θ_run (defsL ch) _ _).mono (fun _ h => h.1) (run_main_quiescent ch m ρ hp)

theorem unchanged (hp : Pinned ch m) :
    θ_run (defsL (F := Bits) ch) (onTc (τ := τ) (mainL (F := Bits) ch)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defsL ch) _ _).mono (fun _ h c => ⟨((h c).2 0).trans (hp.1 c).symm, ((h c).2 1).trans (hp.2 c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _), ((h c).1 (4 : Fin 6)).trans ((dats ch m ρ 0 c).arrAt_in (4 : Fin 6) rfl _)⟩) (run_main ch m ρ hp)

theorem frame (hp : Pinned ch m) :
    θ_run (defsL (F := Bits) ch) (onTc (τ := τ) (mainL (F := Bits) ch)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run (defsL ch) _ _).mono (fun _ h => h.2) (run_main_quiescent ch m ρ hp))

end Cert.KernelFfn.Gen

end
-- ==== Proof.FfnIdealPins.lean ====
module

public import proofs.«01_k».proof.Defs
public import proofs.«01_k».proof.Proof.Gen.KernelFfnIdeal
public import proofs.«01_k».proof.Proof.Gen.KernelFfnIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The words of the tables under the precondition. -/

@[expose] public section

set_option maxRecDepth 16384

set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S40 .i32 := Memref.whole main_arg0
abbrev tbM0_1 : Memref sig .tc .smem S1 .i32 := Memref.whole main_arg1
abbrev scM0_0 : Memref sig .tc .vmem S832x2048 .bf16 := Memref.whole cc0_scratch0
abbrev scM0_1 : Memref sig .tc .vmem S832x2048 .f32 := Memref.whole cc0_scratch1
abbrev scM0_2 : Memref sig .tc .vmem S832x512 .bf16 := Memref.whole cc0_scratch2
abbrev scM0_3 : Memref sig .tc .vmem S832x512 .bf16 := Memref.whole cc0_scratch3

variable (ch : Fin 2)

def pinT_0 (ch : Fin 2) : S40.Idx → BitVec 32 := fun x => (([0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32, 0#32] : List (BitVec 32)).getD ((x 0).val) 0#32)

def pinT_1 (ch : Fin 2) : S1.Idx → BitVec 32 := fun x => (40#32 : BitVec 32)

set_option backward.proofsInPublic true in

def pfN : pre0.Contents (Elt Ideal) := fun | ⟨0, _⟩ => pinT_0 ch | ⟨1, _⟩ => pinT_1 ch | ⟨_ + 2, h⟩ => absurd h (by simp)

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

end Cert.KernelFfnIdeal.Gen

end
-- ==== Proof.FfnIdealRuns.lean ====
module

public import proofs.«01_k».proof.Proof.Gen.KernelFfnIdeal.Skeleton
public import proofs.«01_k».proof.Proof.FfnIdealPins

/-! The body's run on each of its four paths. -/

@[expose] public section

set_option maxRecDepth 16384

set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_5 : View sig .tc .vmem S832x2048 .f32 := (Memref.whole cc0_stg5_0 : Memref sig .tc .vmem S832x2048 .f32).view

set_option backward.proofsInPublic true in
set_option maxHeartbeats 8000000 in

noncomputable def kernelRun0_A (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Ideal .i32)) (T1 : (S1.Idx → Elt Ideal .i32))
     (x0 : (S832x2048.Idx → Elt Ideal .f32)) (x1 : (S1x2048.Idx → Elt Ideal .f32)) (x2 : (S1x1x2048x512.Idx → Elt Ideal .bf16)) (x3 : (S1x1x2048x512.Idx → Elt Ideal .bf16)) (x4 : (S1x1x512x2048.Idx → Elt Ideal .bf16)) (xa3 : Buf (Elt Ideal) ((c : Thread nD τ).loc cc0_scratch3)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : (Scalar.cmpi .ne (Scalar.extui (Scalar.cmpi .eq (BitVec.ofNat 32 (i 1).val) 0#32)) 0#32) = 1#1) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : ¬(k0_cond5 i = 1#1)) (k0_h6 : ¬(k0_cond6 i (View.readAt (Elt Ideal) (tbM0_1).view (Rect.unit (s := S1) ![0] S1.size inb_S1_S1_0).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S832x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S832x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_swiglu_eq_skeleton]; unfold cc0_swiglu_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = Scalar.cmpi = _; exact k0_h2) | (guard_target = ¬(Scalar.cmpi = _); exact k0_h3) | (guard_target = ¬(Scalar.cmpi = _); exact k0_h4) | (guard_target = ¬(k0_cond5 _ = _); exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in

noncomputable def kernelRun0_B (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Ideal .i32)) (T1 : (S1.Idx → Elt Ideal .i32))
     (x0 : (S832x2048.Idx → Elt Ideal .f32)) (x1 : (S1x2048.Idx → Elt Ideal .f32)) (x2 : (S1x1x2048x512.Idx → Elt Ideal .bf16)) (x3 : (S1x1x2048x512.Idx → Elt Ideal .bf16)) (x4 : (S1x1x512x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : (Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1) (k0_h5 : ¬(k0_cond5 i = 1#1)) (k0_h6 : ¬(k0_cond6 i (View.readAt (Elt Ideal) (tbM0_1).view (Rect.unit (s := S1) ![0] S1.size inb_S1_S1_0).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S832x2048.Idx → Elt Ideal .f32)) (xa3 : Buf (Elt Ideal) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S832x2048.Idx → Elt Ideal .f32)) (xa3 : Buf (Elt Ideal) ((c : Thread nD τ).loc cc0_scratch3)) K => by
    unfold owns
    rw [cc0_swiglu_eq_skeleton]; unfold cc0_swiglu_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = ¬(Scalar.cmpi = _); exact k0_h3) | (guard_target = Scalar.cmpi = _; exact k0_h4) | (guard_target = ¬(k0_cond5 _ = _); exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in

noncomputable def kernelRun0_C (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Ideal .i32)) (T1 : (S1.Idx → Elt Ideal .i32))
     (x0 : (S832x2048.Idx → Elt Ideal .f32)) (x1 : (S1x2048.Idx → Elt Ideal .f32)) (x2 : (S1x1x2048x512.Idx → Elt Ideal .bf16)) (x3 : (S1x1x2048x512.Idx → Elt Ideal .bf16)) (x4 : (S1x1x512x2048.Idx → Elt Ideal .bf16)) (xa0 : Buf (Elt Ideal) ((c : Thread nD τ).loc cc0_scratch0)) (xa1 : Buf (Elt Ideal) ((c : Thread nD τ).loc cc0_scratch1)) (xa3 : Buf (Elt Ideal) ((c : Thread nD τ).loc cc0_scratch3)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : (Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : ¬(k0_cond5 i = 1#1)) (k0_h6 : ¬(k0_cond6 i (View.readAt (Elt Ideal) (tbM0_1).view (Rect.unit (s := S1) ![0] S1.size inb_S1_S1_0).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S832x2048.Idx → Elt Ideal .f32)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S832x2048.Idx → Elt Ideal .f32)) (xa2 : Buf (Elt Ideal) ((c : Thread nD τ).loc cc0_scratch2)) K => by
    unfold owns
    rw [cc0_swiglu_eq_skeleton]; unfold cc0_swiglu_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = Scalar.cmpi = _; exact k0_h3) | (guard_target = ¬(Scalar.cmpi = _); exact k0_h4) | (guard_target = ¬(k0_cond5 _ = _); exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in

noncomputable def kernelRun0_D (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Ideal .i32)) (T1 : (S1.Idx → Elt Ideal .i32))
     (x0 : (S832x2048.Idx → Elt Ideal .f32)) (x1 : (S1x2048.Idx → Elt Ideal .f32)) (x2 : (S1x1x2048x512.Idx → Elt Ideal .bf16)) (x3 : (S1x1x2048x512.Idx → Elt Ideal .bf16)) (x4 : (S1x1x512x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : k0_cond5 i = 1#1) (k0_h6 : ¬(k0_cond6 i (View.readAt (Elt Ideal) (tbM0_1).view (Rect.unit (s := S1) ![0] S1.size inb_S1_S1_0).toLoadRect T1 (Shape.Idx.first (numel1_S1.symm ▸ Nat.one_pos))) = 1#1)) :
    Σ' (out0 : List (View.Piece (Elt Ideal) S832x2048 .f32)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_swiglu i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun K => by
    unfold owns
    rw [cc0_swiglu_eq_skeleton]; unfold cc0_swiglu_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact k0_h2) | (guard_target = ¬(Scalar.cmpi = _); exact k0_h3) | (guard_target = ¬(Scalar.cmpi = _); exact k0_h4) | (guard_target = k0_cond5 _ = _; exact k0_h5) | (guard_target = ¬(k0_cond6 _ _ = _); exact k0_h6))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

theorem cover0_D_5 (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Ideal .i32)) (T1 : (S1.Idx → Elt Ideal .i32))
     (x0 : (S832x2048.Idx → Elt Ideal .f32)) (x1 : (S1x2048.Idx → Elt Ideal .f32)) (x2 : (S1x1x2048x512.Idx → Elt Ideal .bf16)) (x3 : (S1x1x2048x512.Idx → Elt Ideal .bf16)) (x4 : (S1x1x512x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : k0_cond5 i = 1#1) (k0_h6 : ¬(k0_cond6 i (View.readAt (Elt Ideal) (tbM0_1).view (Rect.unit (s := S1) ![0] S1.size inb_S1_S1_0).toLoadRect T1 (Shape.Idx.first (numel1_S1.symm ▸ Nat.one_pos))) = 1#1)) (y : S832x2048.Idx) :
    ∃ pc ∈ (kernelRun0_D c i arg4 harg4 arg5 harg5 arg6 harg6 arg7 harg7 arg8 harg8 arg9 harg9 T0 T1 x0 x1 x2 x3 x4 xa0 xa1 xa2 xa3 k0_h1 k0_h2 k0_h3 k0_h4 k0_h5 k0_h6).1, y ∈ pc.1.set :=
  View.cover_of_tiledL (kernelRun0_D c i arg4 harg4 arg5 harg5 arg6 harg6 arg7 harg7 arg8 harg8 arg9 harg9 T0 T1 x0 x1 x2 x3 x4 xa0 xa1 xa2 xa3 k0_h1 k0_h2 k0_h3 k0_h4 k0_h5 k0_h6).1 S832x2048.size (by sl_kernel_rfl) y

def out0_D_5 (c : Dev nD) (i : grid0.Coords) (arg4 : Memref sig .tc .vmem S832x2048 .f32) (harg4 : arg4.IsWhole) (arg5 : Memref sig .tc .vmem S1x2048 .f32) (harg5 : arg5.IsWhole) (arg6 : Memref sig .tc .vmem S1x1x2048x512 .bf16) (harg6 : arg6.IsWhole) (arg7 : Memref sig .tc .vmem S1x1x2048x512 .bf16) (harg7 : arg7.IsWhole) (arg8 : Memref sig .tc .vmem S1x1x512x2048 .bf16) (harg8 : arg8.IsWhole) (arg9 : Memref sig .tc .vmem S832x2048 .f32) (harg9 : arg9.IsWhole) (T0 : (S40.Idx → Elt Ideal .i32)) (T1 : (S1.Idx → Elt Ideal .i32))
     (x0 : (S832x2048.Idx → Elt Ideal .f32)) (x1 : (S1x2048.Idx → Elt Ideal .f32)) (x2 : (S1x1x2048x512.Idx → Elt Ideal .bf16)) (x3 : (S1x1x2048x512.Idx → Elt Ideal .bf16)) (x4 : (S1x1x512x2048.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬((Scalar.cmpi .ne (Scalar.extui (Scalar.cmpi .eq (BitVec.ofNat 32 (i 1).val) 0#32)) 0#32) = 1#1)) (k0_h3 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32))) 0#32) = 1#1)) (k0_h4 : ¬((Scalar.cmpi .ne (Scalar.extui (Scalar.andi (Scalar.andi (Scalar.cmpi .sgt (BitVec.ofNat 32 (i 1).val) 0#32) (Scalar.cmpi .slt (BitVec.ofNat 32 (i 1).val) 11#32)) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32))) 0#32) = 1#1)) (k0_h5 : k0_cond5 i = 1#1) (k0_h6 : ¬(k0_cond6 i (View.readAt (Elt Ideal) (tbM0_1).view (Rect.unit (s := S1) ![0] S1.size inb_S1_S1_0).toLoadRect T1 (Shape.Idx.first (numel1_S1.symm ▸ Nat.one_pos))) = 1#1)) : (S832x2048.Idx → Elt Ideal .f32) :=
  VO0_5.read (Elt Ideal) (VO0_5.writes (Elt Ideal) VO0_5.junk (kernelRun0_D c i arg4 harg4 arg5 harg5 arg6 harg6 arg7 harg7 arg8 harg8 arg9 harg9 T0 T1 x0 x1 x2 x3 x4 xa0 xa1 xa2 xa3 k0_h1 k0_h2 k0_h3 k0_h4 k0_h5 k0_h6).1)

end Cert.KernelFfnIdeal.Gen

end
-- ==== Proof.FfnIdealLayer.lean ====
module

public import proofs.«01_k».proof.Proof.FfnIdealPins
public import proofs.«01_k».proof.Proof.Gen.KernelFfn2Ideal

/-!
The feed-forward's pipeline with either layer's weights: the two programs differ in the first index of the weights' blocks,
here a parameter.
-/

@[expose] public section

set_option maxRecDepth 16384
set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open Idealize.SL.BI.BIBase Idealize.SL.Sem

variable {F : FTy → Type} [FloatOps F] (ch : Fin 2)

/-- A block index of the first layer's weights, with a layer's number in front. -/
abbrev lay (f : Fin 4 → ℕ) : Fin 4 → ℕ := ![ch.val, f 1, f 2, f 3]

/-- The index maps of the windows. -/
abbrev ixL (pf : pre0.Contents (Elt F)) : (w : Fin 6) → grid0.Coords → Fin (spec0 w).shape.rank → Nat := fun
  | 0 => cc0_transform_0 inb_S1_S1_0 numel1_S1 pf
  | 1 => cc0_transform_1
  | 2 => fun i => lay ch (cc0_transform_2 k0_off1_inb numel1_S1 inb_S1_S1_0 pf i)
  | 3 => fun i => lay ch (cc0_transform_3 k0_off1_inb numel1_S1 inb_S1_S1_0 pf i)
  | 4 => fun i => lay ch (cc0_transform_4 k0_off1_inb numel1_S1 inb_S1_S1_0 pf i)
  | 5 => cc0_transform_5
  | ⟨_ + 6, h⟩ => absurd h (Nat.not_lt.2 (Nat.le_add_left _ _))

theorem hreadsL (pf : pre0.Contents (Elt F)) : ∀ w (i i' : grid0.Coords), (∀ a, (spec0 w).reads a = true → i a = i' a) → ixL ch pf w i = ixL ch pf w i' := fun
  | 0 => hreads0_0 pf
  | 1 => hreads0_1
  | 2 => fun i i' h => congrArg (lay ch) (hreads0_2 pf i i' h)
  | 3 => fun i i' h => congrArg (lay ch) (hreads0_3 pf i i' h)
  | 4 => fun i i' h => congrArg (lay ch) (hreads0_4 pf i i' h)
  | 5 => hreads0_5
  | ⟨_ + 6, h⟩ => absurd h (Nat.not_lt.2 (Nat.le_add_left _ _))

/-- The condition on the tables: every block that they name lies in its array. -/
def okL (pf : pre0.Contents (Elt F)) : Prop :=
  (∀ i : grid0.Coords, ∃ h : (∀ a, (cc0_transform_0 inb_S1_S1_0 numel1_S1 pf i a + 1) * S832x2048.size a ≤ S33280x2048.size a), EltTy.bits .f32 = 32 ∨ (Rect.block (s := S33280x2048) S832x2048.size (cc0_transform_0 inb_S1_S1_0 numel1_S1 pf i) h).WholeWords (EltTy.packing .f32)) ∧
  (∀ i : grid0.Coords, ∃ h : (∀ a, (lay ch (cc0_transform_2 k0_off1_inb numel1_S1 inb_S1_S1_0 pf i) a + 1) * S1x1x2048x512.size a ≤ S2x1x2048x5632.size a), EltTy.bits .bf16 = 32 ∨ (Rect.block (s := S2x1x2048x5632) S1x1x2048x512.size (lay ch (cc0_transform_2 k0_off1_inb numel1_S1 inb_S1_S1_0 pf i)) h).WholeWords (EltTy.packing .bf16)) ∧
  (∀ i : grid0.Coords, ∃ h : (∀ a, (lay ch (cc0_transform_3 k0_off1_inb numel1_S1 inb_S1_S1_0 pf i) a + 1) * S1x1x2048x512.size a ≤ S2x1x2048x5632.size a), EltTy.bits .bf16 = 32 ∨ (Rect.block (s := S2x1x2048x5632) S1x1x2048x512.size (lay ch (cc0_transform_3 k0_off1_inb numel1_S1 inb_S1_S1_0 pf i)) h).WholeWords (EltTy.packing .bf16)) ∧
  (∀ i : grid0.Coords, ∃ h : (∀ a, (lay ch (cc0_transform_4 k0_off1_inb numel1_S1 inb_S1_S1_0 pf i) a + 1) * S1x1x512x2048.size a ≤ S2x1x5632x2048.size a), EltTy.bits .bf16 = 32 ∨ (Rect.block (s := S2x1x5632x2048) S1x1x512x2048.size (lay ch (cc0_transform_4 k0_off1_inb numel1_S1 inb_S1_S1_0 pf i)) h).WholeWords (EltTy.packing .bf16))

instance (pf : pre0.Contents (Elt F)) : Decidable (okL ch pf) := decidable_of_iff' _ (Iff.of_eq (okL.eq_1 ch pf))

theorem hinbL (pf : pre0.Contents (Elt F)) (hok : okL ch pf) : ∀ w (i : grid0.Coords) a, (ixL ch pf w i a + 1) * (spec0 w).size a ≤ (spec0 w).shape.size a := fun
  | 0 => fun i a => (hok.1 i).elim fun h _ => h a
  | 1 => hinb0_1
  | 2 => fun i a => (hok.2.1 i).elim fun h _ => h a
  | 3 => fun i a => (hok.2.2.1 i).elim fun h _ => h a
  | 4 => fun i a => (hok.2.2.2 i).elim fun h _ => h a
  | 5 => hinb0_5
  | ⟨_ + 6, h⟩ => absurd h (Nat.not_lt.2 (Nat.le_add_left _ _))

theorem hwxL (pf : pre0.Contents (Elt F)) (hok : okL ch pf) : ∀ w (i : grid0.Coords), (spec0 w).elt.bits = 32 ∨ (Rect.block (spec0 w).size (ixL ch pf w i) (hinbL ch pf hok w i)).WholeWords (spec0 w).elt.packing := fun
  | 0 => fun i => (hok.1 i).elim fun _ h => h
  | 1 => hwx0_1
  | 2 => fun i => (hok.2.1 i).elim fun _ h => h
  | 3 => fun i => (hok.2.2.1 i).elim fun _ h => h
  | 4 => fun i => (hok.2.2.2 i).elim fun _ h => h
  | 5 => hwx0_5
  | ⟨_ + 6, h⟩ => absurd h (Nat.not_lt.2 (Nat.le_add_left _ _))

/-- The call with a layer's weights. -/
abbrev pcfgL : Pipeline.PCfg sig Λ₀ (Elt F) :=
  Pipeline.PCfg.ofSpecs pre0 grid0 hrank0 (fun _ => grid0.bound) (fun _ _ _ => rfl)
    6 spec0 hcount0 harr0 (ixL ch) (hreadsL ch) (okL ch) (hinbL ch) (hwxL ch) 0 (fun _ _ t s => (t, s)) (fun pf => idle0 pf)

abbrev pcfgsL : Fin 1 → Pipeline.PCfg sig Λ₀ (Elt F) := fun _ => pcfgL ch

def defsL : Defs nD τ sig (Elt F) (Pipeline.Sig Λ₀ (Fin 1) fun p => (pcfgsL (F := F) ch p).Adm) := Pipeline.defs (pcfgsL ch) defs₀

def mainL : Dev nD → Prog (TpuEff nD τ sig (Elt F) (Pipeline.Sig Λ₀ (Fin 1) fun p => (pcfgsL (F := F) ch p).Adm) .tc) PUnit := fun _ => do
  Prog.lift (.customCall (Pipeline.entry 0) ())
  pure ⟨⟩

/-- What a launch of it needs of its buffers. -/
theorem launchL : Pipeline.PLaunchFacts (nD := nD) (τ := τ) (pcfgsL (F := F) ch) 0 :=
  ⟨fun a => Pipeline.cellOf_injective_of_table (Pipeline.pin (pcfgsL (F := F) ch) a) semTab
      (fun | 0 => rfl | ⟨_ + 1, h⟩ => absurd h (Nat.not_lt.2 (Nat.le_add_left _ _))) semsDistinct semsDisjoint,
    winFacts0, preFacts0, block_pos0, arr_whole0, stage_whole0⟩

section
variable (m : (ℓ : Loc nD τ sig) → Buf (Elt F) ℓ) (ρ : Dev nD → PrngReg)
/-- The first layer's program is the family's at 0. -/
theorem bridge_first : θ_run (defs (F := F)) (onTc (τ := τ) (main (F := F))) ⟨m, fun _ => 0, ρ⟩ = θ_run (defsL (F := F) 0) (onTc (τ := τ) (mainL (F := F) 0)) ⟨m, fun _ => 0, ρ⟩ := by
  chain_rfl
/-- The second layer's program is the family's at 1. -/
theorem bridge_second : θ_run (Cert.KernelFfn2Ideal.defs (F := F)) (onTc (τ := τ) (Cert.KernelFfn2Ideal.main (F := F))) ⟨m, fun _ => 0, ρ⟩ = θ_run (defsL (F := F) 1) (onTc (τ := τ) (mainL (F := F) 1)) ⟨m, fun _ => 0, ρ⟩ := by
  chain_rfl
end

end Cert.KernelFfnIdeal.Gen

end
-- ==== Proof.FfnIdealOk0.lean ====
module

public import proofs.«01_k».proof.Proof.FfnIdealLayer

/-! The printed side conditions at the pinned tables. -/

@[expose] public section

set_option maxRecDepth 16384

set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ (ch : Fin 2) (i : grid0.Coords), ∀ a, (cc0_transform_0 inb_S1_S1_0 numel1_S1 (pfN ch) i a + 1) * S832x2048.size a ≤ S33280x2048.size a := by decide +kernel
theorem ok_pfN_0_0 (ch : Fin 2) : (∀ i : grid0.Coords, ∃ h : (∀ a, (cc0_transform_0 inb_S1_S1_0 numel1_S1 (pfN ch) i a + 1) * S832x2048.size a ≤ S33280x2048.size a), EltTy.bits .f32 = 32 ∨ (Rect.block (s := S33280x2048) S832x2048.size (cc0_transform_0 inb_S1_S1_0 numel1_S1 (pfN ch) i) h).WholeWords (EltTy.packing .f32)) := fun i => ⟨ok_pfN_0_0_inb ch i, .inl rfl⟩
theorem ok_pfN_0_1_inb : ∀ (ch : Fin 2) (i : grid0.Coords), ∀ a, (lay ch (cc0_transform_2 k0_off1_inb numel1_S1 inb_S1_S1_0 (pfN ch) i) a + 1) * S1x1x2048x512.size a ≤ S2x1x2048x5632.size a := by decide +kernel
theorem ok_pfN_0_1 (ch : Fin 2) : (∀ i : grid0.Coords, ∃ h : (∀ a, (lay ch (cc0_transform_2 k0_off1_inb numel1_S1 inb_S1_S1_0 (pfN ch) i) a + 1) * S1x1x2048x512.size a ≤ S2x1x2048x5632.size a), EltTy.bits .bf16 = 32 ∨ (Rect.block (s := S2x1x2048x5632) S1x1x2048x512.size (lay ch (cc0_transform_2 k0_off1_inb numel1_S1 inb_S1_S1_0 (pfN ch) i)) h).WholeWords (EltTy.packing .bf16)) := fun i => ⟨ok_pfN_0_1_inb ch i, .inr (Affine.block_words_dvd (s := S2x1x2048x5632) (p := EltTy.packing .bf16) (by decide) (by decide))⟩
theorem ok_pfN_0_2_inb : ∀ (ch : Fin 2) (i : grid0.Coords), ∀ a, (lay ch (cc0_transform_3 k0_off1_inb numel1_S1 inb_S1_S1_0 (pfN ch) i) a + 1) * S1x1x2048x512.size a ≤ S2x1x2048x5632.size a := by decide +kernel
theorem ok_pfN_0_2 (ch : Fin 2) : (∀ i : grid0.Coords, ∃ h : (∀ a, (lay ch (cc0_transform_3 k0_off1_inb numel1_S1 inb_S1_S1_0 (pfN ch) i) a + 1) * S1x1x2048x512.size a ≤ S2x1x2048x5632.size a), EltTy.bits .bf16 = 32 ∨ (Rect.block (s := S2x1x2048x5632) S1x1x2048x512.size (lay ch (cc0_transform_3 k0_off1_inb numel1_S1 inb_S1_S1_0 (pfN ch) i)) h).WholeWords (EltTy.packing .bf16)) := fun i => ⟨ok_pfN_0_2_inb ch i, .inr (Affine.block_words_dvd (s := S2x1x2048x5632) (p := EltTy.packing .bf16) (by decide) (by decide))⟩
theorem ok_pfN_0_3_inb : ∀ (ch : Fin 2) (i : grid0.Coords), ∀ a, (lay ch (cc0_transform_4 k0_off1_inb numel1_S1 inb_S1_S1_0 (pfN ch) i) a + 1) * S1x1x512x2048.size a ≤ S2x1x5632x2048.size a := by decide +kernel
theorem ok_pfN_0_3 (ch : Fin 2) : (∀ i : grid0.Coords, ∃ h : (∀ a, (lay ch (cc0_transform_4 k0_off1_inb numel1_S1 inb_S1_S1_0 (pfN ch) i) a + 1) * S1x1x512x2048.size a ≤ S2x1x5632x2048.size a), EltTy.bits .bf16 = 32 ∨ (Rect.block (s := S2x1x5632x2048) S1x1x512x2048.size (lay ch (cc0_transform_4 k0_off1_inb numel1_S1 inb_S1_S1_0 (pfN ch) i)) h).WholeWords (EltTy.packing .bf16)) := fun i => ⟨ok_pfN_0_3_inb ch i, .inr (Affine.block_words_dvd (s := S2x1x5632x2048) (p := EltTy.packing .bf16) (by decide) (by decide))⟩
theorem ok_pfN (ch : Fin 2) : okL (F := Ideal) ch (pfN ch) := ⟨ok_pfN_0_0 ch, ok_pfN_0_1 ch, ok_pfN_0_2 ch, ok_pfN_0_3 ch⟩

end Cert.KernelFfnIdeal.Gen

end
-- ==== Proof.FfnIdealCfg.lean ====
module

public import proofs.«01_k».proof.Proof.FfnIdealOk0

/-! The pipeline at the pinned tables. -/

@[expose] public section

set_option maxRecDepth 16384

set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 2)

def adm : (pcfgL (F := Ideal) ch).Adm := ⟨pfN ch, ok_pfN ch⟩
abbrev cfgA : Pipeline.Cfg sig Λ₀ := (pcfgL (F := Ideal) ch).at (adm ch)
abbrev pcs : Fin 1 → Pipeline.Cfg sig Λ₀ := Pipeline.pin (pcfgsL (F := Ideal) ch) fun _ => adm ch

variable (m : (ℓ : Loc nD τ sig) → Buf (Elt Ideal) ℓ) (ρ : Dev nD → PrngReg)

abbrev crd (t : Fin (cfgA ch).N) : (cfgA ch).grid.Coords := (cfgA ch).grid.coords t

abbrev ms0_0 (t : Fin (cfgA ch).N) : Memref sig .tc .vmem S832x2048 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x2048 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1x2048x512 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x1x2048x512 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x1x512x2048 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S832x2048 .f32 := spec0_5.stage ((cfgA ch).slots t (5 : Fin 6))
abbrev hs0_5 (t : Fin (cfgA ch).N) : (ms0_5 ch t).IsWhole := hstage0_5 (((cfgA ch).slots t (5 : Fin 6)).cast nbuf0_5)

def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

abbrev P0_0 (t : Fin (cfgA ch).N) : Prop := (Scalar.cmpi .ne (Scalar.extui (Scalar.cmpi .eq (BitVec.ofNat 32 ((crd ch t) 1).val) 0#32)) 0#32) = 1#1
abbrev P0_1 (t : Fin (cfgA ch).N) : Prop := (Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1
abbrev P0_2 (t : Fin (cfgA ch).N) : Prop := (Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1

def sfresh0_0 : ℕ → Bool
  | 0 => true
  | n + 1 => if h : n < (cfgA ch).N then (if P0_0 ch ⟨n, h⟩ then false else (if P0_1 ch ⟨n, h⟩ then sfresh0_0 n else (if P0_2 ch ⟨n, h⟩ then sfresh0_0 n else sfresh0_0 n))) else true

def sfirst0_0 (ch : Fin 2) : ℕ := 0
def sfrTab0_0 : ℕ → Bool := fun n => decide (n ≤ sfirst0_0 ch)

def sfresh0_1 : ℕ → Bool
  | 0 => true
  | n + 1 => if h : n < (cfgA ch).N then (if P0_0 ch ⟨n, h⟩ then false else (if P0_1 ch ⟨n, h⟩ then sfresh0_1 n else (if P0_2 ch ⟨n, h⟩ then sfresh0_1 n else sfresh0_1 n))) else true

def sfirst0_1 (ch : Fin 2) : ℕ := 0
def sfrTab0_1 : ℕ → Bool := fun n => decide (n ≤ sfirst0_1 ch)

def sfresh0_2 : ℕ → Bool
  | 0 => true
  | n + 1 => if h : n < (cfgA ch).N then (if P0_0 ch ⟨n, h⟩ then false else (if P0_1 ch ⟨n, h⟩ then false else (if P0_2 ch ⟨n, h⟩ then sfresh0_2 n else sfresh0_2 n))) else true

def sfirst0_2 (ch : Fin 2) : ℕ := 0
def sfrTab0_2 : ℕ → Bool := fun n => decide (n ≤ sfirst0_2 ch)

def sfresh0_3 : ℕ → Bool
  | 0 => true
  | n + 1 => if h : n < (cfgA ch).N then (if P0_0 ch ⟨n, h⟩ then sfresh0_3 n else (if P0_1 ch ⟨n, h⟩ then sfresh0_3 n else (if P0_2 ch ⟨n, h⟩ then false else true))) else true

def sfirst0_3 (ch : Fin 2) : ℕ := 1
def sfrTab0_3 : ℕ → Bool := fun n => decide (n % 12 ≤ sfirst0_3 ch)

set_option backward.proofsInPublic true in

def frMask0_5 (ch : Fin 2) : ℕ := 0xffffffffffffffffffffffffffffffffffffffffffffffffffffffffffffffffffffffffffffffffffffffffffffffffffffffffffffffffffffffff

def frTab0_5 : ℕ → Bool
  | 0 => true
  | n + 1 => (frMask0_5 ch).testBit n

end Cert.KernelFfnIdeal.Gen

end
-- ==== Proof.FfnIdealFacts.lean ====
module

public import proofs.«01_k».proof.Proof.FfnIdealCfg

/-! The decided facts of the grid. -/

@[expose] public section

set_option maxRecDepth 16384

set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 2)
variable (m : (ℓ : Loc nD τ sig) → Buf (Elt Ideal) ℓ) (ρ : Dev nD → PrngReg)

abbrev FactsAt (ch : Fin 2) (t : Fin (cfgA ch).N) : Prop :=

  (sfrTab0_0 ch (t.val + 1) = (if P0_0 ch t then false else (if P0_1 ch t then sfrTab0_0 ch t.val else (if P0_2 ch t then sfrTab0_0 ch t.val else sfrTab0_0 ch t.val))))
  ∧ (sfrTab0_1 ch (t.val + 1) = (if P0_0 ch t then false else (if P0_1 ch t then sfrTab0_1 ch t.val else (if P0_2 ch t then sfrTab0_1 ch t.val else sfrTab0_1 ch t.val))))
  ∧ (sfrTab0_2 ch (t.val + 1) = (if P0_0 ch t then false else (if P0_1 ch t then false else (if P0_2 ch t then sfrTab0_2 ch t.val else sfrTab0_2 ch t.val))))
  ∧ (sfrTab0_3 ch (t.val + 1) = (if P0_0 ch t then sfrTab0_3 ch t.val else (if P0_1 ch t then sfrTab0_3 ch t.val else (if P0_2 ch t then false else true))))
  ∧ (frTab0_5 ch (t.val + 1) = (((cfgA ch).win (5 : Fin 6)).flush t || ((cfgA ch).idle (5 : Fin 6) ((cfgA ch).grid.coords t) && frTab0_5 ch t.val)))
  ∧ (P0_0 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))))
  ∧ (P0_0 ch t → (cfgA ch).idle (5 : Fin 6) ((cfgA ch).grid.coords t) = true ∧ ((cfgA ch).win (5 : Fin 6)).flush t = false ∧ frTab0_5 ch t.val = true ∧ sfrTab0_0 ch (t.val + 1) = false ∧ sfrTab0_1 ch (t.val + 1) = false ∧ sfrTab0_2 ch (t.val + 1) = false ∧ sfrTab0_3 ch t.val = true ∧ sfrTab0_3 ch (t.val + 1) = true)
  ∧ (¬P0_0 ch t → ¬P0_1 ch t → P0_2 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))))
  ∧ (¬P0_0 ch t → ¬P0_1 ch t → P0_2 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch (t.val + 1) = false)
  ∧ (¬P0_0 ch t → P0_1 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))))
  ∧ (¬P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → ¬P0_2 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((k0_cond5 (crd ch t) = 1#1) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))))
  ∧ (¬P0_0 ch t → ¬P0_1 ch t → ¬P0_2 ch t → (cfgA ch).idle (5 : Fin 6) ((cfgA ch).grid.coords t) = false ∧ ((cfgA ch).win (5 : Fin 6)).flush t = true ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = true)

set_option synthInstance.maxSize 65536 in
instance FactsAt.dec (ch : Fin 2) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))

end Cert.KernelFfnIdeal.Gen

end
-- ==== Proof.FfnIdealFacts0.lean ====
module

public import proofs.«01_k».proof.Proof.FfnIdealFacts

/-! The decided facts of the grid, put together. -/

@[expose] public section

set_option maxRecDepth 16384

set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ (ch : Fin 2) (t : Fin (cfgA ch).N), 0 ≤ t.val → t.val < 60 → FactsAt ch t := by decide +kernel
theorem allFacts_0_1 : ∀ (ch : Fin 2) (t : Fin (cfgA ch).N), 60 ≤ t.val → t.val < 120 → FactsAt ch t := by decide +kernel
theorem allFacts_0_2 : ∀ (ch : Fin 2) (t : Fin (cfgA ch).N), 120 ≤ t.val → t.val < 180 → FactsAt ch t := by decide +kernel
theorem allFacts_0_3 : ∀ (ch : Fin 2) (t : Fin (cfgA ch).N), 180 ≤ t.val → t.val < 240 → FactsAt ch t := by decide +kernel
theorem allFacts_0_4 : ∀ (ch : Fin 2) (t : Fin (cfgA ch).N), 240 ≤ t.val → t.val < 300 → FactsAt ch t := by decide +kernel
theorem allFacts_0_5 : ∀ (ch : Fin 2) (t : Fin (cfgA ch).N), 300 ≤ t.val → t.val < 360 → FactsAt ch t := by decide +kernel
theorem allFacts_0_6 : ∀ (ch : Fin 2) (t : Fin (cfgA ch).N), 360 ≤ t.val → t.val < 420 → FactsAt ch t := by decide +kernel
theorem allFacts_0_7 : ∀ (ch : Fin 2) (t : Fin (cfgA ch).N), 420 ≤ t.val → t.val < 480 → FactsAt ch t := by decide +kernel
theorem allFacts : ∀ (ch : Fin 2) (t : Fin (cfgA ch).N), FactsAt ch t := fun ch t => by
  have h0 : 0 ≤ t.val := Nat.zero_le _
  rcases Nat.lt_or_ge t.val 60 with h1 | h1; · exact allFacts_0_0 ch t h0 h1
  rcases Nat.lt_or_ge t.val 120 with h2 | h2; · exact allFacts_0_1 ch t h1 h2
  rcases Nat.lt_or_ge t.val 180 with h3 | h3; · exact allFacts_0_2 ch t h2 h3
  rcases Nat.lt_or_ge t.val 240 with h4 | h4; · exact allFacts_0_3 ch t h3 h4
  rcases Nat.lt_or_ge t.val 300 with h5 | h5; · exact allFacts_0_4 ch t h4 h5
  rcases Nat.lt_or_ge t.val 360 with h6 | h6; · exact allFacts_0_5 ch t h5 h6
  rcases Nat.lt_or_ge t.val 420 with h7 | h7; · exact allFacts_0_6 ch t h6 h7
  exact allFacts_0_7 ch t h7 t.isLt

end Cert.KernelFfnIdeal.Gen

end
-- ==== Proof.FfnIdealRun.lean ====
module

public import proofs.«01_k».proof.Proof.FfnIdealRuns
public import proofs.«01_k».proof.Proof.FfnIdealFacts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The launch: contents of the scratches and the result point by point, and the frame. -/

@[expose] public section

set_option maxRecDepth 16384

set_option Elab.async false

noncomputable section

namespace Cert.KernelFfnIdeal.Gen

open Cert.KernelFfnIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (ch : Fin 2)
variable (m : (ℓ : Loc nD τ sig) → Buf (Elt Ideal) ℓ) (ρ : Dev nD → PrngReg)

theorem sfrTab0_0_step : ∀ (ch : Fin 2) (t : Fin (cfgA ch).N), sfrTab0_0 ch (t.val + 1) = (if P0_0 ch t then false else (if P0_1 ch t then sfrTab0_0 ch t.val else (if P0_2 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 2) (t : Fin (cfgA ch).N), sfrTab0_1 ch (t.val + 1) = (if P0_0 ch t then false else (if P0_1 ch t then sfrTab0_1 ch t.val else (if P0_2 ch t then sfrTab0_1 ch t.val else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 2) (t : Fin (cfgA ch).N), sfrTab0_2 ch (t.val + 1) = (if P0_0 ch t then false else (if P0_1 ch t then false else (if P0_2 ch t then sfrTab0_2 ch t.val else sfrTab0_2 ch t.val))) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 2) (t : Fin (cfgA ch).N), sfrTab0_3 ch (t.val + 1) = (if P0_0 ch t then sfrTab0_3 ch t.val else (if P0_1 ch t then sfrTab0_3 ch t.val else (if P0_2 ch t then false else true))) := fun ch t => (allFacts ch t).2.2.2.1
theorem sfresh0_3_eq : ∀ n, n ≤ (cfgA ch).N → sfresh0_3 ch n = sfrTab0_3 ch n
  | 0, _ => by simp only [sfresh0_3, sfrTab0_3, Nat.zero_mod, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem frTab0_5_step : ∀ (ch : Fin 2) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).2.2.2.2.1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

theorem hyps0_A : ∀ (ch : Fin 2) (t : Fin (cfgA ch).N), P0_0 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.1

theorem hypsR0_A : ∀ (ch : Fin 2) (t : Fin (cfgA ch).N), P0_0 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.cmpi .eq (BitVec.ofNat 32 ((crd ch t) 1).val) 0#32)) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := hyps0_A

theorem sched0_A : ∀ (ch : Fin 2) (t : Fin (cfgA ch).N), P0_0 ch t →
    (cfgA ch).idle (5 : Fin 6) ((cfgA ch).grid.coords t) = true ∧ ((cfgA ch).win (5 : Fin 6)).flush t = false ∧ (cfgA ch).fresh (5 : Fin 6) t.val = true ∧ sfresh0_0 ch (t.val + 1) = false ∧ sfresh0_1 ch (t.val + 1) = false ∧ sfresh0_2 ch (t.val + 1) = false ∧ sfresh0_3 ch t.val = true ∧ sfresh0_3 ch (t.val + 1) = true := by
  intro ch t; rw [freshF0_5 ch t, sfreshS0_0 ch t, sfreshS0_1 ch t, sfreshS0_2 ch t, sfreshF0_3 ch t, sfreshS0_3 ch t]; exact (fun ch t => (allFacts ch t).2.2.2.2.2.2.1) ch t

theorem hyps0_B : ∀ (ch : Fin 2) (t : Fin (cfgA ch).N), ¬P0_0 ch t → ¬P0_1 ch t → P0_2 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.2.2.1

theorem hypsR0_B : ∀ (ch : Fin 2) (t : Fin (cfgA ch).N), ¬P0_0 ch t → ¬P0_1 ch t → P0_2 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := hyps0_B

theorem sched0_B : ∀ (ch : Fin 2) (t : Fin (cfgA ch).N), ¬P0_0 ch t → ¬P0_1 ch t → P0_2 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshS0_3 ch t]; exact (fun ch t => (allFacts ch t).2.2.2.2.2.2.2.2.1) ch t

theorem hyps0_C : ∀ (ch : Fin 2) (t : Fin (cfgA ch).N), ¬P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.2.2.2.2.1

theorem hypsR0_C : ∀ (ch : Fin 2) (t : Fin (cfgA ch).N), ¬P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ (((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((¬(k0_cond5 (crd ch t) = 1#1)) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := hyps0_C

theorem sched0_C : ∀ (ch : Fin 2) (t : Fin (cfgA ch).N), ¬P0_0 ch t → P0_1 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.1) ch t

theorem hyps0_D : ∀ (ch : Fin 2) (t : Fin (cfgA ch).N), ¬P0_0 ch t → ¬P0_1 ch t → ¬P0_2 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((k0_cond5 (crd ch t) = 1#1) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := fun ch t => (allFacts ch t).2.2.2.2.2.2.2.2.2.2.2.1

theorem hypsR0_D : ∀ (ch : Fin 2) (t : Fin (cfgA ch).N), ¬P0_0 ch t → ¬P0_1 ch t → ¬P0_2 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.cmpi .eq (BitVec.ofNat 32 ((crd ch t) 1).val) 0#32)) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 0#32))) 0#32) = 1#1)) ∧ ((¬((Scalar.cmpi .ne (Scalar.extui (Scalar.andi (Scalar.andi (Scalar.cmpi .sgt (BitVec.ofNat 32 ((crd ch t) 1).val) 0#32) (Scalar.cmpi .slt (BitVec.ofNat 32 ((crd ch t) 1).val) 11#32)) (Scalar.cmpi .eq (Scalar.select (Scalar.andi (Scalar.xori (Scalar.cmpi .slt (Scalar.remsi (BitVec.ofNat 32 ((crd ch t) 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ((crd ch t) 1).val) (Scalar.select (Scalar.cmpi .eq 2#32 0#32) 1#32 2#32)) 0#32)) (Scalar.addi (Scalar.remsi (BitVec.ofNat 32 ((crd ch t) 1).val) (Scalar.select (Scalar.cmpi .eq 2#32 0#32) 1#32 2#32)) (Scalar.select (Scalar.cmpi .eq 2#32 0#32) 1#32 2#32)) (Scalar.remsi (BitVec.ofNat 32 ((crd ch t) 1).val) (Scalar.select (Scalar.cmpi .eq 2#32 0#32) 1#32 2#32))) 1#32))) 0#32) = 1#1)) ∧ ((k0_cond5 (crd ch t) = 1#1) ∧ ((¬(k0_cond6 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))) := hyps0_D

theorem sched0_D : ∀ (ch : Fin 2) (t : Fin (cfgA ch).N), ¬P0_0 ch t → ¬P0_1 ch t → ¬P0_2 ch t →
    (cfgA ch).idle (5 : Fin 6) ((cfgA ch).grid.coords t) = false ∧ ((cfgA ch).win (5 : Fin 6)).flush t = true ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = true := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2) ch t

def step0 (c : Dev nD) (t : Fin (cfgA ch).N) (prev : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if q0 : P0_0 ch t then
    ((if (cfgA ch).fresh (5 : Fin 6) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.2.1)
  else
    if q1 : P0_1 ch t then
      ((if (cfgA ch).fresh (5 : Fin 6) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.2.1)
    else
      if q2 : P0_2 ch t then
        ((if (cfgA ch).fresh (5 : Fin 6) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.2.1)
      else
        (out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.2.1)

def traj0 (c : Dev nD) : (n : ℕ) → n < (cfgA ch).N → (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)
  | 0, h => step0 ch m ρ c ⟨0, h⟩ (default, default, default, default, default)
  | n + 1, h => step0 ch m ρ c ⟨n + 1, h⟩ (traj0 c n (Nat.lt_of_succ_lt h))

def prev0 (c : Dev nD) (t : Fin (cfgA ch).N) : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) :
    step0 ch m ρ c t prev = ((if (cfgA ch).fresh (5 : Fin 6) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.2.2.2 (hypsR0_A ch t q0).1 (hypsR0_A ch t q0).2.1 (hypsR0_A ch t q0).2.2.1 (hypsR0_A ch t q0).2.2.2.1 (hypsR0_A ch t q0).2.2.2.2.1 (hypsR0_A ch t q0).2.2.2.2.2.1).2.2.2.1) := by
  unfold step0; simp only [dif_pos q0]

theorem step0_B (c : Dev nD) (t : Fin (cfgA ch).N) (prev : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : ¬P0_1 ch t) (q2 : P0_2 ch t) :
    step0 ch m ρ c t prev = ((if (cfgA ch).fresh (5 : Fin 6) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 (hypsR0_B ch t q0 q1 q2).2.2.2.2.2.1).2.2.2.1) := by
  unfold step0; simp only [dif_neg q0, dif_neg q1, dif_pos q2]

theorem step0_C (c : Dev nD) (t : Fin (cfgA ch).N) (prev : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : P0_1 ch t) :
    step0 ch m ρ c t prev = ((if (cfgA ch).fresh (5 : Fin 6) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.2 (hypsR0_C ch t q0 q1).1 (hypsR0_C ch t q0 q1).2.1 (hypsR0_C ch t q0 q1).2.2.1 (hypsR0_C ch t q0 q1).2.2.2.1 (hypsR0_C ch t q0 q1).2.2.2.2.1 (hypsR0_C ch t q0 q1).2.2.2.2.2.1).2.2.2.1) := by
  unfold step0; simp only [dif_neg q0, dif_pos q1]

theorem step0_D (c : Dev nD) (t : Fin (cfgA ch).N) (prev : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : ¬P0_1 ch t) (q2 : ¬P0_2 ch t) :
    step0 ch m ρ c t prev = (out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1 q2).1 (hypsR0_D ch t q0 q1 q2).2.1 (hypsR0_D ch t q0 q1 q2).2.2.1 (hypsR0_D ch t q0 q1 q2).2.2.2.1 (hypsR0_D ch t q0 q1 q2).2.2.2.2.1 (hypsR0_D ch t q0 q1 q2).2.2.2.2.2.1).2.2.2.2.1) := by
  unfold step0; simp only [dif_neg q0, dif_neg q1, dif_neg q2]

def prev0T (c : Dev nD) (t : Fin ((cfgA ch).N + 1)) : (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2⌝ ∗ (scM0_3.view.loc (c : Thread nD τ) ↦{fullShare} a)) ∗ (tbM0_0.view.loc (c : Thread nD τ) ↦{fullShare.right} pinT_0 ch) ∗ (tbM0_1.view.loc (c : Thread nD τ) ↦{fullShare.right} pinT_1 ch))

def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt).1
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt).1 := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · rw [step0_A ch m ρ c t _ q0]
    simp only [hf, Bool.false_eq_true, ↓reduceIte]
    unfold prev0; rw [dif_neg ht]
  · by_cases q1 : P0_1 ch t
    · rw [step0_C ch m ρ c t _ q0 q1]
      simp only [hf, Bool.false_eq_true, ↓reduceIte]
      unfold prev0; rw [dif_neg ht]
    · by_cases q2 : P0_2 ch t
      · rw [step0_B ch m ρ c t _ q0 q1 q2]
        simp only [hf, Bool.false_eq_true, ↓reduceIte]
        unfold prev0; rw [dif_neg ht]
      · obtain ⟨i5, -, -, -, -, -, -, -, -, -, -⟩ := sched0_D ch t q0 q1 q2
        rw [i5] at hi; exact absurd hi (by decide)

theorem before0_5 (c : Dev nD) (t : Fin (cfgA ch).N) (d) :
    (dats ch m ρ 0 c).before (5 : Fin 6) t d = if (cfgA ch).fresh (5 : Fin 6) t.val then d else (prev0 ch m ρ c t).1 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Ideal) Λ₀ .tc) PUnit :=
  cc0_swiglu (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4000000 in

theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i5, f5, fr5, sfn0, sfn1, sfn2, sf3, sfn3⟩ := sched0_A ch t q0
    have F0 := hypsR0_A ch t q0
    have k0_h1 := F0.1; have F1 := F0.2
    have k0_h2 := F1.1; have F2 := F1.2
    have k0_h3 := F2.1; have F3 := F2.2
    have k0_h4 := F3.1; have F4 := F3.2
    have k0_h5 := F4.1; have F5 := F4.2
    have k0_h6 := F5.1; have F6 := F5.2
    clear F0 F1 F2 F3 F4 F5 F6
    rewrite [i5]
    simp only [before0_0, before0_1, before0_2, before0_3, before0_4, before0_5, after0_0, after0_1, after0_2, after0_3, after0_4, after0_5, f5]
    simp only [fr5, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) a3 k0_h1 k0_h2 k0_h3 k0_h4 k0_h5 k0_h6).2.2.2.2 _ a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    isplitl [HS1]; · iexact HS1
    isplitl [HS2]; · iexact HS2
    isplitl [HS3]; · iexact HS3
    iintro ⟨H0, H1, H2, H3, H4, HT0, HT1, H5, HS0, HS1, HS2, HS3⟩
    isplitl [HS0 HS1 HS2 HS3 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    first | (iexists d5; iexact H5) | iexact H5
  · by_cases q1 : P0_1 ch t
    · obtain ⟨i5, f5, fr5, sf0, sfn0, sf1, sfn1, sf2, sfn2, sf3, sfn3⟩ := sched0_C ch t q0 q1
      have F0 := hypsR0_C ch t q0 q1
      have k0_h1 := F0.1; have F1 := F0.2
      have k0_h2 := F1.1; have F2 := F1.2
      have k0_h3 := F2.1; have F3 := F2.2
      have k0_h4 := F3.1; have F4 := F3.2
      have k0_h5 := F4.1; have F5 := F4.2
      have k0_h6 := F5.1; have F6 := F5.2
      clear F0 F1 F2 F3 F4 F5 F6
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf3]
      iintro ⟨⟨HS0, HS1, ⟨%a2, %ha2, HS2⟩, HS3, HT0, HT1⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ k0_h1 k0_h2 k0_h3 k0_h4 k0_h5 k0_h6).2.2.2.2 _ a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · by_cases q2 : P0_2 ch t
      · obtain ⟨i5, f5, fr5, sf0, sfn0, sf1, sfn1, sf2, sfn2, sfn3⟩ := sched0_B ch t q0 q1 q2
        have F0 := hypsR0_B ch t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        have k0_h6 := F5.1; have F6 := F5.2
        clear F0 F1 F2 F3 F4 F5 F6
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        simp only [exists_held sf0, exists_held sf1, exists_held sf2]
        iintro ⟨⟨HS0, HS1, HS2, ⟨%a3, %ha3, HS3⟩, HT0, HT1⟩, Ho, ⟨%d0, H0⟩, ⟨%d1, H1⟩, ⟨%d2, H2⟩, ⟨%d3, H3⟩, ⟨%d4, H4⟩, ⟨%d5, H5⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ k0_h1 k0_h2 k0_h3 k0_h4 k0_h5 k0_h6).2.2.2.2 _ a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        isplitl [HS1]; · iexact HS1
        isplitl [HS2]; · iexact HS2
        isplitl [HS3]; · iexact HS3
        iintro ⟨H0, H1, H2, H3, H4, HT0, HT1, H5, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · obtain ⟨i5, f5, fr5, sf0, sfn0, sf1, sfn1, sf2, sfn2, sf3, sfn3⟩ := sched0_D ch t q0 q1 q2
        have F0 := hypsR0_D ch t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        have k0_h6 := F5.1; have F6 := F5.2
        clear F0 F1 F2 F3 F4 F5 F6
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ _ k0_h1 k0_h2 k0_h3 k0_h4 k0_h5 k0_h6).2.2.2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexists _; iexact H5
        isplitl [HS0]; · iexact HS0
        isplitl [HS1]; · iexact HS1
        isplitl [HS2]; · iexact HS2
        isplitl [HS3]; · iexact HS3
        iintro ⟨H0, H1, H2, H3, H4, HT0, HT1, ⟨%e5, H5⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        unfold owns; iexists _; isplitr; swap
        · iexact H5
        · ipureintro; exact View.read_writes_of_cover _ _ _ _ _ (cover0_D_5 c _ _ _ _ _ _ _ _ _ _ _ _ _ _ _ _ _ _ _ _ _ _ _ _ _ _ _ _ _ _)

theorem body_obligation (hp : Pinned ch m) (c : Dev nD) : BodyObligation (dats ch m ρ 0 c) (defs₀ (F := Ideal)) Variants.none () Set.univ := fun t => by
  rw [bigSep_W0]
  exact sound_body ch m ρ hp c t

def u₀ : UR sig nD τ :=
  initOf (Pipeline.cells (pcs ch) ((launchL (F := Ideal) ch).cellOf_inj fun _ => adm ch))
    (Pipeline.launchToks (pcs ch) ((launchL (F := Ideal) ch).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -, -⟩
  isplitr; · iempintro
  isplitl [HS0]
  · iexists a0; iexact HS0
  isplitl [HS1]
  · iexists a1; iexact HS1
  isplitl [HS2]
  · iexists a2; iexact HS2
  iexists a3; iexact HS3

def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in

theorem run_main_quiescent (hp : Pinned ch m) : θ_run (defsL (F := Ideal) ch) (onTc (τ := τ) (mainL (F := Ideal) ch)) (s₀ m ρ) (fun r => QC ch m ρ r ∧ r.2.sem = fun _ => 0) :=
  Pipeline.θ_run_region_noSem_pf_quiescent (pcfgsL ch) (fun _ => adm ch) (dats ch m ρ) () ((launchL (F := Ideal) ch).cellOf_inj fun _ => adm ch) (0 : Fin 1)
    (launchL (F := Ideal) ch).win.to₀ (launchL (F := Ideal) ch).pre EP defs₀ Variants.none m ρ (mainL ch)
    (hbody := fun c => (body_obligation ch m ρ hp c).loose) (hne := (launchL (F := Ideal) ch).block_pos)
    (harr := (launchL (F := Ideal) ch).arr_whole) (hstage := (launchL (F := Ideal) ch).stage_whole) (howed := fun _ _ => rfl)
    (u₀ := u₀ ch) (hu₀ := .rfl)
    (V := fun c b => m ((c : Thread nD τ).loc b))
    (hmain := fun c Q => by
      delta mainL; simp only [Prog.bind_lift, Prog.pure_eq_ret]
      iintro ⟨Hk, Hb⟩; iapply Hk; iexact Hb)
    (hsplit := fun c => Pipeline.arrays_split (pcs ch) (dats ch m ρ) 0 (launchL (F := Ideal) ch).win.arr_inj c (launchL (F := Ideal) ch).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defsL (F := Ideal) ch) (onTc (τ := τ) (mainL (F := Ideal) ch)) (s₀ m ρ) (QC ch m ρ) :=
  (θ_run (defsL ch) _ _).mono (fun _ h => h.1) (run_main_quiescent ch m ρ hp)

theorem unchanged (hp : Pinned ch m) :
    θ_run (defsL (F := Ideal) ch) (onTc (τ := τ) (mainL (F := Ideal) ch)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defsL ch) _ _).mono (fun _ h c => ⟨((h c).2 0).trans (hp.1 c).symm, ((h c).2 1).trans (hp.2 c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _), ((h c).1 (4 : Fin 6)).trans ((dats ch m ρ 0 c).arrAt_in (4 : Fin 6) rfl _)⟩) (run_main ch m ρ hp)

theorem frame (hp : Pinned ch m) :
    θ_run (defsL (F := Ideal) ch) (onTc (τ := τ) (mainL (F := Ideal) ch)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run (defsL ch) _ _).mono (fun _ h => h.2) (run_main_quiescent ch m ρ hp))

end Cert.KernelFfnIdeal.Gen

end
-- ==== Proof.FfnSteps.lean ====
module

public import proofs.«01_k».proof.Proof.FfnIdealRun
public import Idealize.ShloMosaic.Lib.Pipeline.ValueKit
public import Idealize.ShloMosaic.Lib.LaneScatter.Tiles

/-!
What one grid point of the feed-forward leaves in its scratch and in its output block, as the words of the program.
-/

@[expose] public section
set_option maxRecDepth 16384
noncomputable section
namespace Cert.KernelFfnIdeal.Hand
open Cert.KernelFfnIdeal Cert.KernelFfnIdeal.Gen
open Idealize.ShloMosaic Idealize.ShloMosaic.TcCoe Idealize.SL.Sem
open Idealize.ShloMosaic.Pipeline (Dat)
open Idealize.ShloMosaic.LaneScatter (read_whole_store)
variable (ch : Fin 2) (m : (ℓ : Loc nD τ sig) → Buf (Elt Ideal) ℓ) (ρ : Dev nD → PrngReg) (c : Dev nD)

/-- The rows' block at a point. -/
def bx (t : Fin (cfgA ch).N) : FVec Ideal S832x2048 .f32 := show S832x2048.Idx → EReal from iblk ch m ρ c 0 t
/-- The norm's weight at a point. -/
def bg (t : Fin (cfgA ch).N) : FVec Ideal S1x2048 .f32 := show S1x2048.Idx → EReal from iblk ch m ρ c 1 t
/-- The gate's block at a point. -/
def bu (t : Fin (cfgA ch).N) : FVec Ideal S1x1x2048x512 .bf16 := show S1x1x2048x512.Idx → EReal from iblk ch m ρ c 2 t
/-- The up projection's block at a point. -/
def bv (t : Fin (cfgA ch).N) : FVec Ideal S1x1x2048x512 .bf16 := show S1x1x2048x512.Idx → EReal from iblk ch m ρ c 3 t
/-- The down projection's block at a point. -/
def bd (t : Fin (cfgA ch).N) : FVec Ideal S1x1x512x2048 .bf16 := show S1x1x512x2048.Idx → EReal from iblk ch m ρ c 4 t

/-- What a point leaves: its output block, then the normed rows, the sum so far, and the two gated blocks. -/
abbrev St : Type := (S832x2048.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)

/-- The normed rows held. -/
def sh (s : St c) : FVec Ideal S832x2048 .bf16 := s.2.1
/-- The sum held. -/
def sa (s : St c) : FVec Ideal S832x2048 .f32 := s.2.2.1
/-- The gated block of the even steps. -/
def s0 (s : St c) : FVec Ideal S832x512 .bf16 := s.2.2.2.1
/-- The gated block of the odd steps. -/
def s1 (s : St c) : FVec Ideal S832x512 .bf16 := s.2.2.2.2

theorem st0 (f : (View.whole cc0_scratch0).ty.Contents (Elt Ideal)) (w : FVec Ideal S832x2048 .bf16) :
    (View.whole cc0_scratch0).writes (Elt Ideal) f [⟨Rect.unit (s := S832x2048) ![0, 0] ![832, 2048] inb_S832x2048_S832x2048_0_0, w⟩] = w :=
  (View.read_whole cc0_scratch0 _).symm.trans (read_whole_store (View.whole cc0_scratch0) f (off := ![0, 0]) (fun a => by fin_cases a <;> rfl) inb_S832x2048_S832x2048_0_0 w)

theorem st1 (f : (View.whole cc0_scratch1).ty.Contents (Elt Ideal)) (w : FVec Ideal S832x2048 .f32) :
    (View.whole cc0_scratch1).writes (Elt Ideal) f [⟨Rect.unit (s := S832x2048) ![0, 0] ![832, 2048] inb_S832x2048_S832x2048_0_0, w⟩] = w :=
  (View.read_whole cc0_scratch1 _).symm.trans (read_whole_store (View.whole cc0_scratch1) f (off := ![0, 0]) (fun a => by fin_cases a <;> rfl) inb_S832x2048_S832x2048_0_0 w)

theorem st2 (f : (View.whole cc0_scratch2).ty.Contents (Elt Ideal)) (w : FVec Ideal S832x512 .bf16) :
    (View.whole cc0_scratch2).writes (Elt Ideal) f [⟨Rect.unit (s := S832x512) ![0, 0] ![832, 512] inb_S832x512_S832x512_0_0, w⟩] = w :=
  (View.read_whole cc0_scratch2 _).symm.trans (read_whole_store (View.whole cc0_scratch2) f (off := ![0, 0]) (fun a => by fin_cases a <;> rfl) inb_S832x512_S832x512_0_0 w)

theorem st3 (f : (View.whole cc0_scratch3).ty.Contents (Elt Ideal)) (w : FVec Ideal S832x512 .bf16) :
    (View.whole cc0_scratch3).writes (Elt Ideal) f [⟨Rect.unit (s := S832x512) ![0, 0] ![832, 512] inb_S832x512_S832x512_0_0, w⟩] = w :=
  (View.read_whole cc0_scratch3 _).symm.trans (read_whole_store (View.whole cc0_scratch3) f (off := ![0, 0]) (fun a => by fin_cases a <;> rfl) inb_S832x512_S832x512_0_0 w)

variable (t : Fin (cfgA ch).N) (prev : St c)

theorem A_h (q0 : P0_0 ch t) : sh c (step0 ch m ρ c t prev) = k0_pay5 (bx ch m ρ c t) (bg ch m ρ c t) := by
  rw [step0_A ch m ρ c t prev q0]
  dsimp only [sh]
  frame_out
  rw [View.read_rep, View.read_rep]
  exact st0 _ _

theorem A_a (q0 : P0_0 ch t) : sa c (step0 ch m ρ c t prev) = k0_pay6 (F := Ideal) := by
  rw [step0_A ch m ρ c t prev q0]
  dsimp only [sa]
  frame_out
  exact st1 _ _

theorem A_0 (q0 : P0_0 ch t) : s0 c (step0 ch m ρ c t prev)
    = k0_pay8 (k0_pay7 (k0_pay5 (bx ch m ρ c t) (bg ch m ρ c t)) (bu ch m ρ c t) (bv ch m ρ c t)) := by
  rw [step0_A ch m ρ c t prev q0]
  dsimp only [s0]
  frame_out
  rw [View.read_rep, View.read_rep, View.read_rep, View.read_rep]
  exact st2 _ _

theorem B_h (q0 : ¬P0_0 ch t) (q1 : ¬P0_1 ch t) (q2 : P0_2 ch t) : sh c (step0 ch m ρ c t prev) = sh c prev := by
  rw [step0_B ch m ρ c t prev q0 q1 q2]
  dsimp only [sh]
  frame_out

theorem B_a (q0 : ¬P0_0 ch t) (q1 : ¬P0_1 ch t) (q2 : P0_2 ch t) : sa c (step0 ch m ρ c t prev)
    = k0_pay1 (sa c prev) (s0 c prev) (bd ch m ρ c t) := by
  rw [step0_B ch m ρ c t prev q0 q1 q2]
  dsimp only [sa]
  frame_out
  rw [View.read_rep]
  exact st1 _ _

theorem B_1 (q0 : ¬P0_0 ch t) (q1 : ¬P0_1 ch t) (q2 : P0_2 ch t) : s1 c (step0 ch m ρ c t prev)
    = k0_pay2 (sh c prev) (bu ch m ρ c t) (bv ch m ρ c t) := by
  rw [step0_B ch m ρ c t prev q0 q1 q2]
  dsimp only [s1]
  frame_out
  rw [View.read_rep, View.read_rep]
  exact st3 _ _

theorem C_h (q0 : ¬P0_0 ch t) (q1 : P0_1 ch t) : sh c (step0 ch m ρ c t prev) = sh c prev := by
  rw [step0_C ch m ρ c t prev q0 q1]
  dsimp only [sh]
  frame_out

theorem C_a (q0 : ¬P0_0 ch t) (q1 : P0_1 ch t) : sa c (step0 ch m ρ c t prev)
    = k0_pay9 (sa c prev) (s1 c prev) (bd ch m ρ c t) := by
  rw [step0_C ch m ρ c t prev q0 q1]
  dsimp only [sa]
  frame_out
  rw [View.read_rep]
  exact st1 _ _

theorem C_0 (q0 : ¬P0_0 ch t) (q1 : P0_1 ch t) : s0 c (step0 ch m ρ c t prev)
    = k0_pay10 (sh c prev) (bu ch m ρ c t) (bv ch m ρ c t) := by
  rw [step0_C ch m ρ c t prev q0 q1]
  dsimp only [s0]
  frame_out
  rw [View.read_rep, View.read_rep]
  exact st2 _ _

theorem D_o (q0 : ¬P0_0 ch t) (q1 : ¬P0_1 ch t) (q2 : ¬P0_2 ch t) : (show FVec Ideal S832x2048 .f32 from (step0 ch m ρ c t prev).1)
    = k0_pay3 (s0 c prev) (bd ch m ρ c t) (bx ch m ρ c t) (sa c prev) := by
  rw [step0_D ch m ρ c t prev q0 q1 q2]
  dsimp only
  frame_out
  rw [View.read_rep, View.read_rep]
  rfl

end Cert.KernelFfnIdeal.Hand
end
-- ==== Proof.FfnBlocks.lean ====
module

public import proofs.«01_k».proof.Proof.FfnSteps

/-! The blocks that a grid point of the feed-forward reads, in the argument arrays. -/

@[expose] public section
set_option maxRecDepth 16384
noncomputable section
namespace Cert.KernelFfnIdeal.Hand
open Cert.KernelFfnIdeal Cert.KernelFfnIdeal.Gen
open Idealize.ShloMosaic Idealize.ShloMosaic.TcCoe Idealize.SL.Sem
open Idealize.ShloMosaic.Pipeline (Dat)

theorem card {ch : Fin 2} : (cfgA ch).N = 480 := by revert ch; decide +kernel

/-- Which of the four ways a point goes. -/
theorem ways {ch : Fin 2} : ∀ t : Fin (cfgA ch).N, (P0_0 ch t ↔ t.val % 12 = 0) ∧ (P0_1 ch t ↔ (0 < t.val % 12 ∧ t.val % 12 < 11 ∧ t.val % 12 % 2 = 0))
    ∧ (P0_2 ch t ↔ (0 < t.val % 12 ∧ t.val % 12 < 11 ∧ t.val % 12 % 2 = 1)) := by revert ch; decide +kernel

/-- The index maps of the windows. -/
theorem idx {ch : Fin 2} : ∀ t : Fin (cfgA ch).N, ((cfgA ch).win 0).index t = ![t.val / 12, 0] ∧ ((cfgA ch).win 1).index t = ![0, 0]
    ∧ ((cfgA ch).win 2).index t = ![ch.val, 0, 0, min (t.val % 12) 10] ∧ ((cfgA ch).win 3).index t = ![ch.val, 0, 0, min (t.val % 12) 10]
    ∧ ((cfgA ch).win 4).index t = ![ch.val, 0, t.val % 12 - 1, 0] ∧ ((cfgA ch).win 5).index t = ![t.val / 12, 0] := match ch with
  | 0 => by decide +kernel
  | 1 => by decide +kernel

/-- The output block is written out after the last step of a row block only. -/
theorem flushes {ch : Fin 2} : ∀ t : Fin (cfgA ch).N, ((cfgA ch).win 5).flush t = true → t.val % 12 = 11 := by revert ch; decide +kernel

variable {ch : Fin 2} (m : (ℓ : Loc nD τ sig) → Buf (Elt Ideal) ℓ) (ρ : Dev nD → PrngReg) (c : Dev nD)

theorem lt480 (t : Fin (cfgA ch).N) : t.val < 480 := by have := t.isLt; have := card (ch := ch); omega

theorem bx_at (t : Fin (cfgA ch).N) (r : Fin 832) (k : Fin 2048) :
    (bx ch m ρ c t (ix2 r k) : EReal)
      = (m ((c : Thread nD τ).loc main_arg2) : S33280x2048.Idx → EReal) (ix2 ⟨t.val / 12 * 832 + r, by have := lt480 t; omega⟩ k) := by
  unfold bx
  blk_ext [iblk, idx t]

theorem bg_at (t : Fin (cfgA ch).N) (k : Fin 2048) :
    (bg ch m ρ c t (ix2 0 k) : EReal) = (m ((c : Thread nD τ).loc main_arg3) : S1x2048.Idx → EReal) (ix2 0 k) := by
  unfold bg
  blk_ext [iblk, idx t]

/-- A column of the hidden layer: column `k` of its block `f`. -/
def col (f : ℕ) (k : Fin 512) : Fin 5632 := ⟨(f * 512 + k.val) % 5632, Nat.mod_lt _ (by decide)⟩

theorem bu_at (t : Fin (cfgA ch).N) (h : t.val % 12 < 11) (j : Fin 2048) (k : Fin 512) :
    (bu ch m ρ c t (ix4 0 0 j k) : EReal)
      = (m ((c : Thread nD τ).loc main_arg4) : S2x1x2048x5632.Idx → EReal) (ix4 ch 0 j (col (t.val % 12) k)) := by
  unfold bu
  have e : min (t.val % 12) 10 = t.val % 12 := by omega
  have e2 : (t.val % 12 * 512 + k.val) % 5632 = t.val % 12 * 512 + k.val := Nat.mod_eq_of_lt (by omega)
  blk_ext [iblk, idx t, e, col, e2]

theorem bv_at (t : Fin (cfgA ch).N) (h : t.val % 12 < 11) (j : Fin 2048) (k : Fin 512) :
    (bv ch m ρ c t (ix4 0 0 j k) : EReal)
      = (m ((c : Thread nD τ).loc main_arg5) : S2x1x2048x5632.Idx → EReal) (ix4 ch 0 j (col (t.val % 12) k)) := by
  unfold bv
  have e : min (t.val % 12) 10 = t.val % 12 := by omega
  have e2 : (t.val % 12 * 512 + k.val) % 5632 = t.val % 12 * 512 + k.val := Nat.mod_eq_of_lt (by omega)
  blk_ext [iblk, idx t, e, col, e2]

theorem bd_at (t : Fin (cfgA ch).N) (h : t.val % 12 < 12) (k : Fin 512) (n : Fin 2048) :
    (bd ch m ρ c t (ix4 0 0 k n) : EReal)
      = (m ((c : Thread nD τ).loc main_arg6) : S2x1x5632x2048.Idx → EReal) (ix4 ch 0 (col (t.val % 12 - 1) k) n) := by
  unfold bd
  have e2 : ((t.val % 12 - 1) * 512 + k.val) % 5632 = (t.val % 12 - 1) * 512 + k.val := Nat.mod_eq_of_lt (by omega)
  blk_ext [iblk, idx t, col, e2]

end Cert.KernelFfnIdeal.Hand
end
-- ==== Proof.FfnSpec.lean ====
module

public import proofs.«01_k».proof.Proof.Gen.KernelFfnIdeal.Skeleton
public import Idealize.ShloMosaic.Lib.Pipeline.ValueKit

/-! The words of the feed-forward's program, element by element. -/

@[expose] public section
set_option maxRecDepth 16384
set_option maxHeartbeats 1000000
noncomputable section
namespace Cert.KernelFfnIdeal.Hand
open Cert.KernelFfnIdeal Cert.KernelFfnIdeal.Gen
open Idealize.ShloMosaic Idealize.ShloMosaic.TcCoe Idealize.SL.Sem

/-- A row of normed entries by a column. -/
def gated (h : Fin 2048 → EReal) (u v : Fin 2048 → EReal) : EReal :=
  ((∑ k, h k * u k) * Ideal.logistic (∑ k, h k * u k)) * (∑ k, h k * v k)

/-- The entry of a normed row. -/
def normed (x g : Fin 2048 → EReal) (k : Fin 2048) : EReal :=
  x k * Ideal.rsqrt ((∑ j, x j * x j) * Ideal.ofBits .f32 0x3A000000#32 + Ideal.ofBits .f32 0x358637BD#32) * g k

theorem pay5_at (x : FVec Ideal S832x2048 .f32) (g : FVec Ideal S1x2048 .f32) (r : Fin 832) (k : Fin 2048) :
    (show EReal from k0_pay5 (F := Ideal) x g (ix2 r k)) = normed (fun j => x (ix2 r j)) (fun j => g (ix2 0 j)) k := by
  unfold normed
  pointwise [k0_pay5]

theorem pay6_at (r : Fin 832) (k : Fin 2048) : (show EReal from k0_pay6 (F := Ideal) (ix2 r k)) = 0 := by
  pointwise [k0_pay6]

theorem pay7_at (h : FVec Ideal S832x2048 .bf16) (u v : FVec Ideal S1x1x2048x512 .bf16) (r : Fin 832) (k : Fin 512) :
    (show EReal from k0_pay7 (F := Ideal) h u v (ix2 r k))
      = gated (fun j => h (ix2 r j)) (fun j => u (ix4 0 0 j k)) (fun j => v (ix4 0 0 j k)) := by
  unfold gated
  pointwise [k0_pay7]

theorem pay8_at (a : FVec Ideal S832x512 .bf16) (r : Fin 832) (k : Fin 512) :
    (show EReal from k0_pay8 (F := Ideal) a (ix2 r k)) = (a (ix2 r k) : EReal) := by
  pointwise [k0_pay8]

theorem pay2_at (h : FVec Ideal S832x2048 .bf16) (u v : FVec Ideal S1x1x2048x512 .bf16) (r : Fin 832) (k : Fin 512) :
    (show EReal from k0_pay2 (F := Ideal) h u v (ix2 r k))
      = gated (fun j => h (ix2 r j)) (fun j => u (ix4 0 0 j k)) (fun j => v (ix4 0 0 j k)) := by
  unfold gated
  pointwise [k0_pay2]

theorem pay10_at (h : FVec Ideal S832x2048 .bf16) (u v : FVec Ideal S1x1x2048x512 .bf16) (r : Fin 832) (k : Fin 512) :
    (show EReal from k0_pay10 (F := Ideal) h u v (ix2 r k))
      = gated (fun j => h (ix2 r j)) (fun j => u (ix4 0 0 j k)) (fun j => v (ix4 0 0 j k)) := by
  unfold gated
  pointwise [k0_pay10]

theorem pay1_at (a : FVec Ideal S832x2048 .f32) (p : FVec Ideal S832x512 .bf16) (d : FVec Ideal S1x1x512x2048 .bf16) (r : Fin 832) (n : Fin 2048) :
    (show EReal from k0_pay1 (F := Ideal) a p d (ix2 r n))
      = (a (ix2 r n) : EReal) + ∑ k : Fin 512, (p (ix2 r k) : EReal) * (d (ix4 0 0 k n) : EReal) := by
  pointwise [k0_pay1]

theorem pay9_at (a : FVec Ideal S832x2048 .f32) (p : FVec Ideal S832x512 .bf16) (d : FVec Ideal S1x1x512x2048 .bf16) (r : Fin 832) (n : Fin 2048) :
    (show EReal from k0_pay9 (F := Ideal) a p d (ix2 r n))
      = (a (ix2 r n) : EReal) + ∑ k : Fin 512, (p (ix2 r k) : EReal) * (d (ix4 0 0 k n) : EReal) := by
  pointwise [k0_pay9]

theorem pay3_at (p : FVec Ideal S832x512 .bf16) (d : FVec Ideal S1x1x512x2048 .bf16) (x a : FVec Ideal S832x2048 .f32) (r : Fin 832) (n : Fin 2048) :
    (show EReal from k0_pay3 (F := Ideal) p d x a (ix2 r n))
      = (x (ix2 r n) : EReal) + ((a (ix2 r n) : EReal) + ∑ k : Fin 512, (p (ix2 r k) : EReal) * (d (ix4 0 0 k n) : EReal)) := by
  pointwise [k0_pay3]

end Cert.KernelFfnIdeal.Hand
end
-- ==== Proof.FfnValue.lean ====
module

public import proofs.«01_k».proof.Proof.FfnBlocks
public import proofs.«01_k».proof.Proof.FfnSpec

/-! What the feed-forward's scratch holds after each grid point, and the result array. -/

@[expose] public section
set_option maxRecDepth 16384
noncomputable section
namespace Cert.KernelFfnIdeal.Hand
open Cert.KernelFfnIdeal Cert.KernelFfnIdeal.Gen
open Idealize.ShloMosaic Idealize.ShloMosaic.TcCoe Idealize.SL.Sem
open Idealize.ShloMosaic.Pipeline (Dat)

section Arrays
variable (ch : Fin 2) (X : S33280x2048.Idx → EReal) (G : S1x2048.Idx → EReal) (U V : S2x1x2048x5632.Idx → EReal) (D : S2x1x5632x2048.Idx → EReal)

/-- The hidden layer at a row and a column. -/
def act (R : Fin 33280) (J : Fin 5632) : EReal :=
  gated (normed (fun j => X (ix2 R j)) (fun j => G (ix2 0 j))) (fun j => U (ix4 ch 0 j J)) (fun j => V (ix4 ch 0 j J))

/-- What one block of the hidden layer adds to the result. -/
def part (R : Fin 33280) (n : Fin 2048) (f : ℕ) : EReal := ∑ k : Fin 512, act ch X G U V R (col f k) * D (ix4 ch 0 (col f k) n)

/-- The feed-forward, element by element. -/
def ffn (R : Fin 33280) (n : Fin 2048) : EReal := X (ix2 R n) + ∑ J : Fin 5632, act ch X G U V R J * D (ix4 ch 0 J n)

theorem sum_parts (R : Fin 33280) (n : Fin 2048) :
    (∑ f ∈ Finset.range 11, part ch X G U V D R n f) = ∑ J : Fin 5632, act ch X G U V R J * D (ix4 ch 0 J n) := by
  rw [Finset.sum_range]
  unfold part
  rw [← Fintype.sum_prod_type' (f := fun (f : Fin 11) (k : Fin 512) => act ch X G U V R (col f k) * D (ix4 ch 0 (col f k) n))]
  refine Fintype.sum_equiv (finProdFinEquiv : Fin 11 × Fin 512 ≃ Fin (11 * 512)) _ (fun J : Fin 5632 => act ch X G U V R J * D (ix4 ch 0 J n)) ?_
  rintro ⟨f, k⟩
  have e : col f.val k = (finProdFinEquiv (f, k) : Fin (11 * 512)) := by
    refine Fin.ext ?_
    show (f.val * 512 + k.val) % 5632 = k.val + 512 * f.val
    omega
  show act ch X G U V R (col f.val k) * D (ix4 ch 0 (col f.val k) n) = _
  rw [e]

end Arrays

variable {ch : Fin 2} (m : (ℓ : Loc nD τ sig) → Buf (Elt Ideal) ℓ) (ρ : Dev nD → PrngReg) (c : Dev nD)

/-- The arguments on a device. -/
abbrev aX : S33280x2048.Idx → EReal := m ((c : Thread nD τ).loc main_arg2)
abbrev aG : S1x2048.Idx → EReal := m ((c : Thread nD τ).loc main_arg3)
abbrev aU : S2x1x2048x5632.Idx → EReal := m ((c : Thread nD τ).loc main_arg4)
abbrev aV : S2x1x2048x5632.Idx → EReal := m ((c : Thread nD τ).loc main_arg5)
abbrev aD : S2x1x5632x2048.Idx → EReal := m ((c : Thread nD τ).loc main_arg6)

/-- The row of the array at a row of a point's block. -/
def row (t : Fin (cfgA ch).N) (r : Fin 832) : Fin 33280 := ⟨t.val / 12 * 832 + r, by have := lt480 t; omega⟩

/-- A normed entry of the array. -/
abbrev nrm (R : Fin 33280) (k : Fin 2048) : EReal := normed (fun j => aX m c (ix2 R j)) (fun j => aG m c (ix2 0 j)) k
/-- The hidden layer of the arguments. -/
abbrev hid (ch : Fin 2) (R : Fin 33280) (J : Fin 5632) : EReal := act ch (aX m c) (aG m c) (aU m c) (aV m c) R J
/-- What a block of the hidden layer of the arguments adds. -/
abbrev prt (ch : Fin 2) (R : Fin 33280) (n : Fin 2048) (f : ℕ) : EReal := part ch (aX m c) (aG m c) (aU m c) (aV m c) (aD m c) R n f

theorem gated_at (t : Fin (cfgA ch).N) (h : t.val % 12 < 11) (r : Fin 832) (k : Fin 512) (w : Fin 2048 → EReal) (hw : ∀ j, w j = nrm m c (row t r) j) :
    gated w (fun j => bu ch m ρ c t (ix4 0 0 j k)) (fun j => bv ch m ρ c t (ix4 0 0 j k)) = hid m c ch (row t r) (col (t.val % 12) k) := by
  rw [show w = nrm m c (row t r) from funext hw, show (fun j => (show EReal from bu ch m ρ c t (ix4 0 0 j k))) = _ from funext fun j => bu_at m ρ c t h j k,
    show (fun j => (show EReal from bv ch m ρ c t (ix4 0 0 j k))) = _ from funext fun j => bv_at m ρ c t h j k]
  rfl

theorem normed_at (t : Fin (cfgA ch).N) (r : Fin 832) (k : Fin 2048) :
    normed (fun j => bx ch m ρ c t (ix2 r j)) (fun j => bg ch m ρ c t (ix2 0 j)) k = nrm m c (row t r) k := by
  rw [show (fun j => (show EReal from bx ch m ρ c t (ix2 r j))) = _ from funext fun j => bx_at m ρ c t r j,
    show (fun j => (show EReal from bg ch m ρ c t (ix2 0 j))) = _ from funext fun j => bg_at m ρ c t j]
  rfl

/-- What the scratch holds after a point that is not the last of its row block. -/
structure Inv (t : Fin (cfgA ch).N) (s : St c) : Prop where
  h : ∀ r k, (show EReal from sh c s (ix2 r k)) = nrm m c (row t r) k
  a : ∀ r n, (show EReal from sa c s (ix2 r n)) = ∑ f ∈ Finset.range (t.val % 12), prt m c ch (row t r) n f
  even : t.val % 12 % 2 = 0 → ∀ r k, (show EReal from s0 c s (ix2 r k)) = hid m c ch (row t r) (col (t.val % 12) k)
  odd : t.val % 12 % 2 = 1 → ∀ r k, (show EReal from s1 c s (ix2 r k)) = hid m c ch (row t r) (col (t.val % 12) k)

/-- The first step of a row block. -/
theorem inv_first (t : Fin (cfgA ch).N) (prev : St c) (q : t.val % 12 = 0) : Inv m c t (step0 ch m ρ c t prev) := by
  have q0 := (ways t).1.mpr q
  have eh : ∀ r k, (show EReal from k0_pay5 (F := Ideal) (bx ch m ρ c t) (bg ch m ρ c t) (ix2 r k)) = nrm m c (row t r) k := fun r k =>
    (pay5_at _ _ r k).trans (normed_at m ρ c t r k)
  constructor
  · intro r k
    rw [A_h ch m ρ c t prev q0]
    exact eh r k
  · intro r n
    rw [A_a ch m ρ c t prev q0, q]
    exact pay6_at r n
  · intro _ r k
    rw [A_0 ch m ρ c t prev q0]
    refine (pay8_at _ r k).trans ((pay7_at _ _ _ r k).trans ?_)
    exact gated_at m ρ c t (by omega) r k _ fun j => eh r j
  · intro h; omega

/-- What a step adds to the sum. -/
theorem acc_step (t t' : Fin (cfgA ch).N) (e : t.val = t'.val + 1) (q : 0 < t.val % 12) (r : Fin 832) (n : Fin 2048)
    (p : FVec Ideal S832x512 .bf16) (a : EReal)
    (hp : ∀ k, (show EReal from p (ix2 r k)) = hid m c ch (row t' r) (col (t'.val % 12) k)) (ha : a = ∑ f ∈ Finset.range (t'.val % 12), prt m c ch (row t' r) n f) :
    a + ∑ k : Fin 512, (show EReal from p (ix2 r k)) * (show EReal from bd ch m ρ c t (ix4 0 0 k n))
      = ∑ f ∈ Finset.range (t.val % 12), prt m c ch (row t r) n f := by
  have er : row t' r = row t r := Fin.ext (by show t'.val / 12 * 832 + r.val = t.val / 12 * 832 + r.val; omega)
  have es : t.val % 12 = t'.val % 12 + 1 := by omega
  have es' : t.val % 12 - 1 = t'.val % 12 := by omega
  rw [ha, es, Finset.sum_range_succ, er]
  refine congrArg _ ?_
  refine Finset.sum_congr rfl fun k _ => congrArg₂ (· * ·) ?_ ?_
  · rw [hp k, er]
  · exact (bd_at m ρ c t (by omega) k n).trans (by rw [es'])

/-- A later step of a row block. -/
theorem inv_step (t t' : Fin (cfgA ch).N) (e : t.val = t'.val + 1) (q : 0 < t.val % 12) (q' : t.val % 12 < 11) (prev : St c) (hi : Inv m c t' prev) :
    Inv m c t (step0 ch m ρ c t prev) := by
  have er : ∀ r, row t' r = row t r := fun r => Fin.ext (by show t'.val / 12 * 832 + r.val = t.val / 12 * 832 + r.val; omega)
  have q0 : ¬ P0_0 ch t := fun h => by have := (ways t).1.mp h; omega
  have hh : ∀ r k, (show EReal from sh c prev (ix2 r k)) = nrm m c (row t r) k := fun r k => (hi.h r k).trans (by rw [er])
  by_cases hp : t.val % 12 % 2 = 0
  · have q1 : P0_1 ch t := (ways t).2.1.mpr ⟨q, q', hp⟩
    constructor
    · intro r k
      rw [C_h ch m ρ c t prev q0 q1]
      exact hh r k
    · intro r n
      rw [C_a ch m ρ c t prev q0 q1]
      refine (pay9_at _ _ _ r n).trans ?_
      exact acc_step m ρ c t t' e q r n _ _ (hi.odd (by omega) r) (hi.a r n)
    · intro _ r k
      rw [C_0 ch m ρ c t prev q0 q1]
      refine (pay10_at _ _ _ r k).trans ?_
      exact gated_at m ρ c t q' r k _ fun j => hh r j
    · intro h; omega
  · have q1 : ¬ P0_1 ch t := fun h => by have := (ways t).2.1.mp h; omega
    have q2 : P0_2 ch t := (ways t).2.2.mpr ⟨q, q', by omega⟩
    constructor
    · intro r k
      rw [B_h ch m ρ c t prev q0 q1 q2]
      exact hh r k
    · intro r n
      rw [B_a ch m ρ c t prev q0 q1 q2]
      refine (pay1_at _ _ _ r n).trans ?_
      exact acc_step m ρ c t t' e q r n _ _ (hi.even (by omega) r) (hi.a r n)
    · intro h; omega
    · intro _ r k
      rw [B_1 ch m ρ c t prev q0 q1 q2]
      refine (pay2_at _ _ _ r k).trans ?_
      exact gated_at m ρ c t q' r k _ fun j => hh r j

/-- The point before. -/
def before (t : Fin (cfgA ch).N) : Fin (cfgA ch).N := ⟨t.val - 1, by have := t.isLt; omega⟩

theorem prev_eq (t : Fin (cfgA ch).N) (h : t.val ≠ 0) : prev0 ch m ρ c t = traj0 ch m ρ c (before t).val (before t).isLt := by
  unfold prev0
  rw [dif_neg h]
  rfl

theorem inv_all : ∀ (n : ℕ) (t : Fin (cfgA ch).N), t.val = n → t.val % 12 < 11 → Inv m c t (traj0 ch m ρ c t.val t.isLt) := by
  intro n
  induction n with
  | zero =>
    intro t ht _
    rw [traj0_eq]
    exact inv_first m ρ c t _ (by omega)
  | succ n ih =>
    intro t ht h
    rw [traj0_eq]
    by_cases q : t.val % 12 = 0
    · exact inv_first m ρ c t _ q
    · rw [prev_eq m ρ c t (by omega)]
      have e : t.val = (before t).val + 1 := by show t.val = t.val - 1 + 1; omega
      exact inv_step m ρ c t (before t) e (by omega) h _ (ih (before t) (by omega) (by omega))

/-- The output block of the last step of a row block. -/
theorem out_at (t : Fin (cfgA ch).N) (q : t.val % 12 = 11) (r : Fin 832) (n : Fin 2048) :
    (show EReal from (traj0 ch m ρ c t.val t.isLt).1 (ix2 r n)) = ffn ch (aX m c) (aG m c) (aU m c) (aV m c) (aD m c) (row t r) n := by
  have q0 : ¬ P0_0 ch t := fun h => by have := (ways t).1.mp h; omega
  have q1 : ¬ P0_1 ch t := fun h => by have := (ways t).2.1.mp h; omega
  have q2 : ¬ P0_2 ch t := fun h => by have := (ways t).2.2.mp h; omega
  have e : t.val = (before t).val + 1 := by show t.val = t.val - 1 + 1; omega
  have hi := inv_all m ρ c _ (before t) rfl (by omega)
  rw [traj0_eq, prev_eq m ρ c t (by omega)]
  refine (congrFun (D_o ch m ρ c t _ q0 q1 q2) (ix2 r n)).trans ((pay3_at _ _ _ _ r n).trans ?_)
  refine congrArg₂ (· + ·) (bx_at m ρ c t r n) ?_
  refine (acc_step m ρ c t (before t) e (by omega) r n _ _ (hi.even (by omega) r) (hi.a r n)).trans ?_
  rw [q]
  exact sum_parts _ _ _ _ _ _ _ _

end Cert.KernelFfnIdeal.Hand
end
-- ==== Proof.FfnFinal.lean ====
module

public import proofs.«01_k».proof.Proof.FfnValue

/-! The result array of the feed-forward. -/

@[expose] public section
set_option maxRecDepth 16384
noncomputable section
namespace Cert.KernelFfnIdeal.Hand
open Cert.KernelFfnIdeal Cert.KernelFfnIdeal.Gen
open Idealize.ShloMosaic Idealize.ShloMosaic.TcCoe Idealize.SL.Sem
open Idealize.ShloMosaic.Pipeline (Dat)

variable {ch : Fin 2} (m : (ℓ : Loc nD τ sig) → Buf (Elt Ideal) ℓ) (ρ : Dev nD → PrngReg) (c : Dev nD)

/-- The feed-forward of the kernel's argument arrays. -/
def goal (ch : Fin 2) (i : S33280x2048.Idx) : EReal := ffn ch (aX m c) (aG m c) (aU m c) (aV m c) (aD m c) (i 0) (i 1)

set_option maxHeartbeats 400000 in
/-- Every element of the result is written out. -/
theorem covers {ch : Fin 2} : ((cfgA ch).win 5).Covers := by revert ch; decide +kernel

/-- A row of the written block is a row of the array. -/
theorem emb_at {ch : Fin 2} (f : S33280x2048.Idx → EReal) (t : Fin (cfgA ch).N) (r : Fin 832) (n : Fin 2048) :
    f (ix2 (row t r) n) = f ((((cfgA ch).win 5).blk t).view.emb (ix2 r n)) := by
  unfold row
  blk_ext [idx t]

/-- What is written out of a block is the feed-forward. -/
theorem point (t : Fin (cfgA ch).N) (q : t.val % 12 = 11) (r : Fin 832) (n : Fin 2048) :
    (show EReal from (traj0 ch m ρ c t.val t.isLt).1 (ix2 r n)) = goal m c ch ((((cfgA ch).win 5).blk t).view.emb (ix2 r n)) :=
  (out_at m ρ c t q r n).trans (emb_at (goal m c ch) t r n)

/-- An index of a block is a row and a column. -/
theorem pair_of (y : S832x2048.Idx) : ∃ (r : Fin 832) (n : Fin 2048), y = ix2 r n := ⟨y 0, y 1, by funext i; fin_cases i <;> rfl⟩

/-- The result array after the run. -/
theorem final (ch : Fin 2) : (dats ch m ρ 0 c).arrAt 5 (cfgA ch).N = goal m c ch := by
  refine (dats ch m ρ 0 c).arrAt_eq_of_covers 5 _ covers fun t hf y => ?_
  have q := flushes t hf
  blk_simp
  rw [after0_5]
  obtain ⟨r, n, rfl⟩ := pair_of y
  exact point m ρ c t q r n

end Cert.KernelFfnIdeal.Hand
end
-- ==== Proof.FfnRef.lean ====
module

public import proofs.«01_k».proof.Proof.FfnSpec
public import proofs.«01_k».proof.Proof.Gen.ReferenceFfnIdeal

/-! The plain feed-forward, element by element. -/

@[expose] public section
set_option maxRecDepth 16384
set_option maxHeartbeats 1000000
noncomputable section
namespace Cert.ReferenceFfnIdeal.Hand
open Cert.ReferenceFfnIdeal Cert.ReferenceFfnIdeal.Gen
open Cert.KernelFfnIdeal.Hand (gated normed)
open Idealize.ShloMosaic Idealize.ShloMosaic.TcCoe Idealize.SL.Sem

theorem half_words : Ideal.ofBits .f32 0x45000000#32 = ((2048 : ℝ) : EReal) ∧ Ideal.ofBits .f32 0x3A000000#32 = ((1 / 2048 : ℝ) : EReal) := by
  constructor <;> simp [Ideal.ofBits, Ideal.ieee] <;> rw [← EReal.coe_mul] <;> norm_num

theorem one_word : Ideal.ofBits .f32 0x3F800000#32 = (1 : EReal) := by
  simp [Ideal.ofBits, Ideal.ieee]
  rw [← EReal.coe_mul]
  norm_num

/-- The mean of a row, by division and by multiplication. -/
theorem mean_eq (x : EReal) : Ideal.div x (Ideal.ofBits .f32 0x45000000#32) = x * Ideal.ofBits .f32 0x3A000000#32 := by
  rw [half_words.1, half_words.2, Ideal.div_coe (by norm_num)]

variable (ch : Fin 2) (hs : S2x1x2048x5632.Slices ![ch.val, 0, 0, 0] S1x1x2048x5632) (hd : S2x1x5632x2048.Slices ![ch.val, 0, 0, 0] S1x1x5632x2048)
variable (X : FVec Ideal S33280x2048 .f32) (G : FVec Ideal S1x2048 .f32) (U V : FVec Ideal S2x1x2048x5632 .bf16) (D : FVec Ideal S2x1x5632x2048 .bf16)

/-- A layer's matrix of the gate or of the up projection. -/
def wide : FVec Ideal S2048x5632 .f32 :=
  extf .f32 (shapeCast _ (extractStridedSlice S1x1x2048x5632 ![ch.val, 0, 0, 0] U hs) shapeCasts_S1x1x2048x5632_S2048x5632) bitsLt_bf16_f32

/-- A layer's matrix of the down projection. -/
def narrow : FVec Ideal S5632x2048 .f32 :=
  extf .f32 (shapeCast _ (extractStridedSlice S1x1x5632x2048 ![ch.val, 0, 0, 0] D hd) shapeCasts_S1x1x5632x2048_S5632x2048) bitsLt_bf16_f32

theorem wide_at (j : Fin 2048) (J : Fin 5632) : (show EReal from wide ch hs U (ix2 j J)) = (show EReal from U (ix4 ch 0 j J)) := by
  pointwise [wide]

theorem narrow_at (J : Fin 5632) (n : Fin 2048) : (show EReal from narrow ch hd D (ix2 J n)) = (show EReal from D (ix4 ch 0 J n)) := by
  pointwise [narrow]

/-- The normed rows. -/
def hr : FVec Ideal S33280x2048 .f32 :=
  mulf (mulf X (broadcastInDim S33280x2048 ![0, 1] bcast_S33280x1_S33280x2048_0_1 (Host.rsqrt (addf (Host.divf (broadcastInDim S33280x1 ![0] bcast_S33280_S33280x1_0 (Host.reduceAdd (mulf X X) (constant S_ .f32 0x00000000#32) reducesTo_S33280x2048_S33280_d1 h_S_)) (broadcastInDim S33280x1 ![] bcast_S_S33280x1 (constant S_ .f32 0x45000000#32))) (broadcastInDim S33280x1 ![] bcast_S_S33280x1 (constant S_ .f32 0x358637BD#32)))))) (broadcastInDim S33280x2048 ![0, 1] bcast_S1x2048_S33280x2048_0_1 G)

/-- The rows times a weight. -/
def up : FVec Ideal S33280x5632 .f32 :=
  Host.dotGeneral dot_S33280x2048_S2048x5632_S33280x5632_1_0_0_1_n_n none (hr X G) (wide ch hs U)

/-- The hidden layer. -/
def hid : FVec Ideal S33280x5632 .f32 :=
  mulf (mulf (up ch hs X G U) (Host.divf (broadcastInDim S33280x5632 ![] bcast_S_S33280x5632 (constant S_ .f32 0x3F800000#32)) (addf (broadcastInDim S33280x5632 ![] bcast_S_S33280x5632 (constant S_ .f32 0x3F800000#32)) (Host.exp (Host.negf (up ch hs X G U)))))) (up ch hs X G V)

/-- The feed-forward. -/
def out : FVec Ideal S33280x2048 .f32 :=
  addf X (Host.dotGeneral dot_S33280x5632_S5632x2048_S33280x2048_1_0_0_1_n_n none (hid ch hs X G U V) (narrow ch hd D))

theorem hr_at (r : Fin 33280) (k : Fin 2048) : (show EReal from hr X G (ix2 r k)) = normed (fun j => X (ix2 r j)) (fun j => G (ix2 0 j)) k := by
  unfold normed hr
  rw [← mean_eq]
  pointwise

theorem up_at (r : Fin 33280) (J : Fin 5632) : (show EReal from up ch hs X G U (ix2 r J))
    = ∑ j : Fin 2048, normed (fun j => X (ix2 r j)) (fun j => G (ix2 0 j)) j * (show EReal from U (ix4 ch 0 j J)) := by
  have e : (show EReal from up ch hs X G U (ix2 r J)) = ∑ j : Fin 2048, (show EReal from hr X G (ix2 r j)) * (show EReal from U (ix4 ch 0 j J)) := by
    unfold up
    generalize hr X G = H
    pointwise
    exact Finset.sum_congr rfl fun j _ => congrArg _ (wide_at ch hs U j J)
  rw [e]
  exact Finset.sum_congr rfl fun j _ => by rw [hr_at]

theorem hid_at (r : Fin 33280) (J : Fin 5632) : (show EReal from hid ch hs X G U V (ix2 r J))
    = gated (normed (fun j => X (ix2 r j)) (fun j => G (ix2 0 j))) (fun j => U (ix4 ch 0 j J)) (fun j => V (ix4 ch 0 j J)) := by
  have e : (show EReal from hid ch hs X G U V (ix2 r J))
      = ((show EReal from up ch hs X G U (ix2 r J)) * Ideal.logistic (show EReal from up ch hs X G U (ix2 r J))) * (show EReal from up ch hs X G V (ix2 r J)) := by
    unfold hid Ideal.logistic
    rw [← one_word]
    generalize up ch hs X G U = A
    generalize up ch hs X G V = B
    pointwise
  rw [e, up_at, up_at]
  rfl

theorem out_at (r : Fin 33280) (n : Fin 2048) : (show EReal from out ch hs hd X G U V D (ix2 r n))
    = (show EReal from X (ix2 r n)) + ∑ J : Fin 5632, gated (normed (fun j => X (ix2 r j)) (fun j => G (ix2 0 j))) (fun j => U (ix4 ch 0 j J)) (fun j => V (ix4 ch 0 j J))
        * (show EReal from D (ix4 ch 0 J n)) := by
  have e : (show EReal from out ch hs hd X G U V D (ix2 r n))
      = (show EReal from X (ix2 r n)) + ∑ J : Fin 5632, (show EReal from hid ch hs X G U V (ix2 r J)) * (show EReal from D (ix4 ch 0 J n)) := by
    unfold out
    generalize hid ch hs X G U V = H
    pointwise
    exact congrArg _ (Finset.sum_congr rfl fun J _ => congrArg _ (narrow_at ch hd D J n))
  rw [e]
  exact congrArg _ (Finset.sum_congr rfl fun j _ => by rw [hid_at])

end Cert.ReferenceFfnIdeal.Hand
end
-- ==== Proof.Ffn.lean ====
module

public import proofs.«01_k».proof.Defs
public import proofs.«01_k».proof.Proof.FfnWordRun
public import proofs.«01_k».proof.Proof.FfnFinal
public import proofs.«01_k».proof.Proof.FfnRef
public import proofs.«01_k».proof.Proof.Gen.ReferenceFfnIdeal
public import proofs.«01_k».proof.Proof.Gen.ReferenceFfnIdeal.Run
public import proofs.«01_k».proof.Proof.Gen.ReferenceFfn2Ideal
public import proofs.«01_k».proof.Proof.Gen.ReferenceFfn2Ideal.Run
public import proofs.«01_k».proof.Proof.Gen.Pre_dense
public import Idealize.ShloMosaic.Lib.ReduceAll

/-! The dense feed-forward: its frames, and that the result array is the residual stream plus the gated product. -/

@[expose] public section

set_option maxRecDepth 16384
set_option maxHeartbeats 1000000

noncomputable section

namespace Cert.Proof

open Idealize.ShloMosaic Idealize.ShloMosaic.TcCoe Idealize.SL.Sem

/-- A tensor of words of which the test "equal to this word" holds everywhere. -/
theorem word_of_all {s : Shape} {axes : List (Fin s.rank)} (x : IVec s 32) (w : BitVec 32)
    (hb : (⟨0, ![]⟩ : Shape).BroadcastsInDim s (![] : Fin 0 → Fin s.rank)) (hr : s.ReducesTo axes (⟨0, ![]⟩ : Shape))
    (hu : 0 < (⟨0, ![]⟩ : Shape).numel) (j : (⟨0, ![]⟩ : Shape).Idx)
    (e : Host.reduce IntOp.andi (cmpi .eq x (broadcastInDim s ![] hb (constantI (⟨0, ![]⟩ : Shape) 32 w)))
      (constantI (⟨0, ![]⟩ : Shape) 1 1#1) hr hu j = 1#1) (i : s.Idx) : x i = w := by
  haveI : Subsingleton (⟨0, ![]⟩ : Shape).Idx := ⟨fun a b => funext fun k => k.elim0⟩
  have h : Scalar.cmpi .eq (x i) w = 1#1 := Host.reduce_andi_all _ _ hr hu j e i
  by_contra hn
  have hb : (x i == w) = false := by simpa using hn
  simp [Scalar.cmpi, IntOp.cmpi, hb] at h

/-- The tables that the precondition allows. -/
theorem tables {F : FTy → Type} [FloatOps F] (a0 : IVec Cert.Pre_dense.S40 32) (a1 : IVec Cert.Pre_dense.S1 32) (a2 a3 a4 a5 a6)
    (h : Cert.Pre_dense.fn (F := F) a0 a1 a2 a3 a4 a5 a6 = fun _ => 1#1) : (∀ i, a0 i = 0#32) ∧ (∀ i, a1 i = 40#32) := by
  have h0 := congrFun h (fun k => k.elim0)
  unfold Cert.Pre_dense.fn at h0
  obtain ⟨h1, h2⟩ := IntOp.andi_eq_one.mp h0
  exact ⟨word_of_all _ _ _ _ _ _ h1, word_of_all _ _ _ _ _ _ h2⟩

theorem pin_zero : ∀ (ch : Fin 2) (i : Cert.KernelFfnIdeal.S40.Idx), Cert.KernelFfnIdeal.Gen.pinT_0 ch i = 0#32 := by decide +kernel
theorem pin_zero_word : ∀ (ch : Fin 2) (i : Cert.KernelFfn.S40.Idx), Cert.KernelFfn.Gen.pinT_0 ch i = 0#32 := by decide +kernel

theorem pinned_ideal (ch : Fin 2) (m : (ℓ : Loc Cert.KernelFfnIdeal.nD Cert.KernelFfnIdeal.τ Cert.KernelFfnIdeal.sig) → Buf (Elt Ideal) ℓ)
    (h : Cert.Pre_KernelFfnIdeal (hPre_dense := Cert.Pre_dense.Gen.facts) m) : Cert.KernelFfnIdeal.Gen.Pinned ch m :=
  ⟨fun c => funext fun i => ((tables _ _ _ _ _ _ _ (h c)).1 i).trans (pin_zero ch i).symm, fun c => funext fun i => (tables _ _ _ _ _ _ _ (h c)).2 i⟩

theorem pinned_word (ch : Fin 2) (m : (ℓ : Loc Cert.KernelFfn.nD Cert.KernelFfn.τ Cert.KernelFfn.sig) → Buf (Elt Bits) ℓ)
    (h : Cert.Pre_KernelFfn (hPre_dense := Cert.Pre_dense.Gen.facts) m) : Cert.KernelFfn.Gen.Pinned ch m :=
  ⟨fun c => funext fun i => ((tables _ _ _ _ _ _ _ (h c)).1 i).trans (pin_zero_word ch i).symm, fun c => funext fun i => (tables _ _ _ _ _ _ _ (h c)).2 i⟩

theorem frame_ffn : Cert.quiescent_KernelFfn (hKernelFfn := Cert.KernelFfn.Gen.facts) (hPre_dense := Cert.Pre_dense.Gen.facts) := by
  intro m ρ h
  rw [Cert.KernelFfn.Gen.bridge_first]
  exact Cert.KernelFfn.Gen.frame 0 m ρ (pinned_word 0 m h)

theorem frame_ffn2 : Cert.quiescent_KernelFfn2 (hKernelFfn2 := Cert.KernelFfn2.Gen.facts) (hPre_dense := Cert.Pre_dense.Gen.facts) := by
  intro m ρ h
  have e := Cert.KernelFfn.Gen.frame 1 m ρ (pinned_word 1 m h)
  rw [← Cert.KernelFfn.Gen.bridge_second] at e
  exact e

theorem frame_ffn_ideal : Cert.quiescent_KernelFfnIdeal (hKernelFfnIdeal := Cert.KernelFfnIdeal.Gen.facts) (hPre_dense := Cert.Pre_dense.Gen.facts) := by
  intro m ρ h
  rw [Cert.KernelFfnIdeal.Gen.bridge_first]
  exact Cert.KernelFfnIdeal.Gen.frame 0 m ρ (pinned_ideal 0 m h)

theorem frame_ffn2_ideal : Cert.quiescent_KernelFfn2Ideal (hKernelFfn2Ideal := Cert.KernelFfn2Ideal.Gen.facts) (hPre_dense := Cert.Pre_dense.Gen.facts) := by
  intro m ρ h
  have e := Cert.KernelFfnIdeal.Gen.frame 1 m ρ (pinned_ideal 1 m h)
  rw [← Cert.KernelFfnIdeal.Gen.bridge_second] at e
  exact e

theorem frame_ffn_reference : Cert.quiescent_ReferenceFfnIdeal (hReferenceFfnIdeal := Cert.ReferenceFfnIdeal.Gen.facts) := by
  intro m ρ _
  exact (θ_run Cert.ReferenceFfnIdeal.defs _ _).mono
    (fun r h => ⟨fun c => (h c).2, Idealize.ShloMosaic.sem_eq_zero_of_no_sems (by decide) r.2⟩)
    (Cert.ReferenceFfnIdeal.Value.run (F := Ideal) m ρ)

theorem frame_ffn2_reference : Cert.quiescent_ReferenceFfn2Ideal (hReferenceFfn2Ideal := Cert.ReferenceFfn2Ideal.Gen.facts) := by
  intro m ρ _
  exact (θ_run Cert.ReferenceFfn2Ideal.defs _ _).mono
    (fun r h => ⟨fun c => (h c).2, Idealize.ShloMosaic.sem_eq_zero_of_no_sems (by decide) r.2⟩)
    (Cert.ReferenceFfn2Ideal.Value.run (F := Ideal) m ρ)

theorem preserves_ffn : Cert.preserves_KernelFfn_KernelFfnIdeal := trivial
theorem preserves_ffn2 : Cert.preserves_KernelFfn2_KernelFfn2Ideal := trivial

section
open Cert.KernelFfnIdeal Cert.KernelFfnIdeal.Gen

/-- The kernel with a layer's weights ends with that layer's feed-forward and its arguments unchanged. -/
theorem kernel_ends (ch : Fin 2) (m : (ℓ : Loc nD τ sig) → Buf (Elt Ideal) ℓ) (ρ : Dev nD → PrngReg) (hp : Pinned ch m) :
    θ_run (defsL (F := Ideal) ch) (onTc (τ := τ) (mainL (F := Ideal) ch)) ⟨m, fun _ => 0, ρ⟩ (fun r => ∀ c : Dev nD,
      r.2.mem ((c.tc : Thread nD τ).loc main_v0) = Cert.KernelFfnIdeal.Hand.goal m c ch
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defsL ch) _ _).mono (fun r hr c => ⟨((hr.1 c).1 5).trans (Cert.KernelFfnIdeal.Hand.final m ρ c ch), hr.2 c⟩)
    (θ_run_and (run_main ch m ρ hp) (unchanged ch m ρ hp))

end

/-- A layer's plain feed-forward is what the kernel with that layer's weights ends with. -/
theorem plain (ch : Fin 2) (hs hd) (m : (ℓ : Loc Cert.KernelFfnIdeal.nD Cert.KernelFfnIdeal.τ Cert.KernelFfnIdeal.sig) → Buf (Elt Ideal) ℓ)
    (c : Dev Cert.KernelFfnIdeal.nD) :
    Cert.ReferenceFfnIdeal.Hand.out ch hs hd (Cert.KernelFfnIdeal.Hand.aX m c) (Cert.KernelFfnIdeal.Hand.aG m c) (Cert.KernelFfnIdeal.Hand.aU m c)
      (Cert.KernelFfnIdeal.Hand.aV m c) (Cert.KernelFfnIdeal.Hand.aD m c) = Cert.KernelFfnIdeal.Hand.goal m c ch := by
  funext j
  obtain ⟨r, n, rfl⟩ : ∃ (r : Fin 33280) (n : Fin 2048), j = ix2 r n := ⟨j 0, j 1, by funext i; fin_cases i <;> rfl⟩
  exact Cert.ReferenceFfnIdeal.Hand.out_at ch hs hd _ _ _ _ _ r n

/-- The kernel and the plain feed-forward of the first dense layer end with the same result array. -/
theorem algebraic_ffn : Cert.algebraic_KernelFfnIdeal_ReferenceFfnIdeal (hKernelFfnIdeal := Cert.KernelFfnIdeal.Gen.facts)
    (hReferenceFfnIdeal := Cert.ReferenceFfnIdeal.Gen.facts) (hPre_dense := Cert.Pre_dense.Gen.facts) := by
  intro m g m' g' hpre he
  refine ⟨fun c => Cert.KernelFfnIdeal.Hand.goal m c 0, ?_, ?_⟩
  · rw [Cert.KernelFfnIdeal.Gen.bridge_first]
    exact kernel_ends 0 m g (pinned_ideal 0 m hpre)
  · refine (θ_run Cert.ReferenceFfnIdeal.defs _ _).mono (fun r hr c => ⟨(hr c).1.trans ?_, (hr c).2⟩)
      (Cert.ReferenceFfnIdeal.Value.run (F := Ideal) m' g')
    rw [(he c).2.2.1, (he c).2.2.2.1, (he c).2.2.2.2.1, (he c).2.2.2.2.2.1, (he c).2.2.2.2.2.2]
    exact plain 0 _ _ m c

/-- The kernel and the plain feed-forward of the second dense layer end with the same result array. -/
theorem algebraic_ffn2 : Cert.algebraic_KernelFfn2Ideal_ReferenceFfn2Ideal (hKernelFfn2Ideal := Cert.KernelFfn2Ideal.Gen.facts)
    (hReferenceFfn2Ideal := Cert.ReferenceFfn2Ideal.Gen.facts) (hPre_dense := Cert.Pre_dense.Gen.facts) := by
  intro m g m' g' hpre he
  refine ⟨fun c => Cert.KernelFfnIdeal.Hand.goal m c 1, ?_, ?_⟩
  · have e := kernel_ends 1 m g (pinned_ideal 1 m hpre)
    rw [← Cert.KernelFfnIdeal.Gen.bridge_second] at e
    exact e
  · refine (θ_run Cert.ReferenceFfn2Ideal.defs _ _).mono (fun r hr c => ⟨(hr c).1.trans ?_, (hr c).2⟩)
      (Cert.ReferenceFfn2Ideal.Value.run (F := Ideal) m' g')
    rw [(he c).2.2.1, (he c).2.2.2.1, (he c).2.2.2.2.1, (he c).2.2.2.2.2.1, (he c).2.2.2.2.2.2]
    exact plain 1 _ _ m c

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.IdealRun
public import proofs.«01_k».proof.Proof.Alg
public import proofs.«01_k».proof.Proof.WordRun
public import proofs.«01_k».proof.Proof.OutProj
public import proofs.«01_k».proof.Proof.OutFirst
public import proofs.«01_k».proof.Proof.Ffn

@[expose] public section

noncomputable section

namespace Cert.Proof

open Idealize.ShloMosaic Idealize.SL.Sem

/-- The kernel as printed runs, its arguments end unchanged and every counter is zero. -/
theorem frame_kernel : Cert.quiescent_Kernel (hKernel := Cert.Kernel.Gen.facts) :=
  fun m ρ _ => Cert.Kernel.Hand.frame_main m ρ

/-- The idealized kernel runs, its arguments end unchanged and every counter is zero. -/
theorem frame_ideal : Cert.quiescent_KernelIdeal (hKernelIdeal := Cert.KernelIdeal.Gen.facts) :=
  fun m ρ _ => Cert.KernelIdeal.Hand.frame_main m ρ

/-- The reference runs, its arguments end unchanged; it declares no semaphore. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named constant denotes its value. -/
theorem preserves : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

theorem claim : Cert.Claim := ⟨Cert.Kernel.Gen.facts, Cert.KernelIdeal.Gen.facts, Cert.ReferenceIdeal.Gen.facts,
  Cert.KernelOut.Gen.facts, Cert.KernelOutIdeal.Gen.facts, Cert.ReferenceOutIdeal.Gen.facts,
  Cert.KernelOut0.Gen.facts, Cert.KernelOut0Ideal.Gen.facts, Cert.ReferenceOut0Ideal.Gen.facts,
  Cert.KernelFfn.Gen.facts, Cert.KernelFfnIdeal.Gen.facts, Cert.ReferenceFfnIdeal.Gen.facts,
  Cert.KernelFfn2.Gen.facts, Cert.KernelFfn2Ideal.Gen.facts, Cert.ReferenceFfn2Ideal.Gen.facts, preFacts, Cert.Pre_dense.Gen.facts,
  frame_kernel, frame_ideal, fun m ρ _ => frame_ideal m ρ trivial, frame_reference, fun m ρ _ => frame_reference m ρ trivial,
  frame_out, frame_out_ideal, frame_out_reference,
  frame_first, frame_first_ideal, frame_first_reference,
  frame_ffn, frame_ffn_ideal, frame_ffn_reference, fun m ρ _ => frame_ffn_reference m ρ trivial,
  frame_ffn2, frame_ffn2_ideal, frame_ffn2_reference, fun m ρ _ => frame_ffn2_reference m ρ trivial,
  preserves, algebraic, preserves_out, algebraic_out, preserves_first, algebraic_first, preserves_ffn, algebraic_ffn, preserves_ffn2, algebraic_ffn2⟩

end Cert.Proof

end
